-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.2.2 = (fun _ => 1#1)

def Pre_Assign (m : (ℓ : Loc Cert.Assign.nD Cert.Assign.τ Cert.Assign.sig) → Buf (Elt Bits) ℓ) : Prop :=
  True

def Pre_AssignIdeal (m : (ℓ : Loc Cert.AssignIdeal.nD Cert.AssignIdeal.τ Cert.AssignIdeal.sig) → Buf (Elt Ideal) ℓ) : Prop :=
  True

def Pre_AssignReferenceIdeal (m : (ℓ : Loc Cert.AssignReferenceIdeal.nD Cert.AssignReferenceIdeal.τ Cert.AssignReferenceIdeal.sig) → Buf (Elt Ideal) ℓ) : Prop :=
  True

def Pre_Ari (m : (ℓ : Loc Cert.Ari.nD Cert.Ari.τ Cert.Ari.sig) → Buf (Elt Bits) ℓ) : Prop :=
  True

def Pre_AriIdeal (m : (ℓ : Loc Cert.AriIdeal.nD Cert.AriIdeal.τ Cert.AriIdeal.sig) → Buf (Elt Ideal) ℓ) : Prop :=
  True

def Pre_AriIdeal_classes_in_range [hPre_classes_in_range : Cert.Pre_classes_in_range.Facts] (m : (ℓ : Loc Cert.AriIdeal.nD Cert.AriIdeal.τ Cert.AriIdeal.sig) → Buf (Elt Ideal) ℓ) : Prop :=
  ∀ c : Dev Cert.AriIdeal.nD,
    (Cert.Pre_classes_in_range.fn (F := Ideal) (m ((c.tc : Thread Cert.AriIdeal.nD Cert.AriIdeal.τ).loc Cert.AriIdeal.main_arg0)) (m ((c.tc : Thread Cert.AriIdeal.nD Cert.AriIdeal.τ).loc Cert.AriIdeal.main_arg1))).1 = (fun _ => 1#1)
    ∧ (Cert.Pre_classes_in_range.fn (F := Ideal) (m ((c.tc : Thread Cert.AriIdeal.nD Cert.AriIdeal.τ).loc Cert.AriIdeal.main_arg0)) (m ((c.tc : Thread Cert.AriIdeal.nD Cert.AriIdeal.τ).loc Cert.AriIdeal.main_arg1))).2 = (fun _ => 1#1)

def Pre_AriReferenceIdeal (m : (ℓ : Loc Cert.AriReferenceIdeal.nD Cert.AriReferenceIdeal.τ Cert.AriReferenceIdeal.sig) → Buf (Elt Ideal) ℓ) : Prop :=
  True

def Pre_AriReferenceIdeal_classes_in_range [hPre_classes_in_range : Cert.Pre_classes_in_range.Facts] (m : (ℓ : Loc Cert.AriReferenceIdeal.nD Cert.AriReferenceIdeal.τ Cert.AriReferenceIdeal.sig) → Buf (Elt Ideal) ℓ) : Prop :=
  ∀ c : Dev Cert.AriReferenceIdeal.nD,
    (Cert.Pre_classes_in_range.fn (F := Ideal) (m ((c.tc : Thread Cert.AriReferenceIdeal.nD Cert.AriReferenceIdeal.τ).loc Cert.AriReferenceIdeal.main_arg0)) (m ((c.tc : Thread Cert.AriReferenceIdeal.nD Cert.AriReferenceIdeal.τ).loc Cert.AriReferenceIdeal.main_arg1))).1 = (fun _ => 1#1)
    ∧ (Cert.Pre_classes_in_range.fn (F := Ideal) (m ((c.tc : Thread Cert.AriReferenceIdeal.nD Cert.AriReferenceIdeal.τ).loc Cert.AriReferenceIdeal.main_arg0)) (m ((c.tc : Thread Cert.AriReferenceIdeal.nD Cert.AriReferenceIdeal.τ).loc Cert.AriReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_Assign [hAssign : Cert.Assign.Facts] : Prop :=
  ∀ (m : (ℓ : Loc Cert.Assign.nD Cert.Assign.τ Cert.Assign.sig) → Buf (Elt Bits) ℓ) (g : Dev Cert.Assign.nD → PrngReg), Pre_Assign m →
    θ_run (Cert.Assign.defs (F := Bits)) (onTc (τ := Cert.Assign.τ) (Cert.Assign.main (F := Bits))) ⟨m, fun _ => 0, g⟩ (fun r => (∀ c : Dev Cert.Assign.nD,
      r.2.mem ((c.tc : Thread Cert.Assign.nD Cert.Assign.τ).loc Cert.Assign.main_arg0) = m ((c.tc : Thread Cert.Assign.nD Cert.Assign.τ).loc Cert.Assign.main_arg0)
      ∧ r.2.mem ((c.tc : Thread Cert.Assign.nD Cert.Assign.τ).loc Cert.Assign.main_arg1) = m ((c.tc : Thread Cert.Assign.nD Cert.Assign.τ).loc Cert.Assign.main_arg1))
      ∧ r.2.sem = fun _ => 0)

def quiescent_AssignIdeal [hAssignIdeal : Cert.AssignIdeal.Facts] : Prop :=
  ∀ (m : (ℓ : Loc Cert.AssignIdeal.nD Cert.AssignIdeal.τ Cert.AssignIdeal.sig) → Buf (Elt Ideal) ℓ) (g : Dev Cert.AssignIdeal.nD → PrngReg), Pre_AssignIdeal m →
    θ_run (Cert.AssignIdeal.defs (F := Ideal)) (onTc (τ := Cert.AssignIdeal.τ) (Cert.AssignIdeal.main (F := Ideal))) ⟨m, fun _ => 0, g⟩ (fun r => (∀ c : Dev Cert.AssignIdeal.nD,
      r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
      ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1))
      ∧ r.2.sem = fun _ => 0)

def quiescent_AssignReferenceIdeal [hAssignReferenceIdeal : Cert.AssignReferenceIdeal.Facts] : Prop :=
  ∀ (m : (ℓ : Loc Cert.AssignReferenceIdeal.nD Cert.AssignReferenceIdeal.τ Cert.AssignReferenceIdeal.sig) → Buf (Elt Ideal) ℓ) (g : Dev Cert.AssignReferenceIdeal.nD → PrngReg), Pre_AssignReferenceIdeal m →
    θ_run (Cert.AssignReferenceIdeal.defs (F := Ideal)) (onTc (τ := Cert.AssignReferenceIdeal.τ) (Cert.AssignReferenceIdeal.main (F := Ideal))) ⟨m, fun _ => 0, g⟩ (fun r => (∀ c : Dev Cert.AssignReferenceIdeal.nD,
      r.2.mem ((c.tc : Thread Cert.AssignReferenceIdeal.nD Cert.AssignReferenceIdeal.τ).loc Cert.AssignReferenceIdeal.main_arg0) = m ((c.tc : Thread Cert.AssignReferenceIdeal.nD Cert.AssignReferenceIdeal.τ).loc Cert.AssignReferenceIdeal.main_arg0)
      ∧ r.2.mem ((c.tc : Thread Cert.AssignReferenceIdeal.nD Cert.AssignReferenceIdeal.τ).loc Cert.AssignReferenceIdeal.main_arg1) = m ((c.tc : Thread Cert.AssignReferenceIdeal.nD Cert.AssignReferenceIdeal.τ).loc Cert.AssignReferenceIdeal.main_arg1))
      ∧ r.2.sem = fun _ => 0)

def quiescent_Ari [hAri : Cert.Ari.Facts] : Prop :=
  ∀ (m : (ℓ : Loc Cert.Ari.nD Cert.Ari.τ Cert.Ari.sig) → Buf (Elt Bits) ℓ) (g : Dev Cert.Ari.nD → PrngReg), Pre_Ari m →
    θ_run (Cert.Ari.defs (F := Bits)) (onTc (τ := Cert.Ari.τ) (Cert.Ari.main (F := Bits))) ⟨m, fun _ => 0, g⟩ (fun r => (∀ c : Dev Cert.Ari.nD,
      r.2.mem ((c.tc : Thread Cert.Ari.nD Cert.Ari.τ).loc Cert.Ari.main_arg0) = m ((c.tc : Thread Cert.Ari.nD Cert.Ari.τ).loc Cert.Ari.main_arg0)
      ∧ r.2.mem ((c.tc : Thread Cert.Ari.nD Cert.Ari.τ).loc Cert.Ari.main_arg1) = m ((c.tc : Thread Cert.Ari.nD Cert.Ari.τ).loc Cert.Ari.main_arg1))
      ∧ r.2.sem = fun _ => 0)

def quiescent_AriIdeal [hAriIdeal : Cert.AriIdeal.Facts] : Prop :=
  ∀ (m : (ℓ : Loc Cert.AriIdeal.nD Cert.AriIdeal.τ Cert.AriIdeal.sig) → Buf (Elt Ideal) ℓ) (g : Dev Cert.AriIdeal.nD → PrngReg), Pre_AriIdeal m →
    θ_run (Cert.AriIdeal.defs (F := Ideal)) (onTc (τ := Cert.AriIdeal.τ) (Cert.AriIdeal.main (F := Ideal))) ⟨m, fun _ => 0, g⟩ (fun r => (∀ c : Dev Cert.AriIdeal.nD,
      r.2.mem ((c.tc : Thread Cert.AriIdeal.nD Cert.AriIdeal.τ).loc Cert.AriIdeal.main_arg0) = m ((c.tc : Thread Cert.AriIdeal.nD Cert.AriIdeal.τ).loc Cert.AriIdeal.main_arg0)
      ∧ r.2.mem ((c.tc : Thread Cert.AriIdeal.nD Cert.AriIdeal.τ).loc Cert.AriIdeal.main_arg1) = m ((c.tc : Thread Cert.AriIdeal.nD Cert.AriIdeal.τ).loc Cert.AriIdeal.main_arg1))
      ∧ r.2.sem = fun _ => 0)

def quiescent_AriIdeal_pre_classes_in_range [hAriIdeal : Cert.AriIdeal.Facts] [hPre_classes_in_range : Cert.Pre_classes_in_range.Facts] : Prop :=
  ∀ (m : (ℓ : Loc Cert.AriIdeal.nD Cert.AriIdeal.τ Cert.AriIdeal.sig) → Buf (Elt Ideal) ℓ) (g : Dev Cert.AriIdeal.nD → PrngReg), Pre_AriIdeal_classes_in_range m →
    θ_run (Cert.AriIdeal.defs (F := Ideal)) (onTc (τ := Cert.AriIdeal.τ) (Cert.AriIdeal.main (F := Ideal))) ⟨m, fun _ => 0, g⟩ (fun r => (∀ c : Dev Cert.AriIdeal.nD,
      r.2.mem ((c.tc : Thread Cert.AriIdeal.nD Cert.AriIdeal.τ).loc Cert.AriIdeal.main_arg0) = m ((c.tc : Thread Cert.AriIdeal.nD Cert.AriIdeal.τ).loc Cert.AriIdeal.main_arg0)
      ∧ r.2.mem ((c.tc : Thread Cert.AriIdeal.nD Cert.AriIdeal.τ).loc Cert.AriIdeal.main_arg1) = m ((c.tc : Thread Cert.AriIdeal.nD Cert.AriIdeal.τ).loc Cert.AriIdeal.main_arg1))
      ∧ r.2.sem = fun _ => 0)

def quiescent_AriReferenceIdeal [hAriReferenceIdeal : Cert.AriReferenceIdeal.Facts] : Prop :=
  ∀ (m : (ℓ : Loc Cert.AriReferenceIdeal.nD Cert.AriReferenceIdeal.τ Cert.AriReferenceIdeal.sig) → Buf (Elt Ideal) ℓ) (g : Dev Cert.AriReferenceIdeal.nD → PrngReg), Pre_AriReferenceIdeal m →
    θ_run (Cert.AriReferenceIdeal.defs (F := Ideal)) (onTc (τ := Cert.AriReferenceIdeal.τ) (Cert.AriReferenceIdeal.main (F := Ideal))) ⟨m, fun _ => 0, g⟩ (fun r => (∀ c : Dev Cert.AriReferenceIdeal.nD,
      r.2.mem ((c.tc : Thread Cert.AriReferenceIdeal.nD Cert.AriReferenceIdeal.τ).loc Cert.AriReferenceIdeal.main_arg0) = m ((c.tc : Thread Cert.AriReferenceIdeal.nD Cert.AriReferenceIdeal.τ).loc Cert.AriReferenceIdeal.main_arg0)
      ∧ r.2.mem ((c.tc : Thread Cert.AriReferenceIdeal.nD Cert.AriReferenceIdeal.τ).loc Cert.AriReferenceIdeal.main_arg1) = m ((c.tc : Thread Cert.AriReferenceIdeal.nD Cert.AriReferenceIdeal.τ).loc Cert.AriReferenceIdeal.main_arg1))
      ∧ r.2.sem = fun _ => 0)

def quiescent_AriReferenceIdeal_pre_classes_in_range [hAriReferenceIdeal : Cert.AriReferenceIdeal.Facts] [hPre_classes_in_range : Cert.Pre_classes_in_range.Facts] : Prop :=
  ∀ (m : (ℓ : Loc Cert.AriReferenceIdeal.nD Cert.AriReferenceIdeal.τ Cert.AriReferenceIdeal.sig) → Buf (Elt Ideal) ℓ) (g : Dev Cert.AriReferenceIdeal.nD → PrngReg), Pre_AriReferenceIdeal_classes_in_range m →
    θ_run (Cert.AriReferenceIdeal.defs (F := Ideal)) (onTc (τ := Cert.AriReferenceIdeal.τ) (Cert.AriReferenceIdeal.main (F := Ideal))) ⟨m, fun _ => 0, g⟩ (fun r => (∀ c : Dev Cert.AriReferenceIdeal.nD,
      r.2.mem ((c.tc : Thread Cert.AriReferenceIdeal.nD Cert.AriReferenceIdeal.τ).loc Cert.AriReferenceIdeal.main_arg0) = m ((c.tc : Thread Cert.AriReferenceIdeal.nD Cert.AriReferenceIdeal.τ).loc Cert.AriReferenceIdeal.main_arg0)
      ∧ r.2.mem ((c.tc : Thread Cert.AriReferenceIdeal.nD Cert.AriReferenceIdeal.τ).loc Cert.AriReferenceIdeal.main_arg1) = m ((c.tc : Thread Cert.AriReferenceIdeal.nD Cert.AriReferenceIdeal.τ).loc Cert.AriReferenceIdeal.main_arg1))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v287) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def preserves_Assign_AssignIdeal : Prop :=
  True

def algebraic_AssignIdeal_AssignReferenceIdeal [hAssignIdeal : Cert.AssignIdeal.Facts] [hAssignReferenceIdeal : Cert.AssignReferenceIdeal.Facts] : Prop :=
  ∀ (m : (ℓ : Loc Cert.AssignIdeal.nD Cert.AssignIdeal.τ Cert.AssignIdeal.sig) → Buf (Elt Ideal) ℓ) (g : Dev Cert.AssignIdeal.nD → PrngReg)
    (m' : (ℓ : Loc Cert.AssignReferenceIdeal.nD Cert.AssignReferenceIdeal.τ Cert.AssignReferenceIdeal.sig) → Buf (Elt Ideal) ℓ) (g' : Dev Cert.AssignReferenceIdeal.nD → PrngReg), Pre_AssignIdeal m →
    (∀ c : Dev Cert.AssignIdeal.nD,
      m' ((c.tc : Thread Cert.AssignReferenceIdeal.nD Cert.AssignReferenceIdeal.τ).loc Cert.AssignReferenceIdeal.main_arg0) = m ((c.tc : Thread Cert.AssignIdeal.nD Cert.AssignIdeal.τ).loc Cert.AssignIdeal.main_arg0)
      ∧ m' ((c.tc : Thread Cert.AssignReferenceIdeal.nD Cert.AssignReferenceIdeal.τ).loc Cert.AssignReferenceIdeal.main_arg1) = m ((c.tc : Thread Cert.AssignIdeal.nD Cert.AssignIdeal.τ).loc Cert.AssignIdeal.main_arg1)) →
    ∃ (v0 : (c : Dev Cert.AssignIdeal.nD) → Buf (Elt Ideal) ((c.tc : Thread Cert.AssignIdeal.nD Cert.AssignIdeal.τ).loc Cert.AssignIdeal.main_v4)) (v1 : (c : Dev Cert.AssignIdeal.nD) → Buf (Elt Ideal) ((c.tc : Thread Cert.AssignIdeal.nD Cert.AssignIdeal.τ).loc Cert.AssignIdeal.main_v3_0)),
      θ_run (Cert.AssignIdeal.defs (F := Ideal)) (onTc (τ := Cert.AssignIdeal.τ) (Cert.AssignIdeal.main (F := Ideal))) ⟨m, fun _ => 0, g⟩ (fun r => ∀ c : Dev Cert.AssignIdeal.nD,
          r.2.mem ((c.tc : Thread Cert.AssignIdeal.nD Cert.AssignIdeal.τ).loc Cert.AssignIdeal.main_v4) = v0 c
          ∧ r.2.mem ((c.tc : Thread Cert.AssignIdeal.nD Cert.AssignIdeal.τ).loc Cert.AssignIdeal.main_v3_0) = v1 c
          ∧ r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
          ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1))
      ∧ θ_run (Cert.AssignReferenceIdeal.defs (F := Ideal)) (onTc (τ := Cert.AssignReferenceIdeal.τ) (Cert.AssignReferenceIdeal.main (F := Ideal))) ⟨m', fun _ => 0, g'⟩ (fun r => ∀ c : Dev Cert.AssignReferenceIdeal.nD,
          r.2.mem ((c.tc : Thread Cert.AssignReferenceIdeal.nD Cert.AssignReferenceIdeal.τ).loc Cert.AssignReferenceIdeal.main_v28) = v0 c
          ∧ r.2.mem ((c.tc : Thread Cert.AssignReferenceIdeal.nD Cert.AssignReferenceIdeal.τ).loc Cert.AssignReferenceIdeal.main_v55) = v1 c
          ∧ r.2.mem ((c.tc : Thread Cert.AssignReferenceIdeal.nD Cert.AssignReferenceIdeal.τ).loc Cert.AssignReferenceIdeal.main_arg0) = m' ((c.tc : Thread Cert.AssignReferenceIdeal.nD Cert.AssignReferenceIdeal.τ).loc Cert.AssignReferenceIdeal.main_arg0)
          ∧ r.2.mem ((c.tc : Thread Cert.AssignReferenceIdeal.nD Cert.AssignReferenceIdeal.τ).loc Cert.AssignReferenceIdeal.main_arg1) = m' ((c.tc : Thread Cert.AssignReferenceIdeal.nD Cert.AssignReferenceIdeal.τ).loc Cert.AssignReferenceIdeal.main_arg1))

def preserves_Ari_AriIdeal : Prop :=
  True

def algebraic_AriIdeal_AriReferenceIdeal_pre_classes_in_range [hAriIdeal : Cert.AriIdeal.Facts] [hAriReferenceIdeal : Cert.AriReferenceIdeal.Facts] [hPre_classes_in_range : Cert.Pre_classes_in_range.Facts] : Prop :=
  ∀ (m : (ℓ : Loc Cert.AriIdeal.nD Cert.AriIdeal.τ Cert.AriIdeal.sig) → Buf (Elt Ideal) ℓ) (g : Dev Cert.AriIdeal.nD → PrngReg)
    (m' : (ℓ : Loc Cert.AriReferenceIdeal.nD Cert.AriReferenceIdeal.τ Cert.AriReferenceIdeal.sig) → Buf (Elt Ideal) ℓ) (g' : Dev Cert.AriReferenceIdeal.nD → PrngReg), Pre_AriIdeal_classes_in_range m →
    (∀ c : Dev Cert.AriIdeal.nD,
      m' ((c.tc : Thread Cert.AriReferenceIdeal.nD Cert.AriReferenceIdeal.τ).loc Cert.AriReferenceIdeal.main_arg0) = m ((c.tc : Thread Cert.AriIdeal.nD Cert.AriIdeal.τ).loc Cert.AriIdeal.main_arg0)
      ∧ m' ((c.tc : Thread Cert.AriReferenceIdeal.nD Cert.AriReferenceIdeal.τ).loc Cert.AriReferenceIdeal.main_arg1) = m ((c.tc : Thread Cert.AriIdeal.nD Cert.AriIdeal.τ).loc Cert.AriIdeal.main_arg1)) →
    ∃ (v0 : (c : Dev Cert.AriIdeal.nD) → Buf (Elt Ideal) ((c.tc : Thread Cert.AriIdeal.nD Cert.AriIdeal.τ).loc Cert.AriIdeal.main_v33)),
      θ_run (Cert.AriIdeal.defs (F := Ideal)) (onTc (τ := Cert.AriIdeal.τ) (Cert.AriIdeal.main (F := Ideal))) ⟨m, fun _ => 0, g⟩ (fun r => ∀ c : Dev Cert.AriIdeal.nD,
          r.2.mem ((c.tc : Thread Cert.AriIdeal.nD Cert.AriIdeal.τ).loc Cert.AriIdeal.main_v33) = v0 c
          ∧ r.2.mem ((c.tc : Thread Cert.AriIdeal.nD Cert.AriIdeal.τ).loc Cert.AriIdeal.main_arg0) = m ((c.tc : Thread Cert.AriIdeal.nD Cert.AriIdeal.τ).loc Cert.AriIdeal.main_arg0)
          ∧ r.2.mem ((c.tc : Thread Cert.AriIdeal.nD Cert.AriIdeal.τ).loc Cert.AriIdeal.main_arg1) = m ((c.tc : Thread Cert.AriIdeal.nD Cert.AriIdeal.τ).loc Cert.AriIdeal.main_arg1))
      ∧ θ_run (Cert.AriReferenceIdeal.defs (F := Ideal)) (onTc (τ := Cert.AriReferenceIdeal.τ) (Cert.AriReferenceIdeal.main (F := Ideal))) ⟨m', fun _ => 0, g'⟩ (fun r => ∀ c : Dev Cert.AriReferenceIdeal.nD,
          r.2.mem ((c.tc : Thread Cert.AriReferenceIdeal.nD Cert.AriReferenceIdeal.τ).loc Cert.AriReferenceIdeal.main_v47) = v0 c
          ∧ r.2.mem ((c.tc : Thread Cert.AriReferenceIdeal.nD Cert.AriReferenceIdeal.τ).loc Cert.AriReferenceIdeal.main_arg0) = m' ((c.tc : Thread Cert.AriReferenceIdeal.nD Cert.AriReferenceIdeal.τ).loc Cert.AriReferenceIdeal.main_arg0)
          ∧ r.2.mem ((c.tc : Thread Cert.AriReferenceIdeal.nD Cert.AriReferenceIdeal.τ).loc Cert.AriReferenceIdeal.main_arg1) = m' ((c.tc : Thread Cert.AriReferenceIdeal.nD Cert.AriReferenceIdeal.τ).loc Cert.AriReferenceIdeal.main_arg1))

def Claim : Prop :=
  ∃ (hKernel : Cert.Kernel.Facts) (hKernelIdeal : Cert.KernelIdeal.Facts) (hReferenceIdeal : Cert.ReferenceIdeal.Facts) (hAssign : Cert.Assign.Facts) (hAssignIdeal : Cert.AssignIdeal.Facts) (hAssignReferenceIdeal : Cert.AssignReferenceIdeal.Facts) (hAri : Cert.Ari.Facts) (hAriIdeal : Cert.AriIdeal.Facts) (hAriReferenceIdeal : Cert.AriReferenceIdeal.Facts) (hPre_scores_finite : Cert.Pre_scores_finite.Facts) (hPre_classes_in_range : Cert.Pre_classes_in_range.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Assign (hAssign := hAssign)
    ∧ quiescent_AssignIdeal (hAssignIdeal := hAssignIdeal)
    ∧ quiescent_AssignReferenceIdeal (hAssignReferenceIdeal := hAssignReferenceIdeal)
    ∧ quiescent_Ari (hAri := hAri)
    ∧ quiescent_AriIdeal (hAriIdeal := hAriIdeal)
    ∧ quiescent_AriIdeal_pre_classes_in_range (hAriIdeal := hAriIdeal) (hPre_classes_in_range := hPre_classes_in_range)
    ∧ quiescent_AriReferenceIdeal (hAriReferenceIdeal := hAriReferenceIdeal)
    ∧ quiescent_AriReferenceIdeal_pre_classes_in_range (hAriReferenceIdeal := hAriReferenceIdeal) (hPre_classes_in_range := hPre_classes_in_range)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Assign_AssignIdeal
    ∧ algebraic_AssignIdeal_AssignReferenceIdeal (hAssignIdeal := hAssignIdeal) (hAssignReferenceIdeal := hAssignReferenceIdeal)
    ∧ preserves_Ari_AriIdeal
    ∧ algebraic_AriIdeal_AriReferenceIdeal_pre_classes_in_range (hAriIdeal := hAriIdeal) (hAriReferenceIdeal := hAriReferenceIdeal) (hPre_classes_in_range := hPre_classes_in_range)
-- ==== Pre_classes_in_range.lean ====
abbrev S256x32 : Shape := ⟨2, ![256, 32]⟩
abbrev S32x256x1 : Shape := ⟨3, ![32, 256, 1]⟩
abbrev S_ : Shape := ⟨0, ![]⟩

class Facts : Prop where
  bcast_S_S256x32 : S_.BroadcastsInDim S256x32 (![] : Fin 0 → Fin S256x32.rank)
  bcast_S_S32x256x1 : S_.BroadcastsInDim S32x256x1 (![] : Fin 0 → Fin S32x256x1.rank)

variable [Facts]

def fn {F : FTy → Type} [FloatOps F] (main_arg0 : IVec S256x32 32) (main_arg1 : IVec S32x256x1 32) : IVec S256x32 1 × IVec S32x256x1 1 :=
  let main_c : IVec S_ 32 := constantI S_ 32 0#32
  let main_v0 : IVec S256x32 32 := broadcastInDim S256x32 ![] bcast_S_S256x32 main_c
  let main_v1 : IVec S256x32 1 := cmpi .sge main_arg0 main_v0
  let main_c_0 : IVec S_ 32 := constantI S_ 32 16#32
  let main_v2 : IVec S256x32 32 := broadcastInDim S256x32 ![] bcast_S_S256x32 main_c_0
  let main_v3 : IVec S256x32 1 := cmpi .slt main_arg0 main_v2
  let main_v4 : IVec S256x32 1 := andi main_v1 main_v3
  let main_c_1 : IVec S_ 32 := constantI S_ 32 0#32
  let main_v5 : IVec S32x256x1 32 := broadcastInDim S32x256x1 ![] bcast_S_S32x256x1 main_c_1
  let main_v6 : IVec S32x256x1 1 := cmpi .sge main_arg1 main_v5
  let main_c_2 : IVec S_ 32 := constantI S_ 32 16#32
  let main_v7 : IVec S32x256x1 32 := broadcastInDim S32x256x1 ![] bcast_S_S32x256x1 main_c_2
  let main_v8 : IVec S32x256x1 1 := cmpi .slt main_arg1 main_v7
  let main_v9 : IVec S32x256x1 1 := andi main_v6 main_v8
  (main_v4, main_v9)
-- ==== Pre_scores_finite.lean ====
abbrev S32x256x128 : Shape := ⟨3, ![32, 256, 128]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S2x128x512 : Shape := ⟨3, ![2, 128, 512]⟩
abbrev S2x512 : Shape := ⟨2, ![2, 512]⟩
abbrev S2x512x128 : Shape := ⟨3, ![2, 512, 128]⟩
abbrev S_ : Shape := ⟨0, ![]⟩

class Facts : Prop where
  bcast_S_S32x256x128 : S_.BroadcastsInDim S32x256x128 (![] : Fin 0 → Fin S32x256x128.rank)
  bcast_S_S128x128 : S_.BroadcastsInDim S128x128 (![] : Fin 0 → Fin S128x128.rank)
  bcast_S_S128 : S_.BroadcastsInDim S128 (![] : Fin 0 → Fin S128.rank)
  bcast_S_S2x128x128 : S_.BroadcastsInDim S2x128x128 (![] : Fin 0 → Fin S2x128x128.rank)
  bcast_S_S2x128 : S_.BroadcastsInDim S2x128 (![] : Fin 0 → Fin S2x128.rank)

variable [Facts]

def fn_part1 {F : FTy → Type} [FloatOps F] (main_arg6 : FVec F S2x128 .f32) (main_arg17 : FVec F S2x128 .f32) (main_arg18 : FVec F S2x128 .f32) (main_v2 : IVec S32x256x128 1) (main_v5 : IVec S128x128 1) (main_v8 : IVec S128 1) (main_v11 : IVec S2x128x128 1) (main_v14 : IVec S2x128 1) (main_v17 : IVec S2x128x128 1) : IVec S32x256x128 1 × IVec S128x128 1 × IVec S128 1 × IVec S2x128x128 1 × IVec S2x128 1 × IVec S2x128x128 1 × IVec S2x128 1 × IVec S2x128 1 × IVec S2x128 1 :=
  let main_v18 : FVec F S2x128 .f32 := Host.absf main_arg6
  let main_cst_5 : FVec F S_ .f32 := constant S_ .f32 0x7F800000#32
  let main_v19 : FVec F S2x128 .f32 := broadcastInDim S2x128 ![] bcast_S_S2x128 main_cst_5
  let main_v20 : IVec S2x128 1 := cmpf .olt main_v18 main_v19
  let main_v21 : FVec F S2x128 .f32 := Host.absf main_arg17
  let main_cst_6 : FVec F S_ .f32 := constant S_ .f32 0x7F800000#32
  let main_v22 : FVec F S2x128 .f32 := broadcastInDim S2x128 ![] bcast_S_S2x128 main_cst_6
  let main_v23 : IVec S2x128 1 := cmpf .olt main_v21 main_v22
  let main_v24 : FVec F S2x128 .f32 := Host.absf main_arg18
  let main_cst_7 : FVec F S_ .f32 := constant S_ .f32 0x7F800000#32
  let main_v25 : FVec F S2x128 .f32 := broadcastInDim S2x128 ![] bcast_S_S2x128 main_cst_7
  let main_v26 : IVec S2x128 1 := cmpf .olt main_v24 main_v25
  (main_v2, main_v5, main_v8, main_v11, main_v14, main_v17, main_v20, main_v23, main_v26)

def fn {F : FTy → Type} [FloatOps F] (main_arg0 : FVec F S32x256x128 .f32) (main_arg1 : FVec F S128x128 .f32) (main_arg2 : FVec F S128 .f32) (main_arg3 : FVec F S2x128x128 .f32) (main_arg4 : FVec F S2x128 .f32) (main_arg5 : FVec F S2x128x128 .f32) (main_arg6 : FVec F S2x128 .f32) (main_arg7 : FVec F S2x128x128 .f32) (main_arg8 : FVec F S2x128 .f32) (main_arg9 : FVec F S2x128x128 .f32) (main_arg10 : FVec F S2x128 .f32) (main_arg11 : FVec F S2x128x512 .f32) (main_arg12 : FVec F S2x512 .f32) (main_arg13 : FVec F S2x512x128 .f32) (main_arg14 : FVec F S2x128 .f32) (main_arg15 : FVec F S2x128 .f32) (main_arg16 : FVec F S2x128 .f32) (main_arg17 : FVec F S2x128 .f32) (main_arg18 : FVec F S2x128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) : IVec S32x256x128 1 × IVec S128x128 1 × IVec S128 1 × IVec S2x128x128 1 × IVec S2x128 1 × IVec S2x128x128 1 × IVec S2x128 1 × IVec S2x128 1 × IVec S2x128 1 :=
  let main_v0 : FVec F S32x256x128 .f32 := Host.absf main_arg0
  let main_cst : FVec F S_ .f32 := constant S_ .f32 0x7F800000#32
  let main_v1 : FVec F S32x256x128 .f32 := broadcastInDim S32x256x128 ![] bcast_S_S32x256x128 main_cst
  let main_v2 : IVec S32x256x128 1 := cmpf .olt main_v0 main_v1
  let main_v3 : FVec F S128x128 .f32 := Host.absf main_arg1
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_v12 : FVec F S2x128 .f32 := Host.absf main_arg4
  let main_cst_3 : FVec F S_ .f32 := constant S_ .f32 0x7F800000#32
  let main_v13 : FVec F S2x128 .f32 := broadcastInDim S2x128 ![] bcast_S_S2x128 main_cst_3
  let main_v14 : IVec S2x128 1 := cmpf .olt main_v12 main_v13
  let main_v15 : FVec F S2x128x128 .f32 := Host.absf main_arg5
  let main_cst_4 : FVec F S_ .f32 := constant S_ .f32 0x7F800000#32
  let main_v16 : FVec F S2x128x128 .f32 := broadcastInDim S2x128x128 ![] bcast_S_S2x128x128 main_cst_4
  let main_v17 : IVec S2x128x128 1 := cmpf .olt main_v15 main_v16
  fn_part1 (F := F) main_arg6 main_arg17 main_arg18 main_v2 main_v5 main_v8 main_v11 main_v14 main_v17
-- ==== Kernel.lean ====
abbrev S32x256x128 : Shape := ⟨3, ![32, 256, 128]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S2x128x512 : Shape := ⟨3, ![2, 128, 512]⟩
abbrev S2x512 : Shape := ⟨2, ![2, 512]⟩
abbrev S2x512x128 : Shape := ⟨3, ![2, 512, 128]⟩
abbrev S4x256x128 : Shape := ⟨3, ![4, 256, 128]⟩
abbrev S1x256x128 : Shape := ⟨3, ![1, 256, 128]⟩
abbrev S256x128 : Shape := ⟨2, ![256, 128]⟩
abbrev S1x128 : Shape := ⟨2, ![1, 128]⟩
abbrev S1x128x128 : Shape := ⟨3, ![1, 128, 128]⟩
abbrev S256x16 : Shape := ⟨2, ![256, 16]⟩
abbrev S256x256 : Shape := ⟨2, ![256, 256]⟩
abbrev S256 : Shape := ⟨1, ![256]⟩
abbrev S256x1 : Shape := ⟨2, ![256, 1]⟩
abbrev S256x8 : Shape := ⟨2, ![256, 8]⟩
abbrev S256x4 : Shape := ⟨2, ![256, 4]⟩
abbrev S256x2 : Shape := ⟨2, ![256, 2]⟩
abbrev S1x128x512 : Shape := ⟨3, ![1, 128, 512]⟩
abbrev S128x512 : Shape := ⟨2, ![128, 512]⟩
abbrev S256x512 : Shape := ⟨2, ![256, 512]⟩
abbrev S1x512 : Shape := ⟨2, ![1, 512]⟩
abbrev S512 : Shape := ⟨1, ![512]⟩
abbrev S1x512x128 : Shape := ⟨3, ![1, 512, 128]⟩
abbrev S512x128 : Shape := ⟨2, ![512, 128]⟩

abbrev nBuf : Space → Nat
  | .hbm => 28
  | .vmem => 30
  | .smem => 0
  | _ => 0

abbrev bufTy : (tb : Table) → Fin (tcTables nBuf tb) → BufTy
  | .hbm, ⟨0, _⟩ => ⟨S32x256x128, .f32⟩
  | .hbm, ⟨1, _⟩ => ⟨S128x128, .f32⟩
  | .hbm, ⟨2, _⟩ => ⟨S128, .f32⟩
  | .hbm, ⟨3, _⟩ => ⟨S2x128x128, .f32⟩
  | .hbm, ⟨4, _⟩ => ⟨S2x128, .f32⟩
  | .hbm, ⟨5, _⟩ => ⟨S2x128x128, .f32⟩
  | .hbm, ⟨6, _⟩ => ⟨S2x128, .f32⟩
  | .hbm, ⟨7, _⟩ => ⟨S2x128x128, .f32⟩
  | .hbm, ⟨8, _⟩ => ⟨S2x128, .f32⟩
  | .hbm, ⟨9, _⟩ => ⟨S2x128x128, .f32⟩
  | .hbm, ⟨10, _⟩ => ⟨S2x128, .f32⟩
  | .hbm, ⟨11, _⟩ => ⟨S2x128x512, .f32⟩
  | .hbm, ⟨12, _⟩ => ⟨S2x512, .f32⟩
  | .hbm, ⟨13, _⟩ => ⟨S2x512x128, .f32⟩
  | .hbm, ⟨14, _⟩ => ⟨S2x128, .f32⟩
  | .hbm, ⟨15, _⟩ => ⟨S2x128, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S32x256x128, .f32⟩
  | .local _ .vmem, ⟨0, _⟩ => ⟨S4x256x128, .f32⟩
  | .local _ .vmem, ⟨1, _⟩ => ⟨S4x256x128, .f32⟩
  | .local _ .vmem, ⟨2, _⟩ => ⟨S128x128, .f32⟩
  | .local _ .vmem, ⟨3, _⟩ => ⟨S128, .f32⟩
  | .local _ .vmem, ⟨4, _⟩ => ⟨S2x128x128, .f32⟩
  | .local _ .vmem, ⟨5, _⟩ => ⟨S2x128, .f32⟩
  | .local _ .vmem, ⟨6, _⟩ => ⟨S2x128x128, .f32⟩
  | .local _ .vmem, ⟨7, _⟩ => ⟨S2x128, .f32⟩
  | .local _ .vmem, ⟨8, _⟩ => ⟨S2x128x128, .f32⟩
  | .local _ .vmem, ⟨9, _⟩ => ⟨S2x128, .f32⟩
  | .local _ .vmem, ⟨10, _⟩ => ⟨S2x128x128, .f32⟩
  | .local _ .vmem, ⟨11, _⟩ => ⟨S2x128, .f32⟩
  | .local _ .vmem, ⟨12, _⟩ => ⟨S2x128x512, .f32⟩
  | .local _ .vmem, ⟨13, _⟩ => ⟨S2x512, .f32⟩
  | .local _ .vmem, ⟨14, _⟩ => ⟨S2x512x128, .f32⟩
  | .local _ .vmem, ⟨15, _⟩ => ⟨S2x128, .f32⟩
  | .local _ .vmem, ⟨16, _⟩ => ⟨S2x128, .f32⟩
  | .local _ .vmem, ⟨17, _⟩ => ⟨S2x128, .f32⟩
  | .local _ .vmem, ⟨18, _⟩ => ⟨S2x128, .f32⟩
  | .local _ .vmem, ⟨19, _⟩ => ⟨S2x128, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S4x256x128, .f32⟩
  | .local _ .vmem, ⟨29, _⟩ => ⟨S4x256x128, .f32⟩
  | _, _ => ⟨S32x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S4x256x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== ReferenceIdeal.lean ====
abbrev S32x256x128 : Shape := ⟨3, ![32, 256, 128]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S2x128x512 : Shape := ⟨3, ![2, 128, 512]⟩
abbrev S2x512 : Shape := ⟨2, ![2, 512]⟩
abbrev S2x512x128 : Shape := ⟨3, ![2, 512, 128]⟩
abbrev S1x1x128 : Shape := ⟨3, ![1, 1, 128]⟩
abbrev S1x128x128 : Shape := ⟨3, ![1, 128, 128]⟩
abbrev S1x128 : Shape := ⟨2, ![1, 128]⟩
abbrev S32x256x8x16 : Shape := ⟨4, ![32, 256, 8, 16]⟩
abbrev S32x8x256x16 : Shape := ⟨4, ![32, 8, 256, 16]⟩
abbrev S32x8x16x256 : Shape := ⟨4, ![32, 8, 16, 256]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S32x256 : Shape := ⟨2, ![32, 256]⟩
abbrev S32x256x1 : Shape := ⟨3, ![32, 256, 1]⟩
abbrev S1x128x512 : Shape := ⟨3, ![1, 128, 512]⟩
abbrev S128x512 : Shape := ⟨2, ![128, 512]⟩
abbrev S32x256x512 : Shape := ⟨3, ![32, 256, 512]⟩
abbrev S1x512 : Shape := ⟨2, ![1, 512]⟩
abbrev S512 : Shape := ⟨1, ![512]⟩
abbrev S1x1x512 : Shape := ⟨3, ![1, 1, 512]⟩
abbrev S1x512x128 : Shape := ⟨3, ![1, 512, 128]⟩
abbrev S512x128 : Shape := ⟨2, ![512, 128]⟩

abbrev nBuf : Space → Nat
  | .hbm => 351
  | .vmem => 0
  | .smem => 0
  | _ => 0

abbrev hbmTy0_0 (i : Nat) : BufTy := match i % 128 with
  | 0 => ⟨S32x256x128, .f32⟩
  | 1 => ⟨S128x128, .f32⟩
  | 2 => ⟨S128, .f32⟩
  | 3 => ⟨S2x128x128, .f32⟩
  | 4 => ⟨S2x128, .f32⟩
  | 5 => ⟨S2x128x128, .f32⟩
  | 6 => ⟨S2x128, .f32⟩
  | 7 => ⟨S2x128x128, .f32⟩
  | 8 => ⟨S2x128, .f32⟩
  | 9 => ⟨S2x128x128, .f32⟩
  | 10 => ⟨S2x128, .f32⟩
  | 11 => ⟨S2x128x512, .f32⟩
  | 12 => ⟨S2x512, .f32⟩
  | 13 => ⟨S2x512x128, .f32⟩
  | 14 => ⟨S2x128, .f32⟩
  | 15 => ⟨S2x128, .f32⟩
  | 16 => ⟨S2x128, .f32⟩
  | 17 => ⟨S2x128, .f32⟩
  | 18 => ⟨S2x128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S32x256x128, .f32⟩
  | 28 => ⟨S1x1x128, .f32⟩
  | 29 => ⟨S32x256x128, .f32⟩
  | 30 => ⟨S32x256x128, .f32⟩
  | 31 => ⟨S1x128x128, .f32⟩
  | 32 => ⟨S128x128, .f32⟩
  | 33 => ⟨S32x256x128, .f32⟩
  | 34 => ⟨S1x128, .f32⟩
  | 35 => ⟨S128, .f32⟩
  | 36 => ⟨S1x1x128, .f32⟩
  | 37 => ⟨S32x256x128, .f32⟩
  | 38 => ⟨S32x256x128, .f32⟩
  | 39 => ⟨S32x256x8x16, .f32⟩
  | 40 => ⟨S32x8x256x16, .f32⟩
  | 41 => ⟨S1x128x128, .f32⟩
  | 42 => ⟨S128x128, .f32⟩
  | 43 => ⟨S32x256x128, .f32⟩
  | 44 => ⟨S1x128, .f32⟩
  | 45 => ⟨S128, .f32⟩
  | 46 => ⟨S1x1x128, .f32⟩
  | 47 => ⟨S32x256x128, .f32⟩
  | 48 => ⟨S32x256x128, .f32⟩
  | 49 => ⟨S32x256x8x16, .f32⟩
  | 50 => ⟨S32x8x256x16, .f32⟩
  | 51 => ⟨S1x128x128, .f32⟩
  | 52 => ⟨S128x128, .f32⟩
  | 53 => ⟨S32x256x128, .f32⟩
  | 54 => ⟨S1x128, .f32⟩
  | 55 => ⟨S128, .f32⟩
  | 56 => ⟨S1x1x128, .f32⟩
  | 57 => ⟨S32x256x128, .f32⟩
  | 58 => ⟨S32x256x128, .f32⟩
  | 59 => ⟨S32x256x8x16, .f32⟩
  | 60 => ⟨S32x8x256x16, .f32⟩
  | 61 => ⟨S32x8x16x256, .f32⟩
  | 62 => ⟨S32x8x256x256, .f32⟩
  | 63 => ⟨S_, .f32⟩
  | 64 => ⟨S_, .f32⟩
  | 65 => ⟨S_, .f32⟩
  | 66 => ⟨S32x8x256x256, .f32⟩
  | 67 => ⟨S32x8x256x256, .f32⟩
  | 68 => ⟨S_, .f32⟩
  | 69 => ⟨S32x8x256, .f32⟩
  | 70 => ⟨S_, .f32⟩
  | 71 => ⟨S32x8x256, .f32⟩
  | 72 => ⟨S32x8x256, .f32⟩
  | 73 => ⟨S32x8x256x1, .f32⟩
  | 74 => ⟨S32x8x256x256, .f32⟩
  | 75 => ⟨S32x8x256x256, .f32⟩
  | 76 => ⟨S32x8x256x256, .f32⟩
  | 77 => ⟨S_, .f32⟩
  | 78 => ⟨S32x8x256, .f32⟩
  | 79 => ⟨S32x8x256x1, .f32⟩
  | 80 => ⟨S32x8x256x256, .f32⟩
  | 81 => ⟨S32x8x256x256, .f32⟩
  | 82 => ⟨S32x8x256x16, .f32⟩
  | 83 => ⟨S32x256x8x16, .f32⟩
  | 84 => ⟨S32x256x128, .f32⟩
  | 85 => ⟨S1x128x128, .f32⟩
  | 86 => ⟨S128x128, .f32⟩
  | 87 => ⟨S32x256x128, .f32⟩
  | 88 => ⟨S1x128, .f32⟩
  | 89 => ⟨S128, .f32⟩
  | 90 => ⟨S1x1x128, .f32⟩
  | 91 => ⟨S32x256x128, .f32⟩
  | 92 => ⟨S32x256x128, .f32⟩
  | 93 => ⟨S32x256x128, .f32⟩
  | 94 => ⟨S1x128, .f32⟩
  | 95 => ⟨S128, .f32⟩
  | 96 => ⟨S1x128, .f32⟩
  | 97 => ⟨S128, .f32⟩
  | 98 => ⟨S_, .f32⟩
  | 99 => ⟨S32x256, .f32⟩
  | 100 => ⟨S32x256x1, .f32⟩
  | 101 => ⟨S_, .f32⟩
  | 102 => ⟨S32x256x1, .f32⟩
  | 103 => ⟨S32x256x1, .f32⟩
  | 104 => ⟨S32x256x128, .f32⟩
  | 105 => ⟨S32x256x128, .f32⟩
  | 106 => ⟨S32x256x128, .f32⟩
  | 107 => ⟨S_, .f32⟩
  | 108 => ⟨S32x256, .f32⟩
  | 109 => ⟨S32x256x1, .f32⟩
  | 110 => ⟨S_, .f32⟩
  | 111 => ⟨S32x256x1, .f32⟩
  | 112 => ⟨S32x256x1, .f32⟩
  | 113 => ⟨S32x256x128, .f32⟩
  | 114 => ⟨S32x256x128, .f32⟩
  | 115 => ⟨S_, .f32⟩
  | 116 => ⟨S32x256x1, .f32⟩
  | 117 => ⟨S32x256x1, .f32⟩
  | 118 => ⟨S32x256x1, .f32⟩
  | 119 => ⟨S32x256x128, .f32⟩
  | 120 => ⟨S32x256x128, .f32⟩
  | 121 => ⟨S1x1x128, .f32⟩
  | 122 => ⟨S32x256x128, .f32⟩
  | 123 => ⟨S32x256x128, .f32⟩
  | 124 => ⟨S1x1x128, .f32⟩
  | 125 => ⟨S32x256x128, .f32⟩
  | 126 => ⟨S32x256x128, .f32⟩
  | 127 => ⟨S1x128x512, .f32⟩
  | _ => ⟨S32x256x128, .f32⟩

abbrev hbmTy0_1 (i : Nat) : BufTy := match i % 128 with
  | 0 => ⟨S128x512, .f32⟩
  | 1 => ⟨S32x256x512, .f32⟩
  | 2 => ⟨S1x512, .f32⟩
  | 3 => ⟨S512, .f32⟩
  | 4 => ⟨S1x1x512, .f32⟩
  | 5 => ⟨S32x256x512, .f32⟩
  | 6 => ⟨S32x256x512, .f32⟩
  | 7 => ⟨S_, .f32⟩
  | 8 => ⟨S32x256x512, .f32⟩
  | 9 => ⟨S32x256x512, .f32⟩
  | 10 => ⟨S1x512x128, .f32⟩
  | 11 => ⟨S512x128, .f32⟩
  | 12 => ⟨S32x256x128, .f32⟩
  | 13 => ⟨S1x128, .f32⟩
  | 14 => ⟨S128, .f32⟩
  | 15 => ⟨S1x1x128, .f32⟩
  | 16 => ⟨S32x256x128, .f32⟩
  | 17 => ⟨S32x256x128, .f32⟩
  | 18 => ⟨S32x256x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S32x256, .f32⟩
  | 25 => ⟨S32x256x1, .f32⟩
  | 26 => ⟨S_, .f32⟩
  | 27 => ⟨S32x256x1, .f32⟩
  | 28 => ⟨S32x256x1, .f32⟩
  | 29 => ⟨S32x256x128, .f32⟩
  | 30 => ⟨S32x256x128, .f32⟩
  | 31 => ⟨S32x256x128, .f32⟩
  | 32 => ⟨S_, .f32⟩
  | 33 => ⟨S32x256, .f32⟩
  | 34 => ⟨S32x256x1, .f32⟩
  | 35 => ⟨S_, .f32⟩
  | 36 => ⟨S32x256x1, .f32⟩
  | 37 => ⟨S32x256x1, .f32⟩
  | 38 => ⟨S32x256x128, .f32⟩
  | 39 => ⟨S32x256x128, .f32⟩
  | 40 => ⟨S_, .f32⟩
  | 41 => ⟨S32x256x1, .f32⟩
  | 42 => ⟨S32x256x1, .f32⟩
  | 43 => ⟨S32x256x1, .f32⟩
  | 44 => ⟨S32x256x128, .f32⟩
  | 45 => ⟨S32x256x128, .f32⟩
  | 46 => ⟨S1x1x128, .f32⟩
  | 47 => ⟨S32x256x128, .f32⟩
  | 48 => ⟨S32x256x128, .f32⟩
  | 49 => ⟨S1x1x128, .f32⟩
  | 50 => ⟨S32x256x128, .f32⟩
  | 51 => ⟨S32x256x128, .f32⟩
  | 52 => ⟨S1x128x128, .f32⟩
  | 53 => ⟨S128x128, .f32⟩
  | 54 => ⟨S32x256x128, .f32⟩
  | 55 => ⟨S1x128, .f32⟩
  | 56 => ⟨S128, .f32⟩
  | 57 => ⟨S1x1x128, .f32⟩
  | 58 => ⟨S32x256x128, .f32⟩
  | 59 => ⟨S32x256x128, .f32⟩
  | 60 => ⟨S32x256x8x16, .f32⟩
  | 61 => ⟨S32x8x256x16, .f32⟩
  | 62 => ⟨S1x128x128, .f32⟩
  | 63 => ⟨S128x128, .f32⟩
  | 64 => ⟨S32x256x128, .f32⟩
  | 65 => ⟨S1x128, .f32⟩
  | 66 => ⟨S128, .f32⟩
  | 67 => ⟨S1x1x128, .f32⟩
  | 68 => ⟨S32x256x128, .f32⟩
  | 69 => ⟨S32x256x128, .f32⟩
  | 70 => ⟨S32x256x8x16, .f32⟩
  | 71 => ⟨S32x8x256x16, .f32⟩
  | 72 => ⟨S1x128x128, .f32⟩
  | 73 => ⟨S128x128, .f32⟩
  | 74 => ⟨S32x256x128, .f32⟩
  | 75 => ⟨S1x128, .f32⟩
  | 76 => ⟨S128, .f32⟩
  | 77 => ⟨S1x1x128, .f32⟩
  | 78 => ⟨S32x256x128, .f32⟩
  | 79 => ⟨S32x256x128, .f32⟩
  | 80 => ⟨S32x256x8x16, .f32⟩
  | 81 => ⟨S32x8x256x16, .f32⟩
  | 82 => ⟨S32x8x16x256, .f32⟩
  | 83 => ⟨S32x8x256x256, .f32⟩
  | 84 => ⟨S_, .f32⟩
  | 85 => ⟨S_, .f32⟩
  | 86 => ⟨S_, .f32⟩
  | 87 => ⟨S32x8x256x256, .f32⟩
  | 88 => ⟨S32x8x256x256, .f32⟩
  | 89 => ⟨S_, .f32⟩
  | 90 => ⟨S32x8x256, .f32⟩
  | 91 => ⟨S_, .f32⟩
  | 92 => ⟨S32x8x256, .f32⟩
  | 93 => ⟨S32x8x256, .f32⟩
  | 94 => ⟨S32x8x256x1, .f32⟩
  | 95 => ⟨S32x8x256x256, .f32⟩
  | 96 => ⟨S32x8x256x256, .f32⟩
  | 97 => ⟨S32x8x256x256, .f32⟩
  | 98 => ⟨S_, .f32⟩
  | 99 => ⟨S32x8x256, .f32⟩
  | 100 => ⟨S32x8x256x1, .f32⟩
  | 101 => ⟨S32x8x256x256, .f32⟩
  | 102 => ⟨S32x8x256x256, .f32⟩
  | 103 => ⟨S32x8x256x16, .f32⟩
  | 104 => ⟨S32x256x8x16, .f32⟩
  | 105 => ⟨S32x256x128, .f32⟩
  | 106 => ⟨S1x128x128, .f32⟩
  | 107 => ⟨S128x128, .f32⟩
  | 108 => ⟨S32x256x128, .f32⟩
  | 109 => ⟨S1x128, .f32⟩
  | 110 => ⟨S128, .f32⟩
  | 111 => ⟨S1x1x128, .f32⟩
  | 112 => ⟨S32x256x128, .f32⟩
  | 113 => ⟨S32x256x128, .f32⟩
  | 114 => ⟨S32x256x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S32x256, .f32⟩
  | 121 => ⟨S32x256x1, .f32⟩
  | 122 => ⟨S_, .f32⟩
  | 123 => ⟨S32x256x1, .f32⟩
  | 124 => ⟨S32x256x1, .f32⟩
  | 125 => ⟨S32x256x128, .f32⟩
  | 126 => ⟨S32x256x128, .f32⟩
  | 127 => ⟨S32x256x128, .f32⟩
  | _ => ⟨S32x256x128, .f32⟩

abbrev hbmTy0_2 (i : Nat) : BufTy := match i % 128 with
  | 0 => ⟨S_, .f32⟩
  | 1 => ⟨S32x256, .f32⟩
  | 2 => ⟨S32x256x1, .f32⟩
  | 3 => ⟨S_, .f32⟩
  | 4 => ⟨S32x256x1, .f32⟩
  | 5 => ⟨S32x256x1, .f32⟩
  | 6 => ⟨S32x256x128, .f32⟩
  | 7 => ⟨S32x256x128, .f32⟩
  | 8 => ⟨S_, .f32⟩
  | 9 => ⟨S32x256x1, .f32⟩
  | 10 => ⟨S32x256x1, .f32⟩
  | 11 => ⟨S32x256x1, .f32⟩
  | 12 => ⟨S32x256x128, .f32⟩
  | 13 => ⟨S32x256x128, .f32⟩
  | 14 => ⟨S1x1x128, .f32⟩
  | 15 => ⟨S32x256x128, .f32⟩
  | 16 => ⟨S32x256x128, .f32⟩
  | 17 => ⟨S1x1x128, .f32⟩
  | 18 => ⟨S32x256x128, .f32⟩
  | 19 => ⟨S32x256x128, .f32⟩
  | 20 => ⟨S1x128x512, .f32⟩
  | 21 => ⟨S128x512, .f32⟩
  | 22 => ⟨S32x256x512, .f32⟩
  | 23 => ⟨S1x512, .f32⟩
  | 24 => ⟨S512, .f32⟩
  | 25 => ⟨S1x1x512, .f32⟩
  | 26 => ⟨S32x256x512, .f32⟩
  | 27 => ⟨S32x256x512, .f32⟩
  | 28 => ⟨S_, .f32⟩
  | 29 => ⟨S32x256x512, .f32⟩
  | 30 => ⟨S32x256x512, .f32⟩
  | 31 => ⟨S1x512x128, .f32⟩
  | 32 => ⟨S512x128, .f32⟩
  | 33 => ⟨S32x256x128, .f32⟩
  | 34 => ⟨S1x128, .f32⟩
  | 35 => ⟨S128, .f32⟩
  | 36 => ⟨S1x1x128, .f32⟩
  | 37 => ⟨S32x256x128, .f32⟩
  | 38 => ⟨S32x256x128, .f32⟩
  | 39 => ⟨S32x256x128, .f32⟩
  | 40 => ⟨S1x128, .f32⟩
  | 41 => ⟨S128, .f32⟩
  | 42 => ⟨S1x128, .f32⟩
  | 43 => ⟨S128, .f32⟩
  | 44 => ⟨S_, .f32⟩
  | 45 => ⟨S32x256, .f32⟩
  | 46 => ⟨S32x256x1, .f32⟩
  | 47 => ⟨S_, .f32⟩
  | 48 => ⟨S32x256x1, .f32⟩
  | 49 => ⟨S32x256x1, .f32⟩
  | 50 => ⟨S32x256x128, .f32⟩
  | 51 => ⟨S32x256x128, .f32⟩
  | 52 => ⟨S32x256x128, .f32⟩
  | 53 => ⟨S_, .f32⟩
  | 54 => ⟨S32x256, .f32⟩
  | 55 => ⟨S32x256x1, .f32⟩
  | 56 => ⟨S_, .f32⟩
  | 57 => ⟨S32x256x1, .f32⟩
  | 58 => ⟨S32x256x1, .f32⟩
  | 59 => ⟨S32x256x128, .f32⟩
  | 60 => ⟨S32x256x128, .f32⟩
  | 61 => ⟨S_, .f32⟩
  | 62 => ⟨S32x256x1, .f32⟩
  | 63 => ⟨S32x256x1, .f32⟩
  | 64 => ⟨S32x256x1, .f32⟩
  | 65 => ⟨S32x256x128, .f32⟩
  | 66 => ⟨S32x256x128, .f32⟩
  | 67 => ⟨S1x1x128, .f32⟩
  | 68 => ⟨S32x256x128, .f32⟩
  | 69 => ⟨S32x256x128, .f32⟩
  | 70 => ⟨S1x1x128, .f32⟩
  | 71 => ⟨S32x256x128, .f32⟩
  | 72 => ⟨S32x256x128, .f32⟩
  | 73 => ⟨S32x256x128, .f32⟩
  | 74 => ⟨S1x1x128, .f32⟩
  | 75 => ⟨S32x256x128, .f32⟩
  | 76 => ⟨S32x256x128, .f32⟩
  | 77 => ⟨S_, .f32⟩
  | 78 => ⟨S32x256x128, .f32⟩
  | 79 => ⟨S32x256x128, .f32⟩
  | 80 => ⟨S32x256x128, .f32⟩
  | 81 => ⟨S1x1x128, .f32⟩
  | 82 => ⟨S32x256x128, .f32⟩
  | 83 => ⟨S32x256x128, .f32⟩
  | 84 => ⟨S32x256x128, .f32⟩
  | 85 => ⟨S1x1x128, .f32⟩
  | 86 => ⟨S32x256x128, .f32⟩
  | 87 => ⟨S32x256x128, .f32⟩
  | 88 => ⟨S_, .f32⟩
  | 89 => ⟨S32x256x128, .f32⟩
  | 90 => ⟨S32x256x128, .f32⟩
  | 91 => ⟨S32x256x128, .f32⟩
  | 92 => ⟨S1x1x128, .f32⟩
  | 93 => ⟨S32x256x128, .f32⟩
  | 94 => ⟨S32x256x128, .f32⟩
  | _ => ⟨S32x256x128, .f32⟩

abbrev hbmTy (i : Nat) : BufTy := match i / 128 with
  | 0 => hbmTy0_0 i
  | 1 => hbmTy0_1 i
  | 2 => hbmTy0_2 i
  | _ => ⟨S32x256x128, .f32⟩

abbrev bufTy : (tb : Table) → Fin (tcTables nBuf tb) → BufTy
  | .hbm, ⟨i, _⟩ => hbmTy i
  | _, _ => ⟨S32x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_0 : Ref sig .tc := ⟨.hbm, 68, rfl⟩
abbrev main_v40 : Ref sig .tc := ⟨.hbm, 69, rfl⟩
abbrev main_cst_1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_2 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_3 : Ref sig .tc := ⟨.hbm, 98, rfl⟩
abbrev main_v67 : Ref sig .tc := ⟨.hbm, 99, rfl⟩
abbrev main_v68 : Ref sig .tc := ⟨.hbm, 100, rfl⟩
abbrev main_cst_4 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_5 : Ref sig .tc := ⟨.hbm, 107, rfl⟩
abbrev main_v74 : Ref sig .tc := ⟨.hbm, 108, rfl⟩
abbrev main_v75 : Ref sig .tc := ⟨.hbm, 109, rfl⟩
abbrev main_cst_6 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_7 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_call0_cst : Ref sig .tc := ⟨.hbm, 135, rfl⟩
abbrev main_call0_v0 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_8 : Ref sig .tc := ⟨.hbm, 151, rfl⟩
abbrev main_v113 : Ref sig .tc := ⟨.hbm, 152, rfl⟩
abbrev main_v114 : Ref sig .tc := ⟨.hbm, 153, rfl⟩
abbrev main_cst_9 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_10 : Ref sig .tc := ⟨.hbm, 160, rfl⟩
abbrev main_v120 : Ref sig .tc := ⟨.hbm, 161, rfl⟩
abbrev main_v121 : Ref sig .tc := ⟨.hbm, 162, rfl⟩
abbrev main_cst_11 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_12 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_cst_13 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_cst_14 : Ref sig .tc := ⟨.hbm, 217, rfl⟩
abbrev main_v173 : Ref sig .tc := ⟨.hbm, 218, rfl⟩
abbrev main_cst_15 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_cst_16 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_cst_17 : Ref sig .tc := ⟨.hbm, 247, rfl⟩
abbrev main_v200 : Ref sig .tc := ⟨.hbm, 248, rfl⟩
abbrev main_v201 : Ref sig .tc := ⟨.hbm, 249, rfl⟩
abbrev main_cst_18 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_cst_19 : Ref sig .tc := ⟨.hbm, 256, rfl⟩
abbrev main_v207 : Ref sig .tc := ⟨.hbm, 257, rfl⟩
abbrev main_v208 : Ref sig .tc := ⟨.hbm, 258, rfl⟩
abbrev main_cst_20 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_cst_21 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_call1_cst : Ref sig .tc := ⟨.hbm, 284, rfl⟩
abbrev main_call1_v0 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_cst_22 : Ref sig .tc := ⟨.hbm, 300, rfl⟩
abbrev main_v246 : Ref sig .tc := ⟨.hbm, 301, rfl⟩
abbrev main_v247 : Ref sig .tc := ⟨.hbm, 302, rfl⟩
abbrev main_cst_23 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_cst_24 : Ref sig .tc := ⟨.hbm, 309, rfl⟩
abbrev main_v253 : Ref sig .tc := ⟨.hbm, 310, rfl⟩
abbrev main_v254 : Ref sig .tc := ⟨.hbm, 311, rfl⟩
abbrev main_cst_25 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_cst_26 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_call2_cst : Ref sig .tc := ⟨.hbm, 333, rfl⟩
abbrev main_call2_v0 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_call3_cst : Ref sig .tc := ⟨.hbm, 344, rfl⟩
abbrev main_call3_v0 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩

abbrev nD : Nat := 1
abbrev τ : Topo := Topo.v7x

variable {F : FTy → Type} [FloatOps F]
-- ==== Assign.lean ====
abbrev S32x256x128 : Shape := ⟨3, ![32, 256, 128]⟩
abbrev S32x256x1 : Shape := ⟨3, ![32, 256, 1]⟩
abbrev S256x32x128 : Shape := ⟨3, ![256, 32, 128]⟩
abbrev S32x256 : Shape := ⟨2, ![32, 256]⟩
abbrev S256x32 : Shape := ⟨2, ![256, 32]⟩
abbrev S1x1 : Shape := ⟨2, ![1, 1]⟩
abbrev S32x32x128 : Shape := ⟨3, ![32, 32, 128]⟩
abbrev S32x32 : Shape := ⟨2, ![32, 32]⟩
abbrev S32x32x32 : Shape := ⟨3, ![32, 32, 32]⟩
abbrev S32x16 : Shape := ⟨2, ![32, 16]⟩
abbrev S1x32x128 : Shape := ⟨3, ![1, 32, 128]⟩
abbrev S32x128 : Shape := ⟨2, ![32, 128]⟩
abbrev S32x1x128 : Shape := ⟨3, ![32, 1, 128]⟩
abbrev S32 : Shape := ⟨1, ![32]⟩
abbrev S32x1 : Shape := ⟨2, ![32, 1]⟩
abbrev S32x8 : Shape := ⟨2, ![32, 8]⟩
abbrev S32x4 : Shape := ⟨2, ![32, 4]⟩
abbrev S32x2 : Shape := ⟨2, ![32, 2]⟩
abbrev S32x1x32 : Shape := ⟨3, ![32, 1, 32]⟩
abbrev S32x32x1 : Shape := ⟨3, ![32, 32, 1]⟩
abbrev S1x32 : Shape := ⟨2, ![1, 32]⟩
abbrev S1 : Shape := ⟨1, ![1]⟩
abbrev S1x32x16 : Shape := ⟨3, ![1, 32, 16]⟩
abbrev S32x32x16 : Shape := ⟨3, ![32, 32, 16]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S32x256x128, .f32⟩
  | .hbm, ⟨1, _⟩ => ⟨S32x256x1, .i32⟩
  | .hbm, ⟨2, _⟩ => ⟨S256x32x128, .f32⟩
  | .hbm, ⟨3, _⟩ => ⟨S32x256, .i32⟩
  | .hbm, ⟨4, _⟩ => ⟨S256x32, .i32⟩
  | .hbm, ⟨5, _⟩ => ⟨S256x32, .i32⟩
  | .hbm, ⟨6, _⟩ => ⟨S1x1, .f32⟩
  | .hbm, ⟨7, _⟩ => ⟨S_, .f32⟩
  | .local _ .vmem, ⟨0, _⟩ => ⟨S32x32x128, .f32⟩
  | .local _ .vmem, ⟨1, _⟩ => ⟨S32x32x128, .f32⟩
  | .local _ .vmem, ⟨2, _⟩ => ⟨S32x32, .i32⟩
  | .local _ .vmem, ⟨3, _⟩ => ⟨S32x32, .i32⟩
  | .local _ .vmem, ⟨4, _⟩ => ⟨S32x32, .i32⟩
  | .local _ .vmem, ⟨5, _⟩ => ⟨S32x32, .i32⟩
  | .local _ .vmem, ⟨6, _⟩ => ⟨S1x1, .f32⟩
  | _, _ => ⟨S32x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== AssignReferenceIdeal.lean ====
abbrev S32x256x128 : Shape := ⟨3, ![32, 256, 128]⟩
abbrev S32x256x1 : Shape := ⟨3, ![32, 256, 1]⟩
abbrev S32x1x256x128 : Shape := ⟨4, ![32, 1, 256, 128]⟩
abbrev S1x32x256x128 : Shape := ⟨4, ![1, 32, 256, 128]⟩
abbrev S32x32x256x128 : Shape := ⟨4, ![32, 32, 256, 128]⟩
abbrev S256x32x32x128 : Shape := ⟨4, ![256, 32, 32, 128]⟩
abbrev S256x32x32 : Shape := ⟨3, ![256, 32, 32]⟩
abbrev S_ : Shape := ⟨0, ![]⟩
abbrev S256x32 : Shape := ⟨2, ![256, 32]⟩
abbrev S256x32x1 : Shape := ⟨3, ![256, 32, 1]⟩
abbrev S256x32x16 : Shape := ⟨3, ![256, 32, 16]⟩
abbrev S16 : Shape := ⟨1, ![16]⟩
abbrev S1x1x16 : Shape := ⟨3, ![1, 1, 16]⟩
abbrev S32x256 : Shape := ⟨2, ![32, 256]⟩
abbrev S256 : Shape := ⟨1, ![256]⟩
abbrev S256x1x1 : Shape := ⟨3, ![256, 1, 1]⟩
abbrev S256x32x16x1 : Shape := ⟨4, ![256, 32, 16, 1]⟩
abbrev S256x32x16x2 : Shape := ⟨4, ![256, 32, 16, 2]⟩
abbrev S1x1x1x16 : Shape := ⟨4, ![1, 1, 1, 16]⟩
abbrev S256x32x16x16 : Shape := ⟨4, ![256, 32, 16, 16]⟩

abbrev nBuf : Space → Nat
  | .hbm => 75
  | .vmem => 0
  | .smem => 0
  | _ => 0

abbrev bufTy : (tb : Table) → Fin (tcTables nBuf tb) → BufTy
  | .hbm, ⟨0, _⟩ => ⟨S32x256x128, .f32⟩
  | .hbm, ⟨1, _⟩ => ⟨S32x256x1, .i32⟩
  | .hbm, ⟨2, _⟩ => ⟨S32x1x256x128, .f32⟩
  | .hbm, ⟨3, _⟩ => ⟨S1x32x256x128, .f32⟩
  | .hbm, ⟨4, _⟩ => ⟨S32x32x256x128, .f32⟩
  | .hbm, ⟨5, _⟩ => ⟨S32x32x256x128, .f32⟩
  | .hbm, ⟨6, _⟩ => ⟨S32x32x256x128, .f32⟩
  | .hbm, ⟨7, _⟩ => ⟨S256x32x32x128, .f32⟩
  | .hbm, ⟨8, _⟩ => ⟨S256x32x32, .f32⟩
  | .hbm, ⟨9, _⟩ => ⟨S256x32x32, .f32⟩
  | .hbm, ⟨10, _⟩ => ⟨S_, .f32⟩
  | .hbm, ⟨11, _⟩ => ⟨S256x32, .f32⟩
  | .hbm, ⟨12, _⟩ => ⟨S_, .f32⟩
  | .hbm, ⟨13, _⟩ => ⟨S256x32, .f32⟩
  | .hbm, ⟨14, _⟩ => ⟨S256x32, .f32⟩
  | .hbm, ⟨15, _⟩ => ⟨S256x32x1, .f32⟩
  | .hbm, ⟨16, _⟩ => ⟨S256x32x32, .f32⟩
  | .hbm, ⟨17, _⟩ => ⟨S256x32x32, .f32⟩
  | .hbm, ⟨18, _⟩ => ⟨S256x32x32, .f32⟩
  | .hbm, ⟨19, _⟩ => ⟨S_, .f32⟩
  | .hbm, ⟨20, _⟩ => ⟨S256x32, .f32⟩
  | .hbm, ⟨21, _⟩ => ⟨S256x32x1, .f32⟩
  | .hbm, ⟨22, _⟩ => ⟨S256x32x32, .f32⟩
  | .hbm, ⟨23, _⟩ => ⟨S256x32x32, .f32⟩
  | .hbm, ⟨24, _⟩ => ⟨S256x32x16, .f32⟩
  | .hbm, ⟨25, _⟩ => ⟨S256x32x16, .i32⟩
  | .hbm, ⟨26, _⟩ => ⟨S16, .i32⟩
  | .hbm, ⟨27, _⟩ => ⟨S1x1x16, .i32⟩
  | .hbm, ⟨28, _⟩ => ⟨S256x32x16, .i32⟩
  | .hbm, ⟨29, _⟩ => ⟨S256x32x16, .i1⟩
  | .hbm, ⟨30, _⟩ => ⟨S_, .f32⟩
  | .hbm, ⟨31, _⟩ => ⟨S256x32, .f32⟩
  | .hbm, ⟨32, _⟩ => ⟨S256x32x16, .i32⟩
  | .hbm, ⟨33, _⟩ => ⟨S_, .i32⟩
  | .hbm, ⟨34, _⟩ => ⟨S256x32, .i32⟩
  | .hbm, ⟨35, _⟩ => ⟨S256x32, .f32⟩
  | .hbm, ⟨36, _⟩ => ⟨S256x32, .f32⟩
  | .hbm, ⟨37, _⟩ => ⟨S_, .f32⟩
  | .hbm, ⟨38, _⟩ => ⟨S_, .f32⟩
  | .hbm, ⟨39, _⟩ => ⟨S32x256, .i32⟩
  | .hbm, ⟨40, _⟩ => ⟨S256, .i32⟩
  | .hbm, ⟨41, _⟩ => ⟨S256x1x1, .i32⟩
  | .hbm, ⟨42, _⟩ => ⟨S_, .i32⟩
  | .hbm, ⟨43, _⟩ => ⟨S256x32x16, .i32⟩
  | .hbm, ⟨44, _⟩ => ⟨S256x32x16, .i1⟩
  | .hbm, ⟨45, _⟩ => ⟨S_, .i32⟩
  | .hbm, ⟨46, _⟩ => ⟨S256x32x16, .i32⟩
  | .hbm, ⟨47, _⟩ => ⟨S256x32x16, .i32⟩
  | .hbm, ⟨48, _⟩ => ⟨S256x32x16, .i32⟩
  | .hbm, ⟨49, _⟩ => ⟨S_, .i32⟩
  | .hbm, ⟨50, _⟩ => ⟨S256x1x1, .i32⟩
  | .hbm, ⟨51, _⟩ => ⟨S256x1x1, .i1⟩
  | .hbm, ⟨52, _⟩ => ⟨S_, .i32⟩
  | .hbm, ⟨53, _⟩ => ⟨S256x1x1, .i32⟩
  | .hbm, ⟨54, _⟩ => ⟨S256x1x1, .i32⟩
  | .hbm, ⟨55, _⟩ => ⟨S256x1x1, .i32⟩
  | .hbm, ⟨56, _⟩ => ⟨S256x32x16, .i32⟩
  | .hbm, ⟨57, _⟩ => ⟨S256x32x16x1, .i32⟩
  | .hbm, ⟨58, _⟩ => ⟨S256x32x16x1, .i32⟩
  | .hbm, ⟨59, _⟩ => ⟨S256x32x16x2, .i32⟩
  | .hbm, ⟨60, _⟩ => ⟨S256x32x16, .i32⟩
  | .hbm, ⟨61, _⟩ => ⟨S256x32x16x1, .i32⟩
  | .hbm, ⟨62, _⟩ => ⟨S16, .i32⟩
  | .hbm, ⟨63, _⟩ => ⟨S1x1x1x16, .i32⟩
  | .hbm, ⟨64, _⟩ => ⟨S256x32x16x16, .i32⟩
  | .hbm, ⟨65, _⟩ => ⟨S256x32x16x16, .i32⟩
  | .hbm, ⟨66, _⟩ => ⟨S256x32x16x16, .i1⟩
  | .hbm, ⟨67, _⟩ => ⟨S256x32x16x16, .i32⟩
  | .hbm, ⟨68, _⟩ => ⟨S_, .i32⟩
  | .hbm, ⟨69, _⟩ => ⟨S256x32x16, .i32⟩
  | .hbm, ⟨70, _⟩ => ⟨S256x32x16, .i32⟩
  | .hbm, ⟨71, _⟩ => ⟨S_, .i32⟩
  | .hbm, ⟨72, _⟩ => ⟨S_, .i32⟩
  | .hbm, ⟨73, _⟩ => ⟨S256x32, .i32⟩
  | .hbm, ⟨74, _⟩ => ⟨S256x32, .i32⟩
  | _, _ => ⟨S32x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_values : Ref sig .tc := ⟨.hbm, 24, rfl⟩
abbrev main_indices : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_8 : Ref sig .tc := ⟨.hbm, 68, rfl⟩
abbrev main_v54 : Ref sig .tc := ⟨.hbm, 69, rfl⟩
abbrev main_call0_v0 : Ref sig .tc := ⟨.hbm, 70, rfl⟩
abbrev main_call0_c : Ref sig .tc := ⟨.hbm, 71, rfl⟩
abbrev main_call0_c_0 : Ref sig .tc := ⟨.hbm, 72, rfl⟩
abbrev main_call0_v1_0 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Ari.lean ====
abbrev S256x32 : Shape := ⟨2, ![256, 32]⟩
abbrev S32x256x1 : Shape := ⟨3, ![32, 256, 1]⟩
abbrev S8192 : Shape := ⟨1, ![8192]⟩
abbrev S16x16 : Shape := ⟨2, ![16, 16]⟩
abbrev S256x32x16 : Shape := ⟨3, ![256, 32, 16]⟩
abbrev S256x32x1 : Shape := ⟨3, ![256, 32, 1]⟩
abbrev S32x16 : Shape := ⟨2, ![32, 16]⟩
abbrev S16 : Shape := ⟨1, ![16]⟩
abbrev S1x16 : Shape := ⟨2, ![1, 16]⟩
abbrev S_ : Shape := ⟨0, ![]⟩

abbrev nBuf : Space → Nat
  | .hbm => 53
  | .vmem => 3
  | .smem => 0
  | _ => 0

abbrev bufTy : (tb : Table) → Fin (tcTables nBuf tb) → BufTy
  | .hbm, ⟨0, _⟩ => ⟨S256x32, .i32⟩
  | .hbm, ⟨1, _⟩ => ⟨S32x256x1, .i32⟩
  | .hbm, ⟨2, _⟩ => ⟨S8192, .i32⟩
  | .hbm, ⟨3, _⟩ => ⟨S256x32, .i32⟩
  | .hbm, ⟨4, _⟩ => ⟨S16x16, .f32⟩
  | .hbm, ⟨5, _⟩ => ⟨S_, .f32⟩
  | .hbm, ⟨6, _⟩ => ⟨S16x16, .f32⟩
  | .hbm, ⟨7, _⟩ => ⟨S16x16, .f32⟩
  | .hbm, ⟨8, _⟩ => ⟨S16x16, .f32⟩
  | .hbm, ⟨9, _⟩ => ⟨S_, .f32⟩
  | .hbm, ⟨10, _⟩ => ⟨S16x16, .f32⟩
  | .hbm, ⟨11, _⟩ => ⟨S16x16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S256x32, .i32⟩
  | .local _ .vmem, ⟨1, _⟩ => ⟨S256x32, .i32⟩
  | .local _ .vmem, ⟨2, _⟩ => ⟨S16x16, .f32⟩
  | _, _ => ⟨S256x32, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩
abbrev main_cst_10 : Ref sig .tc := ⟨.hbm, 36, rfl⟩
abbrev main_cst_11 : Ref sig .tc := ⟨.hbm, 37, rfl⟩
abbrev main_v23 : Ref sig .tc := ⟨.hbm, 38, rfl⟩
abbrev main_cst_12 : Ref sig .tc := ⟨.hbm, 39, rfl⟩
abbrev main_v24 : Ref sig .tc := ⟨.hbm, 40, rfl⟩
abbrev main_cst_13 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_14 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_15 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AriReferenceIdeal.lean ====
abbrev S256x32 : Shape := ⟨2, ![256, 32]⟩
abbrev S32x256x1 : Shape := ⟨3, ![32, 256, 1]⟩
abbrev S8192 : Shape := ⟨1, ![8192]⟩
abbrev S_ : Shape := ⟨0, ![]⟩
abbrev S256 : Shape := ⟨1, ![256]⟩
abbrev S8192x1 : Shape := ⟨2, ![8192, 1]⟩
abbrev S16x16 : Shape := ⟨2, ![16, 16]⟩
abbrev S16 : Shape := ⟨1, ![16]⟩

abbrev nBuf : Space → Nat
  | .hbm => 75
  | .vmem => 0
  | .smem => 0
  | _ => 0

abbrev bufTy : (tb : Table) → Fin (tcTables nBuf tb) → BufTy
  | .hbm, ⟨0, _⟩ => ⟨S256x32, .i32⟩
  | .hbm, ⟨1, _⟩ => ⟨S32x256x1, .i32⟩
  | .hbm, ⟨2, _⟩ => ⟨S8192, .i32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S_, .i32⟩
  | .hbm, ⟨23, _⟩ => ⟨S8192, .i32⟩
  | .hbm, ⟨24, _⟩ => ⟨S256, .i32⟩
  | .hbm, ⟨25, _⟩ => ⟨S16x16, .i32⟩
  | .hbm, ⟨26, _⟩ => ⟨S16x16, .f32⟩
  | .hbm, ⟨27, _⟩ => ⟨S_, .f32⟩
  | .hbm, ⟨28, _⟩ => ⟨S16x16, .f32⟩
  | .hbm, ⟨29, _⟩ => ⟨S16x16, .f32⟩
  | .hbm, ⟨30, _⟩ => ⟨S16x16, .f32⟩
  | .hbm, ⟨31, _⟩ => ⟨S_, .f32⟩
  | .hbm, ⟨32, _⟩ => ⟨S16x16, .f32⟩
  | .hbm, ⟨33, _⟩ => ⟨S16x16, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S256x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_cst_11 : Ref sig .tc := ⟨.hbm, 47, rfl⟩
abbrev main_v30 : Ref sig .tc := ⟨.hbm, 48, rfl⟩
abbrev main_cst_12 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_13 : Ref sig .tc := ⟨.hbm, 53, rfl⟩
abbrev main_v34 : Ref sig .tc := ⟨.hbm, 54, rfl⟩
abbrev main_v35 : Ref sig .tc := ⟨.hbm, 55, rfl⟩
abbrev main_cst_14 : Ref sig .tc := ⟨.hbm, 56, rfl⟩
abbrev main_v36 : Ref sig .tc := ⟨.hbm, 57, rfl⟩
abbrev main_cst_15 : Ref sig .tc := ⟨.hbm, 58, rfl⟩
abbrev main_cst_16 : Ref sig .tc := ⟨.hbm, 59, rfl⟩
abbrev main_v37 : Ref sig .tc := ⟨.hbm, 60, rfl⟩
abbrev main_cst_17 : Ref sig .tc := ⟨.hbm, 61, rfl⟩
abbrev main_v38 : Ref sig .tc := ⟨.hbm, 62, rfl⟩
abbrev main_cst_18 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_19 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_20 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]
-- ==== Proof.Stages.lean ====
/- The kernel's body for ONE batch row, cut into named stages: the encoder's linear map, a linear layer, one attention
   head, the eight heads side by side, the row sum by halves, the layer normalisation, the feed-forward block, the
   auto-encoder. Each is written with the operations the body prints, over variable inputs. -/
module

public import proofs.«01_k».proof.Proof.Gen.KernelIdeal.Frame

@[expose] public section

set_option maxRecDepth 16384

noncomputable section

namespace Cert.KernelIdeal.Stage

open Cert.KernelIdeal Cert.KernelIdeal.Gen Idealize.ShloMosaic Idealize.ShloMosaic.TcCoe Idealize.SL.Sem

variable {F : FTy → Type} [FloatOps F]

/-- A whole-vector bias spread over the 256 rows. -/
def rows (b : FVec F S128 .f32) : FVec F S256x128 .f32 :=
  broadcastTo S256x128 (shapeCast S1x128 b shapeCasts_S128_S1x128) broadcasts_S1x128_S256x128

/-- A layer's row of a parameter table, as the body reshapes it. -/
def row (b : FVec F S1x128 .f32) : FVec F S1x128 .f32 :=
  shapeCast S1x128 (shapeCast S128 b shapeCasts_S1x128_S128) shapeCasts_S128_S1x128

/-- A 128-by-128 linear map with a whole-vector bias. -/
def dense (X : FVec F S256x128 .f32) (W : FVec F S128x128 .f32) (b : FVec F S128 .f32) : FVec F S256x128 .f32 :=
  addf (matmul dot_S256x128_S128x128_S256x128_1_0_0_1_n_n none X W (constant S256x128 .f32 0x00000000#32)) (rows b)

/-- A linear map with one layer's weights and bias row. -/
def linear (X : FVec F S256x128 .f32) (W : FVec F S1x128x128 .f32) (b : FVec F S1x128 .f32) : FVec F S256x128 .f32 :=
  addf (matmul dot_S256x128_S128x128_S256x128_1_0_0_1_n_n none X (shapeCast S128x128 W shapeCasts_S1x128x128_S128x128) (constant S256x128 .f32 0x00000000#32))
    (broadcastTo S256x128 (row b) broadcasts_S1x128_S256x128)

/-- The scores of one head: the products of its query and key columns over the root of 16. -/
def scores (Q K : FVec F S256x16 .f32) : FVec F S256x256 .f32 :=
  divf (matmul dot_S256x16_S256x16_S256x256_1_1_0_0_n_n none Q K (constant S256x256 .f32 0x00000000#32))
    (broadcast S256x256 (Scalar.sqrt (Scalar.ofBits .f32 0x41800000#32)))

/-- The exponentials of the scores less their row maximum. -/
def weights (Q K : FVec F S256x16 .f32) : FVec F S256x256 .f32 :=
  exp (subf (scores Q K) (broadcastTo S256x256 (shapeCast S256x1
    (multiReduction .maximumf [1] S256 (scores Q K) 0xFF800000#32 reduces_S256x256_S256 (.inl rfl) rfl) shapeCasts_S256_S256x1)
    broadcasts_S256x1_S256x256))

/-- One head: the weights times the value columns, divided by the weights' row sum. -/
def head (o : ℕ) (hs : S256x128.Slices ![0, o] S256x16) (Q K V : FVec F S256x128 .f32) : FVec F S256x16 .f32 :=
  let e : FVec F S256x256 .f32 := weights (extractStridedSlice S256x16 ![0, o] Q hs) (extractStridedSlice S256x16 ![0, o] K hs)
  divf (matmul dot_S256x256_S256x16_S256x16_1_0_0_1_n_n none e (extractStridedSlice S256x16 ![0, o] V hs) (constant S256x16 .f32 0x00000000#32))
    (broadcastTo S256x16 (shapeCast S256x1
      (multiReduction .add [1] S256 e 0x00000000#32 reduces_S256x256_S256 (.inl rfl) rfl) shapeCasts_S256_S256x1) broadcasts_S256x1_S256x16)

/-- The eight heads side by side. -/
def heads (Q K V : FVec F S256x128 .f32) : FVec F S256x128 .f32 :=
  concatenate S256x128 1 [⟨S256x16, head 0 slices_S256x128_o0_0_S256x16 Q K V⟩, ⟨S256x16, head 16 slices_S256x128_o0_16_S256x16 Q K V⟩, ⟨S256x16, head 32 slices_S256x128_o0_32_S256x16 Q K V⟩, ⟨S256x16, head 48 slices_S256x128_o0_48_S256x16 Q K V⟩, ⟨S256x16, head 64 slices_S256x128_o0_64_S256x16 Q K V⟩, ⟨S256x16, head 80 slices_S256x128_o0_80_S256x16 Q K V⟩, ⟨S256x16, head 96 slices_S256x128_o0_96_S256x16 Q K V⟩, ⟨S256x16, head 112 slices_S256x128_o0_112_S256x16 Q K V⟩]
    concatenates_S256x16_S256x16_S256x16_S256x16_S256x16_S256x16_S256x16_S256x16_S256x128_d1

/-- The sixteen groups of eight columns added up. -/
def sum8 (v : FVec F S256x128 .f32) : FVec F S256x8 .f32 :=
  let a1 : FVec F S256x8 .f32 := addf (extractStridedSlice S256x8 ![0, 0] v slices_S256x128_o0_0_S256x8) (extractStridedSlice S256x8 ![0, 8] v slices_S256x128_o0_8_S256x8)
  let a2 : FVec F S256x8 .f32 := addf a1 (extractStridedSlice S256x8 ![0, 16] v slices_S256x128_o0_16_S256x8)
  let a3 : FVec F S256x8 .f32 := addf a2 (extractStridedSlice S256x8 ![0, 24] v slices_S256x128_o0_24_S256x8)
  let a4 : FVec F S256x8 .f32 := addf a3 (extractStridedSlice S256x8 ![0, 32] v slices_S256x128_o0_32_S256x8)
  let a5 : FVec F S256x8 .f32 := addf a4 (extractStridedSlice S256x8 ![0, 40] v slices_S256x128_o0_40_S256x8)
  let a6 : FVec F S256x8 .f32 := addf a5 (extractStridedSlice S256x8 ![0, 48] v slices_S256x128_o0_48_S256x8)
  let a7 : FVec F S256x8 .f32 := addf a6 (extractStridedSlice S256x8 ![0, 56] v slices_S256x128_o0_56_S256x8)
  let a8 : FVec F S256x8 .f32 := addf a7 (extractStridedSlice S256x8 ![0, 64] v slices_S256x128_o0_64_S256x8)
  let a9 : FVec F S256x8 .f32 := addf a8 (extractStridedSlice S256x8 ![0, 72] v slices_S256x128_o0_72_S256x8)
  let a10 : FVec F S256x8 .f32 := addf a9 (extractStridedSlice S256x8 ![0, 80] v slices_S256x128_o0_80_S256x8)
  let a11 : FVec F S256x8 .f32 := addf a10 (extractStridedSlice S256x8 ![0, 88] v slices_S256x128_o0_88_S256x8)
  let a12 : FVec F S256x8 .f32 := addf a11 (extractStridedSlice S256x8 ![0, 96] v slices_S256x128_o0_96_S256x8)
  let a13 : FVec F S256x8 .f32 := addf a12 (extractStridedSlice S256x8 ![0, 104] v slices_S256x128_o0_104_S256x8)
  let a14 : FVec F S256x8 .f32 := addf a13 (extractStridedSlice S256x8 ![0, 112] v slices_S256x128_o0_112_S256x8)
  let a15 : FVec F S256x8 .f32 := addf a14 (extractStridedSlice S256x8 ![0, 120] v slices_S256x128_o0_120_S256x8)
  a15

/-- The eight columns added up by halves. -/
def fold8 (v : FVec F S256x8 .f32) : FVec F S256x1 .f32 :=
  let b : FVec F S256x4 .f32 := addf (extractStridedSlice S256x4 ![0, 0] v slices_S256x8_o0_0_S256x4) (extractStridedSlice S256x4 ![0, 4] v slices_S256x8_o0_4_S256x4)
  let c : FVec F S256x2 .f32 := addf (extractStridedSlice S256x2 ![0, 0] b slices_S256x4_o0_0_S256x2) (extractStridedSlice S256x2 ![0, 2] b slices_S256x4_o0_2_S256x2)
  addf (extractStridedSlice S256x1 ![0, 0] c slices_S256x2_o0_0_S256x1) (extractStridedSlice S256x1 ![0, 1] c slices_S256x2_o0_1_S256x1)

/-- The row mean: the row sum times 1/128. -/
def mean (v : FVec F S256x128 .f32) : FVec F S256x1 .f32 :=
  mulf (fold8 (sum8 v)) (broadcast S256x1 (Scalar.ofBits .f32 0x3C000000#32))

/-- A row less its mean. -/
def centre (X : FVec F S256x128 .f32) : FVec F S256x128 .f32 :=
  subf X (broadcastTo S256x128 (mean X) broadcasts_S256x1_S256x128)

/-- The layer normalisation with a scale and a shift row. -/
def norm (X : FVec F S256x128 .f32) (g b : FVec F S1x128 .f32) : FVec F S256x128 .f32 :=
  addf (mulf (divf (centre X) (broadcastTo S256x128
      (sqrt (addf (mean (mulf (centre X) (centre X))) (broadcast S256x1 (Scalar.ofBits .f32 0x3727C5AC#32)))) broadcasts_S256x1_S256x128))
    (broadcastTo S256x128 (row g) broadcasts_S1x128_S256x128)) (broadcastTo S256x128 (row b) broadcasts_S1x128_S256x128)

/-- The feed-forward block added to its input. -/
def ffn (X : FVec F S256x128 .f32) (W1 : FVec F S1x128x512 .f32) (b1 : FVec F S1x512 .f32) (W2 : FVec F S1x512x128 .f32) (b2 : FVec F S1x128 .f32) :
    FVec F S256x128 .f32 :=
  addf X (addf (matmul dot_S256x512_S512x128_S256x128_1_0_0_1_n_n none
      (maximumf (addf (matmul dot_S256x128_S128x512_S256x512_1_0_0_1_n_n none X (shapeCast S128x512 W1 shapeCasts_S1x128x512_S128x512) (constant S256x512 .f32 0x00000000#32))
          (broadcastTo S256x512 (shapeCast S1x512 (shapeCast S512 b1 shapeCasts_S1x512_S512) shapeCasts_S512_S1x512) broadcasts_S1x512_S256x512))
        (broadcast S256x512 (Scalar.ofBits .f32 0x00000000#32)))
      (shapeCast S512x128 W2 shapeCasts_S1x512x128_S512x128) (constant S256x128 .f32 0x00000000#32))
    (broadcastTo S256x128 (row b2) broadcasts_S1x128_S256x128))

/-- One encoder layer: attention with its projection, the residual and the first normalisation, the feed-forward block
    and the second normalisation. -/
def layer (X : FVec F S256x128 .f32) (Wq : FVec F S1x128x128 .f32) (bq : FVec F S1x128 .f32) (Wk : FVec F S1x128x128 .f32) (bk : FVec F S1x128 .f32)
    (Wv : FVec F S1x128x128 .f32) (bv : FVec F S1x128 .f32) (Wo : FVec F S1x128x128 .f32) (bo : FVec F S1x128 .f32)
    (W1 : FVec F S1x128x512 .f32) (b1 : FVec F S1x512 .f32) (W2 : FVec F S1x512x128 .f32) (b2 : FVec F S1x128 .f32)
    (g1 c1 g2 c2 : FVec F S1x128 .f32) : FVec F S256x128 .f32 :=
  norm (ffn (norm (addf X (linear (heads (linear X Wq bq) (linear X Wk bk) (linear X Wv bv)) Wo bo)) g1 c1) W1 b1 W2 b2) g2 c2

/-- The maximum with zero, element by element. -/
def relu (X : FVec F S256x128 .f32) : FVec F S256x128 .f32 :=
  maximumf X (broadcast S256x128 (Scalar.ofBits .f32 0x00000000#32))

/-- The four linear maps of the auto-encoder. -/
def auto (X : FVec F S256x128 .f32) (E1 : FVec F S128x128 .f32) (e1 : FVec F S128 .f32) (E2 : FVec F S128x128 .f32) (e2 : FVec F S128 .f32)
    (D1 : FVec F S128x128 .f32) (d1 : FVec F S128 .f32) (D2 : FVec F S128x128 .f32) (d2 : FVec F S128 .f32) : FVec F S256x128 .f32 :=
  dense (relu (dense (dense (relu (dense X E1 e1)) E2 e2) D1 d1)) D2 d2

end Cert.KernelIdeal.Stage

end
-- ==== Proof.Enc.lean ====
/- The mathematics of the encoder over the extended reals, one batch row at a time: a row set is a function of a position
   and a column. No program is mentioned here. -/
module

public import Idealize.ShloMosaic.Lib.Pointwise
public import Idealize.ShloMosaic.PureOps

@[expose] public section

noncomputable section

namespace Cert.Enc

open Idealize.ShloMosaic

/-- The bit patterns of the constants both programs carry, as extended reals. -/
theorem c16 : Ideal.ofBits .f32 0x41800000#32 = ((16 : ℝ) : EReal) := by
  simp [Ideal.ofBits, Ideal.ieee, -EReal.coe_mul]; norm_num
/-- The pattern of 128. -/
theorem c128 : Ideal.ofBits .f32 0x43000000#32 = ((128 : ℝ) : EReal) := by
  simp [Ideal.ofBits, Ideal.ieee, -EReal.coe_mul]; norm_num
/-- The pattern of 1/128. -/
theorem cinv : Ideal.ofBits .f32 0x3C000000#32 = ((1 / 128 : ℝ) : EReal) := by
  simp [Ideal.ofBits, Ideal.ieee, -EReal.coe_mul]; norm_num
/-- The pattern of minus infinity. -/
theorem cbot : Ideal.ofBits .f32 0xFF800000#32 = (⊥ : EReal) := by
  simp [Ideal.ofBits, Ideal.ieee]
/-- The normalisation's small constant is a positive real. -/
theorem ceps : ∃ r : ℝ, 0 < r ∧ Ideal.ofBits .f32 0x3727C5AC#32 = (r : EReal) := by
  refine ⟨_, ?_, by simp [Ideal.ofBits, Ideal.ieee]; rfl⟩
  norm_num

/-- A linear map with bias. -/
def lin {k n : ℕ} (X : Fin 256 → Fin k → EReal) (W : Fin k → Fin n → EReal) (b : Fin n → EReal) : Fin 256 → Fin n → EReal :=
  fun s j => (∑ i, X s i * W i j) + b j

/-- Column `d` of head `h`. -/
def col (h : Fin 8) (d : Fin 16) : Fin 128 := ⟨h.val * 16 + d.val, by omega⟩

/-- The head a column belongs to. -/
def hd (j : Fin 128) : Fin 8 := ⟨j.val / 16, by omega⟩

/-- The score of position `t` for position `s` in head `h`. -/
def score (Q K : Fin 256 → Fin 128 → EReal) (h : Fin 8) (s t : Fin 256) : EReal :=
  Ideal.div (∑ d : Fin 16, Q s (col h d) * K t (col h d)) (Ideal.sqrt (Ideal.ofBits .f32 0x41800000#32))

/-- The largest score of a row. -/
def top (Q K : Fin 256 → Fin 128 → EReal) (h : Fin 8) (s : Fin 256) : EReal :=
  Finset.univ.fold max (Ideal.ofBits .f32 0xFF800000#32) fun t => score Q K h s t

/-- The exponential weight of a score. -/
def wt (Q K : Fin 256 → Fin 128 → EReal) (h : Fin 8) (s t : Fin 256) : EReal :=
  Ideal.exp (score Q K h s t - top Q K h s)

/-- Attention, divided after the products are summed. -/
def attK (Q K V : Fin 256 → Fin 128 → EReal) : Fin 256 → Fin 128 → EReal := fun s j =>
  Ideal.div (∑ t, wt Q K (hd j) s t * V t j) (∑ t, wt Q K (hd j) s t)

/-- Attention, each weight divided first. -/
def attR (Q K V : Fin 256 → Fin 128 → EReal) : Fin 256 → Fin 128 → EReal := fun s j =>
  ∑ t, Ideal.div (wt Q K (hd j) s t) (∑ u, wt Q K (hd j) s u) * V t j

/-- The mean of a row. -/
def mean (X : Fin 256 → Fin 128 → EReal) (s : Fin 256) : EReal :=
  Ideal.div (∑ j, X s j) (Ideal.ofBits .f32 0x43000000#32)

/-- The layer normalisation. -/
def norm (X : Fin 256 → Fin 128 → EReal) (g b : Fin 128 → EReal) : Fin 256 → Fin 128 → EReal := fun s j =>
  Ideal.div (X s j - mean X s) (Ideal.sqrt (mean (fun s j => (X s j - mean X s) * (X s j - mean X s)) s + Ideal.ofBits .f32 0x3727C5AC#32)) * g j + b j

/-- The maximum with zero. -/
def relu {n : ℕ} (X : Fin 256 → Fin n → EReal) : Fin 256 → Fin n → EReal := fun s j => max (X s j) 0

/-- The feed-forward block added to its input. -/
def ffn (X : Fin 256 → Fin 128 → EReal) (W1 : Fin 128 → Fin 512 → EReal) (b1 : Fin 512 → EReal) (W2 : Fin 512 → Fin 128 → EReal) (b2 : Fin 128 → EReal) :
    Fin 256 → Fin 128 → EReal := fun s j => X s j + lin (relu (lin X W1 b1)) W2 b2 s j

/-- The weights of one encoder layer. -/
structure Par where
  Wq : Fin 128 → Fin 128 → EReal
  bq : Fin 128 → EReal
  Wk : Fin 128 → Fin 128 → EReal
  bk : Fin 128 → EReal
  Wv : Fin 128 → Fin 128 → EReal
  bv : Fin 128 → EReal
  Wo : Fin 128 → Fin 128 → EReal
  bo : Fin 128 → EReal
  W1 : Fin 128 → Fin 512 → EReal
  b1 : Fin 512 → EReal
  W2 : Fin 512 → Fin 128 → EReal
  b2 : Fin 128 → EReal
  g1 : Fin 128 → EReal
  c1 : Fin 128 → EReal
  g2 : Fin 128 → EReal
  c2 : Fin 128 → EReal

/-- One encoder layer, with attention taken in the form `att`. -/
def layer (att : (Fin 256 → Fin 128 → EReal) → (Fin 256 → Fin 128 → EReal) → (Fin 256 → Fin 128 → EReal) → Fin 256 → Fin 128 → EReal)
    (X : Fin 256 → Fin 128 → EReal) (P : Par) : Fin 256 → Fin 128 → EReal :=
  norm (ffn (norm (fun s j => X s j + lin (att (lin X P.Wq P.bq) (lin X P.Wk P.bk) (lin X P.Wv P.bv)) P.Wo P.bo s j) P.g1 P.c1) P.W1 P.b1 P.W2 P.b2) P.g2 P.c2

/-! ## Which values are real -/

/-- An extended real that is a real number. -/
def Fin' (x : EReal) : Prop := ∃ r : ℝ, x = (r : EReal)

/-- A sum of reals is real. -/
theorem Fin'.add {x y : EReal} (hx : Fin' x) (hy : Fin' y) : Fin' (x + y) := by
  obtain ⟨a, rfl⟩ := hx; obtain ⟨b, rfl⟩ := hy; exact ⟨a + b, by simp⟩
/-- A product of reals is real. -/
theorem Fin'.mul {x y : EReal} (hx : Fin' x) (hy : Fin' y) : Fin' (x * y) := by
  obtain ⟨a, rfl⟩ := hx; obtain ⟨b, rfl⟩ := hy; exact ⟨a * b, by simp⟩
/-- A finite sum of reals is real. -/
theorem Fin'.sum {ι : Type*} (S : Finset ι) (f : ι → EReal) (h : ∀ i, Fin' (f i)) : Fin' (∑ i ∈ S, f i) := by
  classical
  induction S using Finset.induction_on with
  | empty => exact ⟨0, by simp⟩
  | insert a S ha ih => rw [Finset.sum_insert ha]; exact (h a).add ih

/-- A linear map of real rows with real weights is real. -/
theorem lin_real {k n : ℕ} (X : Fin 256 → Fin k → EReal) (W : Fin k → Fin n → EReal) (b : Fin n → EReal)
    (hX : ∀ s i, Fin' (X s i)) (hW : ∀ i j, Fin' (W i j)) (hb : ∀ j, Fin' (b j)) (s : Fin 256) (j : Fin n) : Fin' (lin X W b s j) :=
  (Fin'.sum _ _ fun i => (hX s i).mul (hW i j)).add (hb j)

/-- Scores of real queries and keys are real. -/
theorem score_real (Q K : Fin 256 → Fin 128 → EReal) (hQ : ∀ s j, Fin' (Q s j)) (hK : ∀ s j, Fin' (K s j)) (h : Fin 8) (s t : Fin 256) :
    Fin' (score Q K h s t) := by
  have h4 : Real.sqrt 16 ≠ 0 := by positivity
  unfold score
  rw [c16, Ideal.sqrt_coe, if_neg (by norm_num), Ideal.div_coe h4]
  exact (Fin'.sum _ _ fun d => (hQ s _).mul (hK t _)).mul ⟨_, rfl⟩

/-- The largest of real scores is one of them. -/
theorem top_eq (Q K : Fin 256 → Fin 128 → EReal) (h : Fin 8) (s : Fin 256) : ∃ t, top Q K h s = score Q K h s t := by
  obtain ⟨t, -, ht⟩ := Finset.exists_mem_eq_sup (Finset.univ : Finset (Fin 256)) ⟨0, Finset.mem_univ _⟩ fun t => score Q K h s t
  refine ⟨t, Eq.trans ?_ ht⟩
  unfold top; rw [cbot]; rfl

/-- The weights of real queries and keys are positive reals. -/
theorem wt_real (Q K : Fin 256 → Fin 128 → EReal) (hQ : ∀ s j, Fin' (Q s j)) (hK : ∀ s j, Fin' (K s j)) (h : Fin 8) (s t : Fin 256) :
    ∃ r : ℝ, 0 < r ∧ wt Q K h s t = (r : EReal) := by
  obtain ⟨u, hu⟩ := top_eq Q K h s
  obtain ⟨a, ha⟩ := score_real Q K hQ hK h s t
  obtain ⟨b, hb⟩ := score_real Q K hQ hK h s u
  refine ⟨Real.exp (a - b), Real.exp_pos _, ?_⟩
  unfold wt
  rw [hu, ha, hb, ← EReal.coe_sub, Ideal.exp_coe]

/-- Multiplication by a nonnegative real spreads over a sum of any extended reals. -/
theorem sum_mul_real {ι : Type*} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top _) _ _

/-- With real queries and keys the two forms of attention agree, whatever the values are. -/
theorem att_eq (Q K V : Fin 256 → Fin 128 → EReal) (hQ : ∀ s j, Fin' (Q s j)) (hK : ∀ s j, Fin' (K s j)) : attK Q K V = attR Q K V := by
  funext s j
  choose w hw hwe using fun t => wt_real Q K hQ hK (hd j) s t
  have hs : (∑ t, wt Q K (hd j) s t) = ((∑ t, w t : ℝ) : EReal) := by
    rw [Finset.sum_congr rfl fun t _ => hwe t]
    exact (map_sum (⟨⟨fun r : ℝ => (r : EReal), rfl⟩, fun a b => EReal.coe_add a b⟩ : ℝ →+ EReal) w Finset.univ).symm
  have hp : 0 < ∑ t, w t := Finset.sum_pos (fun t _ => hw t) ⟨0, Finset.mem_univ _⟩
  unfold attK attR
  rw [hs, Ideal.div_coe hp.ne', sum_mul_real _ _ _ (by positivity)]
  refine Finset.sum_congr rfl fun t _ => ?_
  rw [Ideal.div_coe hp.ne', mul_right_comm]

/-- The square of any extended real is nonnegative. -/
theorem sq_nonneg' (x : EReal) : 0 ≤ x * x := by
  induction x with
  | bot => simp
  | top => simp
  | coe r => exact_mod_cast mul_self_nonneg r

/-- A layer normalisation with a real scale and shift is real, whatever the row is. -/
theorem norm_real (X : Fin 256 → Fin 128 → EReal) (g b : Fin 128 → EReal) (hg : ∀ j, Fin' (g j)) (hb : ∀ j, Fin' (b j)) (s : Fin 256) (j : Fin 128) :
    Fin' (norm X g b s j) := by
  unfold norm
  refine Fin'.add (Fin'.mul ?_ (hg j)) (hb j)
  generalize hm : mean X s = μ
  obtain ⟨e, he, hee⟩ := ceps
  have hv : mean (fun s j => (X s j - mean X s) * (X s j - mean X s)) s = (∑ j, (X s j - μ) * (X s j - μ)) * ((1 / 128 : ℝ) : EReal) := by
    show Ideal.div (∑ j, (X s j - mean X s) * (X s j - mean X s)) _ = _
    rw [hm, c128, Ideal.div_coe (by norm_num)]
  rw [hv, hee]
  by_cases hall : ∀ i, Fin' (X s i - μ)
  · choose t ht using hall
    have hsum : (∑ j, (X s j - μ) * (X s j - μ)) = ((∑ j, t j * t j : ℝ) : EReal) := by
      rw [Finset.sum_congr rfl fun i _ => by rw [ht i, ← EReal.coe_mul]]
      exact (map_sum (⟨⟨fun r : ℝ => (r : EReal), rfl⟩, fun a b => EReal.coe_add a b⟩ : ℝ →+ EReal) (fun i => t i * t i) Finset.univ).symm
    have h0 : 0 ≤ ∑ j, t j * t j := Finset.sum_nonneg fun i _ => mul_self_nonneg _
    have hpos : 0 < (∑ j, t j * t j) * (1 / 128) + e := by positivity
    rw [hsum, ← EReal.coe_mul, ← EReal.coe_add, Ideal.sqrt_coe, if_neg (not_lt.2 hpos.le), Ideal.div_coe (Real.sqrt_pos.2 hpos).ne', ht j, ← EReal.coe_mul]
    exact ⟨_, rfl⟩
  · push Not at hall
    obtain ⟨i, hi⟩ := hall
    have hti : (X s i - μ) * (X s i - μ) = ⊤ := by
      generalize X s i - μ = y at hi
      induction y with
      | bot => simp
      | top => simp
      | coe r => exact absurd ⟨r, rfl⟩ hi
    have hsum : (∑ j, (X s j - μ) * (X s j - μ)) = ⊤ := by
      refine top_le_iff.1 ?_
      rw [← hti]
      exact Finset.single_le_sum (f := fun j => (X s j - μ) * (X s j - μ)) (fun k _ => sq_nonneg' _) (Finset.mem_univ i)
    rw [hsum, EReal.top_mul_coe_of_pos (by norm_num), EReal.top_add_coe, Ideal.sqrt_top]
    refine ⟨0, ?_⟩
    generalize X s j - μ = y
    induction y with
    | bot => simp [Ideal.div]
    | top => simp [Ideal.div]
    | coe r => simp [Ideal.div]

/-- A layer's output is real when its last scale and shift are. -/
theorem layer_real (att) (X : Fin 256 → Fin 128 → EReal) (P : Par) (hg : ∀ j, Fin' (P.g2 j)) (hc : ∀ j, Fin' (P.c2 j)) (s : Fin 256) (j : Fin 128) :
    Fin' (layer att X P s j) := norm_real _ _ _ hg hc s j

/-- A layer is the same with either form of attention when its input, its query and key maps are real. -/
theorem layer_eq (X : Fin 256 → Fin 128 → EReal) (P : Par) (hX : ∀ s j, Fin' (X s j)) (hWq : ∀ i j, Fin' (P.Wq i j)) (hbq : ∀ j, Fin' (P.bq j))
    (hWk : ∀ i j, Fin' (P.Wk i j)) (hbk : ∀ j, Fin' (P.bk j)) : layer attK X P = layer attR X P := by
  unfold layer
  rw [att_eq _ _ _ (lin_real X P.Wq P.bq hX hWq hbq) (lin_real X P.Wk P.bk hX hWk hbk)]

/-- The auto-encoder's four linear maps. -/
def auto (X : Fin 256 → Fin 128 → EReal) (E1 : Fin 128 → Fin 128 → EReal) (e1 : Fin 128 → EReal) (E2 : Fin 128 → Fin 128 → EReal) (e2 : Fin 128 → EReal)
    (D1 : Fin 128 → Fin 128 → EReal) (d1 : Fin 128 → EReal) (D2 : Fin 128 → Fin 128 → EReal) (d2 : Fin 128 → EReal) : Fin 256 → Fin 128 → EReal :=
  lin (relu (lin (lin (relu (lin X E1 e1)) E2 e2) D1 d1)) D2 d2

end Cert.Enc

end
-- ==== Proof.KRead.lean ====
/- The kernel's stages read at an index, as the encoder's mathematics. -/
module

public import proofs.«01_k».proof.Proof.Stages
public import proofs.«01_k».proof.Proof.Enc
public import Idealize.ShloMosaic.Lib.Pointwise

@[expose] public section

set_option maxRecDepth 16384

noncomputable section

namespace Cert.KernelIdeal.Stage

open Cert.KernelIdeal Cert.KernelIdeal.Gen Idealize.ShloMosaic Idealize.ShloMosaic.TcCoe Idealize.SL.Sem

/-- A row set as a function of its position and column. -/
abbrev rd (X : FVec Ideal S256x128 .f32) : Fin 256 → Fin 128 → EReal := fun s j => X (ix2 s j)
/-- One layer's matrix as a function. -/
abbrev rm (W : FVec Ideal S1x128x128 .f32) : Fin 128 → Fin 128 → EReal := fun i j => W (ix3 0 i j)
/-- One layer's row as a function. -/
abbrev rv (b : FVec Ideal S1x128 .f32) : Fin 128 → EReal := fun j => b (ix2 0 j)

/-- The dense map is the mathematical linear map. -/
theorem dense_at (X : FVec Ideal S256x128 .f32) (W : FVec Ideal S128x128 .f32) (b : FVec Ideal S128 .f32) :
    rd (dense X W b) = Enc.lin (rd X) (fun i j => W (ix2 i j)) (fun j => b (ix1 j)) := by
  funext s j
  pointwise! [rd, dense, rows, Enc.lin]

/-- The linear map with a loaded weight row is the mathematical linear map. -/
theorem linear_at (X : FVec Ideal S256x128 .f32) (W : FVec Ideal S1x128x128 .f32) (b : FVec Ideal S1x128 .f32) :
    rd (linear X W b) = Enc.lin (rd X) (rm W) (rv b) := by
  funext s j
  pointwise! [rd, rm, rv, linear, row, Enc.lin]

/-- A score of head `h` is the inner product of its columns over the scale. -/
theorem scores_at (o : ℕ) (h : Fin 8) (ho : o = h.val * 16) (hs : S256x128.Slices ![0, o] S256x16) (Q K : FVec Ideal S256x128 .f32) (s t : Fin 256) :
    scores (extractStridedSlice S256x16 ![0, o] Q hs) (extractStridedSlice S256x16 ![0, o] K hs) (ix2 s t) = Enc.score (rd Q) (rd K) h s t := by
  subst ho
  pointwise [scores, Enc.score, rd, Enc.col]
  rfl

/-- The exponential weight of a score of head `h`. -/
theorem weights_at (o : ℕ) (h : Fin 8) (ho : o = h.val * 16) (hs : S256x128.Slices ![0, o] S256x16) (Q K : FVec Ideal S256x128 .f32) (s t : Fin 256) :
    weights (extractStridedSlice S256x16 ![0, o] Q hs) (extractStridedSlice S256x16 ![0, o] K hs) (ix2 s t) = Enc.wt (rd Q) (rd K) h s t := by
  pointwise [weights, Enc.wt, Enc.top, scores_at o h ho hs Q K]

/-- One head: weighted values over the sum of the weights. -/
theorem head_at (o : ℕ) (h : Fin 8) (ho : o = h.val * 16) (hs : S256x128.Slices ![0, o] S256x16) (Q K V : FVec Ideal S256x128 .f32) (s : Fin 256) (d : Fin 16) :
    head o hs Q K V (ix2 s d) = Ideal.div (∑ t, Enc.wt (rd Q) (rd K) h s t * V (ix2 t (Enc.col h d))) (∑ t, Enc.wt (rd Q) (rd K) h s t) := by
  pointwise [head, weights_at o h ho hs Q K]
  subst ho
  rfl

/-- The strided sum of sixteen groups of eight columns. -/
theorem sum8_at (v : FVec Ideal S256x128 .f32) (s : Fin 256) (c : Fin 8) :
    sum8 v (ix2 s c) = ∑ k : Fin 16, v (ix2 s ⟨k.val * 8 + c.val, by omega⟩) := by
  simp only [Fin.sum_univ_castSucc (n := 15), Fin.sum_univ_castSucc (n := 14), Fin.sum_univ_castSucc (n := 13), Fin.sum_univ_castSucc (n := 12),
    Fin.sum_univ_castSucc (n := 11), Fin.sum_univ_castSucc (n := 10), Fin.sum_univ_castSucc (n := 9), Fin.sum_univ_castSucc (n := 8), Fin.sum_univ_eight]
  pointwise [sum8]
  iterate 15 refine congrArg₂ (· + ·) ?_ rfl
  exact congrArg (fun k => v (ix2 s k)) (Fin.ext (by simp))

/-- Eight terms added by halves are the terms added in order. -/
theorem halves (a b c d e f g h : EReal) : a + e + (c + g) + (b + f + (d + h)) = a + b + c + d + e + f + g + h := by ac_rfl

/-- The eight partial sums added by halves are added. -/
theorem fold8_at (v : FVec Ideal S256x8 .f32) (s : Fin 256) (z : Fin 1) :
    fold8 v (ix2 s z) = ∑ c : Fin 8, v (ix2 s c) := by
  simp only [Fin.sum_univ_eight]
  obtain rfl : z = 0 := Subsingleton.elim _ _
  pointwise [fold8]
  exact halves _ _ _ _ _ _ _ _

/-- The row mean the kernel takes by halves and a factor 1/128 is the row sum over 128. -/
theorem mean_at (v : FVec Ideal S256x128 .f32) (s : Fin 256) (z : Fin 1) : mean v (ix2 s z) = Enc.mean (rd v) s := by
  pointwise [mean, Enc.mean, fold8_at, sum8_at]
  rw [Enc.cinv, Enc.c128, Ideal.div_coe (by norm_num), Finset.sum_comm, Fin.sum_univ_tiles 16 8 rfl fun j : Fin 128 => rd v s j]

/-- The normalisation of every row. -/
theorem norm_at (X : FVec Ideal S256x128 .f32) (g b : FVec Ideal S1x128 .f32) : rd (norm X g b) = Enc.norm (rd X) (rv g) (rv b) := by
  have hc : ∀ s j, centre X (ix2 s j) = rd X s j - Enc.mean (rd X) s := fun s j => by
    pointwise [centre, mean_at X]
  have hm : ∀ s z, mean (mulf (centre X) (centre X)) (ix2 s z)
      = Enc.mean (fun s j => (rd X s j - Enc.mean (rd X) s) * (rd X s j - Enc.mean (rd X) s)) s := fun s z => by
    rw [mean_at]
    refine congrFun (congrArg Enc.mean ?_) s
    funext s j
    pointwise [rd, hc]
  funext s j
  pointwise [rd, norm, Enc.norm, row, hc, hm]

/-- The positive part. -/
theorem relu_at (X : FVec Ideal S256x128 .f32) : rd (relu X) = Enc.relu (rd X) := by
  funext s j
  pointwise [rd, relu, Enc.relu]

/-- The feed-forward block. -/
theorem ffn_at (X : FVec Ideal S256x128 .f32) (W1 : FVec Ideal S1x128x512 .f32) (b1 : FVec Ideal S1x512 .f32) (W2 : FVec Ideal S1x512x128 .f32)
    (b2 : FVec Ideal S1x128 .f32) :
    rd (ffn X W1 b1 W2 b2) = Enc.ffn (rd X) (fun i j => W1 (ix3 0 i j)) (fun j => b1 (ix2 0 j)) (fun i j => W2 (ix3 0 i j)) (rv b2) := by
  funext s j
  pointwise! [rd, ffn, row, Enc.ffn, Enc.lin, Enc.relu]

/-- The eight heads side by side: attention divided after the products. -/
theorem heads_at (Q K V : FVec Ideal S256x128 .f32) : rd (heads Q K V) = Enc.attK (rd Q) (rd K) (rd V) := by
  funext s j
  have hh := fun (o : ℕ) (h : Fin 8) (ho : o = h.val * 16) hs d => head_at o h ho hs Q K V s d
  have fin : ∀ (h : Fin 8) (d : Fin 16), h.val * 16 + d.val = j.val →
      Ideal.div (∑ t, Enc.wt (rd Q) (rd K) h s t * V (ix2 t (Enc.col h d))) (∑ t, Enc.wt (rd Q) (rd K) h s t)
        = Ideal.div (∑ t, Enc.wt (rd Q) (rd K) (Enc.hd j) s t * V (ix2 t j)) (∑ t, Enc.wt (rd Q) (rd K) (Enc.hd j) s t) := fun h d e => by
    obtain rfl : Enc.col h d = j := Fin.ext e
    rw [show Enc.hd (Enc.col h d) = h from Fin.ext (by simp only [Enc.hd, Enc.col]; omega)]
  pointwise [rd, heads, Enc.attK]
  by_cases h0 : j.val < 16
  · rw [dif_pos h0]
    exact (hh 0 0 rfl slices_S256x128_o0_0_S256x16 (⟨j.val, by omega⟩ : Fin 16)).trans (fin 0 (⟨j.val, by omega⟩ : Fin 16) (by show 0 * 16 + (j.val) = j.val; omega))
  rw [dif_neg h0]
  by_cases h1 : j.val - 16 < 16
  · rw [dif_pos h1]
    exact (hh 16 1 rfl slices_S256x128_o0_16_S256x16 (⟨j.val - 16, by omega⟩ : Fin 16)).trans (fin 1 (⟨j.val - 16, by omega⟩ : Fin 16) (by show 1 * 16 + (j.val - 16) = j.val; omega))
  rw [dif_neg h1]
  by_cases h2 : j.val - 16 - 16 < 16
  · rw [dif_pos h2]
    exact (hh 32 2 rfl slices_S256x128_o0_32_S256x16 (⟨j.val - 16 - 16, by omega⟩ : Fin 16)).trans (fin 2 (⟨j.val - 16 - 16, by omega⟩ : Fin 16) (by show 2 * 16 + (j.val - 16 - 16) = j.val; omega))
  rw [dif_neg h2]
  by_cases h3 : j.val - 16 - 16 - 16 < 16
  · rw [dif_pos h3]
    exact (hh 48 3 rfl slices_S256x128_o0_48_S256x16 (⟨j.val - 16 - 16 - 16, by omega⟩ : Fin 16)).trans (fin 3 (⟨j.val - 16 - 16 - 16, by omega⟩ : Fin 16) (by show 3 * 16 + (j.val - 16 - 16 - 16) = j.val; omega))
  rw [dif_neg h3]
  by_cases h4 : j.val - 16 - 16 - 16 - 16 < 16
  · rw [dif_pos h4]
    exact (hh 64 4 rfl slices_S256x128_o0_64_S256x16 (⟨j.val - 16 - 16 - 16 - 16, by omega⟩ : Fin 16)).trans (fin 4 (⟨j.val - 16 - 16 - 16 - 16, by omega⟩ : Fin 16) (by show 4 * 16 + (j.val - 16 - 16 - 16 - 16) = j.val; omega))
  rw [dif_neg h4]
  by_cases h5 : j.val - 16 - 16 - 16 - 16 - 16 < 16
  · rw [dif_pos h5]
    exact (hh 80 5 rfl slices_S256x128_o0_80_S256x16 (⟨j.val - 16 - 16 - 16 - 16 - 16, by omega⟩ : Fin 16)).trans (fin 5 (⟨j.val - 16 - 16 - 16 - 16 - 16, by omega⟩ : Fin 16) (by show 5 * 16 + (j.val - 16 - 16 - 16 - 16 - 16) = j.val; omega))
  rw [dif_neg h5]
  by_cases h6 : j.val - 16 - 16 - 16 - 16 - 16 - 16 < 16
  · rw [dif_pos h6]
    exact (hh 96 6 rfl slices_S256x128_o0_96_S256x16 (⟨j.val - 16 - 16 - 16 - 16 - 16 - 16, by omega⟩ : Fin 16)).trans (fin 6 (⟨j.val - 16 - 16 - 16 - 16 - 16 - 16, by omega⟩ : Fin 16) (by show 6 * 16 + (j.val - 16 - 16 - 16 - 16 - 16 - 16) = j.val; omega))
  rw [dif_neg h6]
  exact (hh 112 7 rfl slices_S256x128_o0_112_S256x16 (⟨j.val - 16 - 16 - 16 - 16 - 16 - 16 - 16, by omega⟩ : Fin 16)).trans (fin 7 (⟨j.val - 16 - 16 - 16 - 16 - 16 - 16 - 16, by omega⟩ : Fin 16) (by show 7 * 16 + (j.val - 16 - 16 - 16 - 16 - 16 - 16 - 16) = j.val; omega))

/-- The layer's weights, from the loaded rows of the stacked tables. -/
def par (Wq : FVec Ideal S1x128x128 .f32) (bq : FVec Ideal S1x128 .f32) (Wk : FVec Ideal S1x128x128 .f32) (bk : FVec Ideal S1x128 .f32)
    (Wv : FVec Ideal S1x128x128 .f32) (bv : FVec Ideal S1x128 .f32) (Wo : FVec Ideal S1x128x128 .f32) (bo : FVec Ideal S1x128 .f32)
    (W1 : FVec Ideal S1x128x512 .f32) (b1 : FVec Ideal S1x512 .f32) (W2 : FVec Ideal S1x512x128 .f32) (b2 : FVec Ideal S1x128 .f32)
    (g1 c1 g2 c2 : FVec Ideal S1x128 .f32) : Enc.Par :=
  ⟨rm Wq, rv bq, rm Wk, rv bk, rm Wv, rv bv, rm Wo, rv bo, fun i j => W1 (ix3 0 i j), fun j => b1 (ix2 0 j), fun i j => W2 (ix3 0 i j), rv b2, rv g1, rv c1, rv g2, rv c2⟩

/-- One encoder layer is the mathematical layer, its attention divided at the end. -/
theorem layer_at (X : FVec Ideal S256x128 .f32) (Wq : FVec Ideal S1x128x128 .f32) (bq : FVec Ideal S1x128 .f32) (Wk : FVec Ideal S1x128x128 .f32) (bk : FVec Ideal S1x128 .f32)
    (Wv : FVec Ideal S1x128x128 .f32) (bv : FVec Ideal S1x128 .f32) (Wo : FVec Ideal S1x128x128 .f32) (bo : FVec Ideal S1x128 .f32)
    (W1 : FVec Ideal S1x128x512 .f32) (b1 : FVec Ideal S1x512 .f32) (W2 : FVec Ideal S1x512x128 .f32) (b2 : FVec Ideal S1x128 .f32)
    (g1 c1 g2 c2 : FVec Ideal S1x128 .f32) :
    rd (layer X Wq bq Wk bk Wv bv Wo bo W1 b1 W2 b2 g1 c1 g2 c2) = Enc.layer Enc.attK (rd X) (par Wq bq Wk bk Wv bv Wo bo W1 b1 W2 b2 g1 c1 g2 c2) := by
  have ha : ∀ Y : FVec Ideal S256x128 .f32, rd (addf X Y) = fun s j => rd X s j + rd Y s j := fun Y => rfl
  unfold layer Enc.layer par
  rw [norm_at, ffn_at, norm_at, ha, linear_at, heads_at, linear_at, linear_at, linear_at]

/-- The auto-encoder. -/
theorem auto_at (X : FVec Ideal S256x128 .f32) (E1 : FVec Ideal S128x128 .f32) (e1 : FVec Ideal S128 .f32) (E2 : FVec Ideal S128x128 .f32) (e2 : FVec Ideal S128 .f32)
    (D1 : FVec Ideal S128x128 .f32) (d1 : FVec Ideal S128 .f32) (D2 : FVec Ideal S128x128 .f32) (d2 : FVec Ideal S128 .f32) :
    rd (auto X E1 e1 E2 e2 D1 d1 D2 d2) = Enc.auto (rd X) (fun i j => E1 (ix2 i j)) (fun j => e1 (ix1 j)) (fun i j => E2 (ix2 i j)) (fun j => e2 (ix1 j))
      (fun i j => D1 (ix2 i j)) (fun j => d1 (ix1 j)) (fun i j => D2 (ix2 i j)) (fun j => d2 (ix1 j)) := by
  unfold auto Enc.auto
  rw [dense_at, relu_at, dense_at, dense_at, relu_at, dense_at]

end Cert.KernelIdeal.Stage

end
-- ==== Proof.Body.lean ====
/- One batch row's whole body, and the four rows a grid point stores: each stored piece of the generated output is the
   same body over its own row of the input block. -/
module

public import proofs.«01_k».proof.Proof.Stages

@[expose] public section

set_option maxRecDepth 16384

noncomputable section

namespace Cert.KernelIdeal.Stage

open Cert.KernelIdeal Cert.KernelIdeal.Gen Idealize.ShloMosaic Idealize.ShloMosaic.TcCoe Idealize.SL.Sem

variable {F : FTy → Type} [FloatOps F]

/-- The body over one batch row `X` and the parameter arrays. -/
def body (X : FVec F S1x256x128 .f32) (x1 : Vec F S128x128 .f32) (x2 : Vec F S128 .f32) (x3 : Vec F S2x128x128 .f32) (x4 : Vec F S2x128 .f32) (x5 : Vec F S2x128x128 .f32) (x6 : Vec F S2x128 .f32) (x7 : Vec F S2x128x128 .f32) (x8 : Vec F S2x128 .f32) (x9 : Vec F S2x128x128 .f32) (x10 : Vec F S2x128 .f32) (x11 : Vec F S2x128x512 .f32) (x12 : Vec F S2x512 .f32) (x13 : Vec F S2x512x128 .f32) (x14 : Vec F S2x128 .f32) (x15 : Vec F S2x128 .f32) (x16 : Vec F S2x128 .f32) (x17 : Vec F S2x128 .f32) (x18 : Vec F S2x128 .f32) (x19 : Vec F S128x128 .f32) (x20 : Vec F S128 .f32) (x21 : Vec F S128x128 .f32) (x22 : Vec F S128 .f32) (x23 : Vec F S128x128 .f32) (x24 : Vec F S128 .f32) (x25 : Vec F S128x128 .f32) (x26 : Vec F S128 .f32) : FVec F S1x256x128 .f32 :=
  shapeCast S1x256x128
    (auto (layer (layer (dense (shapeCast S256x128 X shapeCasts_S1x256x128_S256x128) (View.ld x1 r0_1) (View.ld x2 r0_2))
        (View.ld x3 r0_3) (View.ld x4 r0_4) (View.ld x5 r0_3) (View.ld x6 r0_4) (View.ld x7 r0_3) (View.ld x8 r0_4) (View.ld x9 r0_3) (View.ld x10 r0_4) (View.ld x11 r0_5) (View.ld x12 r0_6) (View.ld x13 r0_7) (View.ld x14 r0_4) (View.ld x15 r0_4) (View.ld x16 r0_4) (View.ld x17 r0_4) (View.ld x18 r0_4))
        (View.ld x3 r0_8) (View.ld x4 r0_9) (View.ld x5 r0_8) (View.ld x6 r0_9) (View.ld x7 r0_8) (View.ld x8 r0_9) (View.ld x9 r0_8) (View.ld x10 r0_9) (View.ld x11 r0_10) (View.ld x12 r0_11) (View.ld x13 r0_12) (View.ld x14 r0_9) (View.ld x15 r0_9) (View.ld x16 r0_9) (View.ld x17 r0_9) (View.ld x18 r0_9))
      (View.ld x19 r0_1) (View.ld x20 r0_2) (View.ld x21 r0_1) (View.ld x22 r0_2) (View.ld x23 r0_1) (View.ld x24 r0_2) (View.ld x25 r0_1) (View.ld x26 r0_2))
    shapeCasts_S256x128_S1x256x128

/-- What a grid point stores: the body over each of the block's four rows. -/
def stored (x0 : Vec F S4x256x128 .f32) (x1 : Vec F S128x128 .f32) (x2 : Vec F S128 .f32) (x3 : Vec F S2x128x128 .f32) (x4 : Vec F S2x128 .f32) (x5 : Vec F S2x128x128 .f32) (x6 : Vec F S2x128 .f32) (x7 : Vec F S2x128x128 .f32) (x8 : Vec F S2x128 .f32) (x9 : Vec F S2x128x128 .f32) (x10 : Vec F S2x128 .f32) (x11 : Vec F S2x128x512 .f32) (x12 : Vec F S2x512 .f32) (x13 : Vec F S2x512x128 .f32) (x14 : Vec F S2x128 .f32) (x15 : Vec F S2x128 .f32) (x16 : Vec F S2x128 .f32) (x17 : Vec F S2x128 .f32) (x18 : Vec F S2x128 .f32) (x19 : Vec F S128x128 .f32) (x20 : Vec F S128 .f32) (x21 : Vec F S128x128 .f32) (x22 : Vec F S128 .f32) (x23 : Vec F S128x128 .f32) (x24 : Vec F S128 .f32) (x25 : Vec F S128x128 .f32) (x26 : Vec F S128 .f32) : Vec F S4x256x128 .f32 :=
  View.canon [⟨r0_15, body (View.ld x0 r0_15) x1 x2 x3 x4 x5 x6 x7 x8 x9 x10 x11 x12 x13 x14 x15 x16 x17 x18 x19 x20 x21 x22 x23 x24 x25 x26⟩, ⟨r0_14, body (View.ld x0 r0_14) x1 x2 x3 x4 x5 x6 x7 x8 x9 x10 x11 x12 x13 x14 x15 x16 x17 x18 x19 x20 x21 x22 x23 x24 x25 x26⟩, ⟨r0_13, body (View.ld x0 r0_13) x1 x2 x3 x4 x5 x6 x7 x8 x9 x10 x11 x12 x13 x14 x15 x16 x17 x18 x19 x20 x21 x22 x23 x24 x25 x26⟩, ⟨r0_0, body (View.ld x0 r0_0) x1 x2 x3 x4 x5 x6 x7 x8 x9 x10 x11 x12 x13 x14 x15 x16 x17 x18 x19 x20 x21 x22 x23 x24 x25 x26⟩]

set_option maxHeartbeats 1600000 in
/-- The generated output of a grid point is `stored`. -/
theorem out_eq (x0 : Vec F S4x256x128 .f32) (x1 : Vec F S128x128 .f32) (x2 : Vec F S128 .f32) (x3 : Vec F S2x128x128 .f32) (x4 : Vec F S2x128 .f32) (x5 : Vec F S2x128x128 .f32) (x6 : Vec F S2x128 .f32) (x7 : Vec F S2x128x128 .f32) (x8 : Vec F S2x128 .f32) (x9 : Vec F S2x128x128 .f32) (x10 : Vec F S2x128 .f32) (x11 : Vec F S2x128x512 .f32) (x12 : Vec F S2x512 .f32) (x13 : Vec F S2x512x128 .f32) (x14 : Vec F S2x128 .f32) (x15 : Vec F S2x128 .f32) (x16 : Vec F S2x128 .f32) (x17 : Vec F S2x128 .f32) (x18 : Vec F S2x128 .f32) (x19 : Vec F S128x128 .f32) (x20 : Vec F S128 .f32) (x21 : Vec F S128x128 .f32) (x22 : Vec F S128 .f32) (x23 : Vec F S128x128 .f32) (x24 : Vec F S128 .f32) (x25 : Vec F S128x128 .f32) (x26 : Vec F S128 .f32) : out0_27 x0 x1 x2 x3 x4 x5 x6 x7 x8 x9 x10 x11 x12 x13 x14 x15 x16 x17 x18 x19 x20 x21 x22 x23 x24 x25 x26 = stored x0 x1 x2 x3 x4 x5 x6 x7 x8 x9 x10 x11 x12 x13 x14 x15 x16 x17 x18 x19 x20 x21 x22 x23 x24 x25 x26 := by
  rfl

end Cert.KernelIdeal.Stage

end
-- ==== Proof.RefStages.lean ====
/- The reference's operations cut into the same named stages as the kernel's body, over the whole batch. -/
module

public import proofs.«01_k».proof.Proof.Gen.ReferenceIdeal.Run

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- A bias spread over the batch and the positions. -/
def rows (b : FVec F S128 .f32) : FVec F S32x256x128 .f32 :=
  broadcastInDim S32x256x128 ![0, 1, 2] bcast_S1x1x128_S32x256x128_0_1_2 (broadcastInDim S1x1x128 ![2] bcast_S128_S1x1x128_2 b)

/-- Layer `l`'s matrix of a stacked table. -/
def mat (l : ℕ) (hl : S2x128x128.Slices ![l, 0, 0] S1x128x128) (W : FVec F S2x128x128 .f32) : FVec F S128x128 .f32 :=
  shapeCast _ (extractStridedSlice S1x128x128 ![l, 0, 0] W hl) shapeCasts_S1x128x128_S128x128

/-- Layer `l`'s row of a stacked table. -/
def vec (l : ℕ) (hl : S2x128.Slices ![l, 0] S1x128) (b : FVec F S2x128 .f32) : FVec F S128 .f32 :=
  shapeCast _ (extractStridedSlice S1x128 ![l, 0] b hl) shapeCasts_S1x128_S128

/-- A 128-by-128 linear map with bias. -/
def dense (X : FVec F S32x256x128 .f32) (W : FVec F S128x128 .f32) (b : FVec F S128 .f32) : FVec F S32x256x128 .f32 :=
  addf (Host.dotGeneral dot_S32x256x128_S128x128_S32x256x128_2_0_01_1_n_n none X W) (rows b)

/-- The columns split into eight heads of sixteen, heads before positions. -/
def split (X : FVec F S32x256x128 .f32) : FVec F S32x8x256x16 .f32 :=
  transpose S32x8x256x16 [0, 2, 1, 3] (shapeCast _ X shapeCasts_S32x256x128_S32x256x8x16) transposes_S32x256x8x16_S32x8x256x16_0_2_1_3

/-- The scores of every head over the root of 16. -/
def scores (Q K : FVec F S32x256x128 .f32) : FVec F S32x8x256x256 .f32 :=
  Host.divf (Host.dotGeneral dot_S32x8x256x16_S32x8x16x256_S32x8x256x256_3_2_2_3_01_01 none (split Q)
      (transpose S32x8x16x256 [0, 1, 3, 2] (split K) transposes_S32x8x256x16_S32x8x16x256_0_1_3_2))
    (broadcastInDim S32x8x256x256 ![] bcast_S_S32x8x256x256 (id (Host.sqrt (constant S_ .f32 0x41800000#32))))

/-- The exponentials of the scores less their row maximum. -/
def weights (s : FVec F S32x8x256x256 .f32) : FVec F S32x8x256x256 .f32 :=
  Host.exp (subf s (broadcastInDim S32x8x256x256 ![0, 1, 2, 3] bcast_S32x8x256x1_S32x8x256x256_0_1_2_3
    (broadcastInDim S32x8x256x1 ![0, 1, 2] bcast_S32x8x256_S32x8x256x1_0_1_2
      (maximumf (broadcastInDim S32x8x256 ![] bcast_S_S32x8x256 (constant S_ .f32 0xFF800000#32))
        (Host.reduce FloatOps.maximumf s (constant S_ .f32 0xFF800000#32) reducesTo_S32x8x256x256_S32x8x256_d3 h_S_)))))

/-- The attention's result: the normalised weights times the values, the heads put back side by side. -/
def heads (Q K V : FVec F S32x256x128 .f32) : FVec F S32x256x128 .f32 :=
  shapeCast _ (transpose S32x256x8x16 [0, 2, 1, 3] (Host.dotGeneral dot_S32x8x256x256_S32x8x256x16_S32x8x256x16_3_2_2_3_01_01 none
      (Host.divf (weights (scores Q K)) (broadcastInDim S32x8x256x256 ![0, 1, 2, 3] bcast_S32x8x256x1_S32x8x256x256_0_1_2_3
        (broadcastInDim S32x8x256x1 ![0, 1, 2] bcast_S32x8x256_S32x8x256x1_0_1_2
          (Host.reduceAdd (weights (scores Q K)) (constant S_ .f32 0x00000000#32) reducesTo_S32x8x256x256_S32x8x256_d3 h_S_))))
      (split V)) transposes_S32x8x256x16_S32x256x8x16_0_2_1_3) shapeCasts_S32x256x8x16_S32x256x128

/-- The row mean: the row sum over 128. -/
def mean (X : FVec F S32x256x128 .f32) : FVec F S32x256x1 .f32 :=
  Host.divf (broadcastInDim S32x256x1 ![0, 1] bcast_S32x256_S32x256x1_0_1
      (Host.reduceAdd X (constant S_ .f32 0x00000000#32) reducesTo_S32x256x128_S32x256_d2 h_S_))
    (broadcastInDim S32x256x1 ![] bcast_S_S32x256x1 (constant S_ .f32 0x43000000#32))

/-- A row less its mean. -/
def centre (X : FVec F S32x256x128 .f32) : FVec F S32x256x128 .f32 :=
  subf X (broadcastInDim S32x256x128 ![0, 1, 2] bcast_S32x256x1_S32x256x128_0_1_2 (mean X))

/-- The layer normalisation. -/
def norm (X : FVec F S32x256x128 .f32) (g b : FVec F S128 .f32) : FVec F S32x256x128 .f32 :=
  addf (mulf (Host.divf (centre X) (broadcastInDim S32x256x128 ![0, 1, 2] bcast_S32x256x1_S32x256x128_0_1_2
      (Host.sqrt (addf (mean (mulf (centre X) (centre X))) (broadcastInDim S32x256x1 ![] bcast_S_S32x256x1 (constant S_ .f32 0x3727C5AC#32))))))
    (rows g)) (rows b)

/-- The feed-forward block added to its input. -/
def ffn (X : FVec F S32x256x128 .f32) (W1 : FVec F S128x512 .f32) (b1 : FVec F S512 .f32) (W2 : FVec F S512x128 .f32) (b2 : FVec F S128 .f32) : FVec F S32x256x128 .f32 :=
  addf X (addf (Host.dotGeneral dot_S32x256x512_S512x128_S32x256x128_2_0_01_1_n_n none
      (maximumf (addf (Host.dotGeneral dot_S32x256x128_S128x512_S32x256x512_2_0_01_1_n_n none X W1)
          (broadcastInDim S32x256x512 ![0, 1, 2] bcast_S1x1x512_S32x256x512_0_1_2 (broadcastInDim S1x1x512 ![2] bcast_S512_S1x1x512_2 b1)))
        (broadcastInDim S32x256x512 ![] bcast_S_S32x256x512 (constant S_ .f32 0x00000000#32))) W2) (rows b2))

/-- One encoder layer over its own weights. -/
def layer (X : FVec F S32x256x128 .f32) (Wq : FVec F S128x128 .f32) (bq : FVec F S128 .f32) (Wk : FVec F S128x128 .f32) (bk : FVec F S128 .f32)
    (Wv : FVec F S128x128 .f32) (bv : FVec F S128 .f32) (Wo : FVec F S128x128 .f32) (bo : FVec F S128 .f32)
    (W1 : FVec F S128x512 .f32) (b1 : FVec F S512 .f32) (W2 : FVec F S512x128 .f32) (b2 : FVec F S128 .f32)
    (g1 c1 g2 c2 : FVec F S128 .f32) : FVec F S32x256x128 .f32 :=
  norm (ffn (norm (addf X (dense (heads (dense X Wq bq) (dense X Wk bk) (dense X Wv bv)) Wo bo)) g1 c1) W1 b1 W2 b2) g2 c2

/-- The maximum with zero, element by element. -/
def relu (X : FVec F S32x256x128 .f32) : FVec F S32x256x128 .f32 :=
  maximumf X (broadcastInDim S32x256x128 ![] bcast_S_S32x256x128 (constant S_ .f32 0x00000000#32))

/-- The four linear maps of the auto-encoder. -/
def auto (X : FVec F S32x256x128 .f32) (E1 : FVec F S128x128 .f32) (e1 : FVec F S128 .f32) (E2 : FVec F S128x128 .f32) (e2 : FVec F S128 .f32)
    (D1 : FVec F S128x128 .f32) (d1 : FVec F S128 .f32) (D2 : FVec F S128x128 .f32) (d2 : FVec F S128 .f32) : FVec F S32x256x128 .f32 :=
  dense (relu (dense (dense (relu (dense X E1 e1)) E2 e2) D1 d1)) D2 d2

/-- Layer `l` of the stacked tables. -/
def layerAt (l : ℕ) (h3 : S2x128x128.Slices ![l, 0, 0] S1x128x128) (h2 : S2x128.Slices ![l, 0] S1x128)
    (h5 : S2x128x512.Slices ![l, 0, 0] S1x128x512) (h6 : S2x512.Slices ![l, 0] S1x512) (h7 : S2x512x128.Slices ![l, 0, 0] S1x512x128)
    (X : FVec F S32x256x128 .f32) (Wq : FVec F S2x128x128 .f32) (bq : FVec F S2x128 .f32) (Wk : FVec F S2x128x128 .f32) (bk : FVec F S2x128 .f32)
    (Wv : FVec F S2x128x128 .f32) (bv : FVec F S2x128 .f32) (Wo : FVec F S2x128x128 .f32) (bo : FVec F S2x128 .f32)
    (W1 : FVec F S2x128x512 .f32) (b1 : FVec F S2x512 .f32) (W2 : FVec F S2x512x128 .f32) (b2 : FVec F S2x128 .f32)
    (g1 c1 g2 c2 : FVec F S2x128 .f32) : FVec F S32x256x128 .f32 :=
  layer X (mat l h3 Wq) (vec l h2 bq) (mat l h3 Wk) (vec l h2 bk) (mat l h3 Wv) (vec l h2 bv) (mat l h3 Wo) (vec l h2 bo)
    (shapeCast _ (extractStridedSlice S1x128x512 ![l, 0, 0] W1 h5) shapeCasts_S1x128x512_S128x512)
    (shapeCast _ (extractStridedSlice S1x512 ![l, 0] b1 h6) shapeCasts_S1x512_S512)
    (shapeCast _ (extractStridedSlice S1x512x128 ![l, 0, 0] W2 h7) shapeCasts_S1x512x128_S512x128)
    (vec l h2 b2) (vec l h2 g1) (vec l h2 c1) (vec l h2 g2) (vec l h2 c2)

/-- The reference's result over its arguments. -/
def result (x0 : FVec F S32x256x128 .f32) (x1 : FVec F S128x128 .f32) (x2 : FVec F S128 .f32) (x3 : FVec F S2x128x128 .f32) (x4 : FVec F S2x128 .f32) (x5 : FVec F S2x128x128 .f32) (x6 : FVec F S2x128 .f32) (x7 : FVec F S2x128x128 .f32) (x8 : FVec F S2x128 .f32) (x9 : FVec F S2x128x128 .f32) (x10 : FVec F S2x128 .f32) (x11 : FVec F S2x128x512 .f32) (x12 : FVec F S2x512 .f32) (x13 : FVec F S2x512x128 .f32) (x14 : FVec F S2x128 .f32) (x15 : FVec F S2x128 .f32) (x16 : FVec F S2x128 .f32) (x17 : FVec F S2x128 .f32) (x18 : FVec F S2x128 .f32) (x19 : FVec F S128x128 .f32) (x20 : FVec F S128 .f32) (x21 : FVec F S128x128 .f32) (x22 : FVec F S128 .f32) (x23 : FVec F S128x128 .f32) (x24 : FVec F S128 .f32) (x25 : FVec F S128x128 .f32) (x26 : FVec F S128 .f32) : FVec F S32x256x128 .f32 :=
  auto (layerAt 1 slices_S2x128x128_S1x128x128_1_0_0 slices_S2x128_S1x128_1_0 slices_S2x128x512_S1x128x512_1_0_0 slices_S2x512_S1x512_1_0 slices_S2x512x128_S1x512x128_1_0_0
    (layerAt 0 slices_S2x128x128_S1x128x128_0_0_0 slices_S2x128_S1x128_0_0 slices_S2x128x512_S1x128x512_0_0_0 slices_S2x512_S1x512_0_0 slices_S2x512x128_S1x512x128_0_0_0
      (dense x0 x1 x2) x3 x4 x5 x6 x7 x8 x9 x10 x11 x12 x13 x14 x15 x16 x17 x18)
    x3 x4 x5 x6 x7 x8 x9 x10 x11 x12 x13 x14 x15 x16 x17 x18) x19 x20 x21 x22 x23 x24 x25 x26

set_option maxHeartbeats 1600000 in
/-- The reference's run, its result named: on every device it ends with `result` of the launch contents in the result
    array and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v287) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) := by
  exact Cert.ReferenceIdeal.Value.run m ρ

end Cert.ReferenceIdeal.Stage

end
-- ==== Proof.Net.lean ====
/- The whole encoder as mathematics on one batch row, with either attention. -/
module

public import proofs.«01_k».proof.Proof.RefStages
public import proofs.«01_k».proof.Proof.Enc
public import Idealize.ShloMosaic.Lib.Pointwise

@[expose] public section

set_option maxRecDepth 16384

noncomputable section

namespace Cert.Enc

open Cert.ReferenceIdeal Idealize.ShloMosaic

/-- Layer `l`'s weights from the stacked tables. -/
def parAt (l : Fin 2) (x3 : FVec Ideal S2x128x128 .f32) (x4 : FVec Ideal S2x128 .f32) (x5 : FVec Ideal S2x128x128 .f32) (x6 : FVec Ideal S2x128 .f32) (x7 : FVec Ideal S2x128x128 .f32) (x8 : FVec Ideal S2x128 .f32) (x9 : FVec Ideal S2x128x128 .f32) (x10 : FVec Ideal S2x128 .f32) (x11 : FVec Ideal S2x128x512 .f32) (x12 : FVec Ideal S2x512 .f32) (x13 : FVec Ideal S2x512x128 .f32) (x14 : FVec Ideal S2x128 .f32) (x15 : FVec Ideal S2x128 .f32) (x16 : FVec Ideal S2x128 .f32) (x17 : FVec Ideal S2x128 .f32) (x18 : FVec Ideal S2x128 .f32) : Par :=
  ⟨fun i j => x3 (ix3 l i j), fun j => x4 (ix2 l j), fun i j => x5 (ix3 l i j), fun j => x6 (ix2 l j), fun i j => x7 (ix3 l i j), fun j => x8 (ix2 l j), fun i j => x9 (ix3 l i j), fun j => x10 (ix2 l j), fun i j => x11 (ix3 l i j), fun j => x12 (ix2 l j), fun i j => x13 (ix3 l i j), fun j => x14 (ix2 l j), fun j => x15 (ix2 l j), fun j => x16 (ix2 l j), fun j => x17 (ix2 l j), fun j => x18 (ix2 l j)⟩

/-- The encoder over one batch row: the input map, two layers, the auto-encoder. -/
def net (att : (Fin 256 → Fin 128 → EReal) → (Fin 256 → Fin 128 → EReal) → (Fin 256 → Fin 128 → EReal) → Fin 256 → Fin 128 → EReal)
    (X : Fin 256 → Fin 128 → EReal) (x1 : FVec Ideal S128x128 .f32) (x2 : FVec Ideal S128 .f32) (x3 : FVec Ideal S2x128x128 .f32) (x4 : FVec Ideal S2x128 .f32) (x5 : FVec Ideal S2x128x128 .f32) (x6 : FVec Ideal S2x128 .f32) (x7 : FVec Ideal S2x128x128 .f32) (x8 : FVec Ideal S2x128 .f32) (x9 : FVec Ideal S2x128x128 .f32) (x10 : FVec Ideal S2x128 .f32) (x11 : FVec Ideal S2x128x512 .f32) (x12 : FVec Ideal S2x512 .f32) (x13 : FVec Ideal S2x512x128 .f32) (x14 : FVec Ideal S2x128 .f32) (x15 : FVec Ideal S2x128 .f32) (x16 : FVec Ideal S2x128 .f32) (x17 : FVec Ideal S2x128 .f32) (x18 : FVec Ideal S2x128 .f32) (x19 : FVec Ideal S128x128 .f32) (x20 : FVec Ideal S128 .f32) (x21 : FVec Ideal S128x128 .f32) (x22 : FVec Ideal S128 .f32) (x23 : FVec Ideal S128x128 .f32) (x24 : FVec Ideal S128 .f32) (x25 : FVec Ideal S128x128 .f32) (x26 : FVec Ideal S128 .f32) : Fin 256 → Fin 128 → EReal :=
  auto (layer att (layer att (lin X (fun i j => x1 (ix2 i j)) (fun j => x2 (ix1 j))) (parAt 0 x3 x4 x5 x6 x7 x8 x9 x10 x11 x12 x13 x14 x15 x16 x17 x18)) (parAt 1 x3 x4 x5 x6 x7 x8 x9 x10 x11 x12 x13 x14 x15 x16 x17 x18))
    (fun i j => x19 (ix2 i j)) (fun j => x20 (ix1 j)) (fun i j => x21 (ix2 i j)) (fun j => x22 (ix1 j)) (fun i j => x23 (ix2 i j)) (fun j => x24 (ix1 j)) (fun i j => x25 (ix2 i j)) (fun j => x26 (ix1 j))

/-- With finite inputs, query and key weights and second-norm weights the two attentions give the same encoder. -/
theorem net_eq (X : Fin 256 → Fin 128 → EReal) (x1 : FVec Ideal S128x128 .f32) (x2 : FVec Ideal S128 .f32) (x3 : FVec Ideal S2x128x128 .f32) (x4 : FVec Ideal S2x128 .f32) (x5 : FVec Ideal S2x128x128 .f32) (x6 : FVec Ideal S2x128 .f32) (x7 : FVec Ideal S2x128x128 .f32) (x8 : FVec Ideal S2x128 .f32) (x9 : FVec Ideal S2x128x128 .f32) (x10 : FVec Ideal S2x128 .f32) (x11 : FVec Ideal S2x128x512 .f32) (x12 : FVec Ideal S2x512 .f32) (x13 : FVec Ideal S2x512x128 .f32) (x14 : FVec Ideal S2x128 .f32) (x15 : FVec Ideal S2x128 .f32) (x16 : FVec Ideal S2x128 .f32) (x17 : FVec Ideal S2x128 .f32) (x18 : FVec Ideal S2x128 .f32) (x19 : FVec Ideal S128x128 .f32) (x20 : FVec Ideal S128 .f32) (x21 : FVec Ideal S128x128 .f32) (x22 : FVec Ideal S128 .f32) (x23 : FVec Ideal S128x128 .f32) (x24 : FVec Ideal S128 .f32) (x25 : FVec Ideal S128x128 .f32) (x26 : FVec Ideal S128 .f32)
    (hX : ∀ s j, Fin' (X s j)) (h1 : ∀ i, Fin' (x1 i)) (h2 : ∀ i, Fin' (x2 i)) (h3 : ∀ i, Fin' (x3 i)) (h4 : ∀ i, Fin' (x4 i))
    (h5 : ∀ i, Fin' (x5 i)) (h6 : ∀ i, Fin' (x6 i)) (h17 : ∀ i, Fin' (x17 i)) (h18 : ∀ i, Fin' (x18 i)) :
    net attK X x1 x2 x3 x4 x5 x6 x7 x8 x9 x10 x11 x12 x13 x14 x15 x16 x17 x18 x19 x20 x21 x22 x23 x24 x25 x26 = net attR X x1 x2 x3 x4 x5 x6 x7 x8 x9 x10 x11 x12 x13 x14 x15 x16 x17 x18 x19 x20 x21 x22 x23 x24 x25 x26 := by
  have hY := lin_real X (fun i j => x1 (ix2 i j)) (fun j => x2 (ix1 j)) hX (fun _ _ => h1 _) (fun _ => h2 _)
  unfold net
  rw [layer_eq _ (parAt 0 x3 x4 x5 x6 x7 x8 x9 x10 x11 x12 x13 x14 x15 x16 x17 x18) hY (fun _ _ => h3 _) (fun _ => h4 _) (fun _ _ => h5 _) (fun _ => h6 _)]
  rw [layer_eq _ (parAt 1 x3 x4 x5 x6 x7 x8 x9 x10 x11 x12 x13 x14 x15 x16 x17 x18) (layer_real attR _ _ (fun _ => h17 _) (fun _ => h18 _)) (fun _ _ => h3 _) (fun _ => h4 _) (fun _ _ => h5 _) (fun _ => h6 _)]

end Cert.Enc

end
-- ==== Proof.KNet.lean ====
/- What a grid point stores, read at an index: the encoder of the block's row, divided at the end. -/
module

public import proofs.«01_k».proof.Proof.KRead
public import proofs.«01_k».proof.Proof.Body
public import proofs.«01_k».proof.Proof.Net
public import Idealize.ShloMosaic.Lib.Pipeline.ValueKit

@[expose] public section

set_option maxRecDepth 16384

noncomputable section

namespace Cert.KernelIdeal.Stage

open Cert.KernelIdeal Cert.KernelIdeal.Gen Idealize.ShloMosaic Idealize.ShloMosaic.TcCoe Idealize.SL.Sem

/-- What a load of a parameter reads: the table at its layer. -/
theorem ld1 (x : Vec Ideal S128x128 .f32) (i j : Fin 128) : View.ld x r0_1 (ix2 i j) = x (ix2 i j) := by pointwise
/-- What a load of a parameter reads: the table at its layer. -/
theorem ld2 (x : Vec Ideal S128 .f32) (j : Fin 128) : View.ld x r0_2 (ix1 j) = x (ix1 j) := by pointwise
/-- What a load of a parameter reads: the table at its layer. -/
theorem ld3 (x : Vec Ideal S2x128x128 .f32) (i j : Fin 128) : View.ld x r0_3 (ix3 0 i j) = x (ix3 0 i j) := by pointwise
/-- What a load of a parameter reads: the table at its layer. -/
theorem ld4 (x : Vec Ideal S2x128 .f32) (j : Fin 128) : View.ld x r0_4 (ix2 0 j) = x (ix2 0 j) := by pointwise
/-- What a load of a parameter reads: the table at its layer. -/
theorem ld5 (x : Vec Ideal S2x128x512 .f32) (i : Fin 128) (j : Fin 512) : View.ld x r0_5 (ix3 0 i j) = x (ix3 0 i j) := by pointwise
/-- What a load of a parameter reads: the table at its layer. -/
theorem ld6 (x : Vec Ideal S2x512 .f32) (j : Fin 512) : View.ld x r0_6 (ix2 0 j) = x (ix2 0 j) := by pointwise
/-- What a load of a parameter reads: the table at its layer. -/
theorem ld7 (x : Vec Ideal S2x512x128 .f32) (i : Fin 512) (j : Fin 128) : View.ld x r0_7 (ix3 0 i j) = x (ix3 0 i j) := by pointwise
/-- What a load of a parameter reads: the table at its layer. -/
theorem ld8 (x : Vec Ideal S2x128x128 .f32) (i j : Fin 128) : View.ld x r0_8 (ix3 0 i j) = x (ix3 1 i j) := by pointwise
/-- What a load of a parameter reads: the table at its layer. -/
theorem ld9 (x : Vec Ideal S2x128 .f32) (j : Fin 128) : View.ld x r0_9 (ix2 0 j) = x (ix2 1 j) := by pointwise
/-- What a load of a parameter reads: the table at its layer. -/
theorem ld10 (x : Vec Ideal S2x128x512 .f32) (i : Fin 128) (j : Fin 512) : View.ld x r0_10 (ix3 0 i j) = x (ix3 1 i j) := by pointwise
/-- What a load of a parameter reads: the table at its layer. -/
theorem ld11 (x : Vec Ideal S2x512 .f32) (j : Fin 512) : View.ld x r0_11 (ix2 0 j) = x (ix2 1 j) := by pointwise
/-- What a load of a parameter reads: the table at its layer. -/
theorem ld12 (x : Vec Ideal S2x512x128 .f32) (i : Fin 512) (j : Fin 128) : View.ld x r0_12 (ix3 0 i j) = x (ix3 1 i j) := by pointwise

/-- The body over one batch row is the encoder of that row. -/
theorem body_at (X : FVec Ideal S1x256x128 .f32) (x1 : Vec Ideal S128x128 .f32) (x2 : Vec Ideal S128 .f32) (x3 : Vec Ideal S2x128x128 .f32) (x4 : Vec Ideal S2x128 .f32) (x5 : Vec Ideal S2x128x128 .f32) (x6 : Vec Ideal S2x128 .f32) (x7 : Vec Ideal S2x128x128 .f32) (x8 : Vec Ideal S2x128 .f32) (x9 : Vec Ideal S2x128x128 .f32) (x10 : Vec Ideal S2x128 .f32) (x11 : Vec Ideal S2x128x512 .f32) (x12 : Vec Ideal S2x512 .f32) (x13 : Vec Ideal S2x512x128 .f32) (x14 : Vec Ideal S2x128 .f32) (x15 : Vec Ideal S2x128 .f32) (x16 : Vec Ideal S2x128 .f32) (x17 : Vec Ideal S2x128 .f32) (x18 : Vec Ideal S2x128 .f32) (x19 : Vec Ideal S128x128 .f32) (x20 : Vec Ideal S128 .f32) (x21 : Vec Ideal S128x128 .f32) (x22 : Vec Ideal S128 .f32) (x23 : Vec Ideal S128x128 .f32) (x24 : Vec Ideal S128 .f32) (x25 : Vec Ideal S128x128 .f32) (x26 : Vec Ideal S128 .f32) (s : Fin 256) (j : Fin 128) :
    body X x1 x2 x3 x4 x5 x6 x7 x8 x9 x10 x11 x12 x13 x14 x15 x16 x17 x18 x19 x20 x21 x22 x23 x24 x25 x26 (ix3 0 s j) = Enc.net Enc.attK (fun s j => X (ix3 0 s j)) x1 x2 x3 x4 x5 x6 x7 x8 x9 x10 x11 x12 x13 x14 x15 x16 x17 x18 x19 x20 x21 x22 x23 x24 x25 x26 s j := by
  have hX : rd (shapeCast S256x128 X shapeCasts_S1x256x128_S256x128) = fun s j => X (ix3 0 s j) := by
    funext s j; pointwise [rd]
  have hc : ∀ Y : FVec Ideal S256x128 .f32, shapeCast S1x256x128 Y shapeCasts_S256x128_S1x256x128 (ix3 0 s j) = rd Y s j := fun Y => by
    pointwise [rd]
  unfold body
  rw [hc, auto_at, layer_at, layer_at, dense_at, hX]
  unfold Enc.net Enc.parAt par rm rv
  pointwise

/-- An index of a one-row block from its two free coordinates. -/
theorem idx_row (x : S1x256x128.Idx) (s : Fin 256) (j : Fin 128) (h1 : s.val = (x 1).val) (h2 : j.val = (x 2).val) : x = ix3 0 s j := by
  funext a
  match a with
  | 0 => exact Fin.ext (Nat.lt_one_iff.mp (x 0).isLt)
  | 1 => exact Fin.ext h1.symm
  | 2 => exact Fin.ext h2.symm

/-- What a grid point stores at row `b` of its block is the encoder of the input block's row `b`. -/
theorem stored_at (x0 : Vec Ideal S4x256x128 .f32) (x1 : Vec Ideal S128x128 .f32) (x2 : Vec Ideal S128 .f32) (x3 : Vec Ideal S2x128x128 .f32) (x4 : Vec Ideal S2x128 .f32) (x5 : Vec Ideal S2x128x128 .f32) (x6 : Vec Ideal S2x128 .f32) (x7 : Vec Ideal S2x128x128 .f32) (x8 : Vec Ideal S2x128 .f32) (x9 : Vec Ideal S2x128x128 .f32) (x10 : Vec Ideal S2x128 .f32) (x11 : Vec Ideal S2x128x512 .f32) (x12 : Vec Ideal S2x512 .f32) (x13 : Vec Ideal S2x512x128 .f32) (x14 : Vec Ideal S2x128 .f32) (x15 : Vec Ideal S2x128 .f32) (x16 : Vec Ideal S2x128 .f32) (x17 : Vec Ideal S2x128 .f32) (x18 : Vec Ideal S2x128 .f32) (x19 : Vec Ideal S128x128 .f32) (x20 : Vec Ideal S128 .f32) (x21 : Vec Ideal S128x128 .f32) (x22 : Vec Ideal S128 .f32) (x23 : Vec Ideal S128x128 .f32) (x24 : Vec Ideal S128 .f32) (x25 : Vec Ideal S128x128 .f32) (x26 : Vec Ideal S128 .f32) (b : Fin 4) (s : Fin 256) (j : Fin 128) :
    stored x0 x1 x2 x3 x4 x5 x6 x7 x8 x9 x10 x11 x12 x13 x14 x15 x16 x17 x18 x19 x20 x21 x22 x23 x24 x25 x26 (ix3 b s j) = Enc.net Enc.attK (fun s j => x0 (ix3 b s j)) x1 x2 x3 x4 x5 x6 x7 x8 x9 x10 x11 x12 x13 x14 x15 x16 x17 x18 x19 x20 x21 x22 x23 x24 x25 x26 s j := by
  unfold stored
  canon_tiles x h
  all_goals
    obtain rfl := idx_row x s j h1 h2
    rw [body_at]
    refine congrFun (congrFun (congrArg (fun X => Enc.net Enc.attK X x1 x2 x3 x4 x5 x6 x7 x8 x9 x10 x11 x12 x13 x14 x15 x16 x17 x18 x19 x20 x21 x22 x23 x24 x25 x26) ?_) s) j
    funext s' j'
    have hb : b.val = _ := h0
    pointwise
    blk_ext [hb]

end Cert.KernelIdeal.Stage

end
-- ==== Proof.RRead.lean ====
/- The reference's stages read at an index of one batch row, as the encoder's mathematics. -/
module

public import proofs.«01_k».proof.Proof.RefStages
public import proofs.«01_k».proof.Proof.Enc
public import Idealize.ShloMosaic.Lib.Pointwise

@[expose] public section

set_option maxRecDepth 16384

noncomputable section

namespace Cert.ReferenceIdeal.Stage

open Cert.ReferenceIdeal Cert.ReferenceIdeal.Gen Idealize.ShloMosaic Idealize.ShloMosaic.TcCoe Idealize.SL.Sem

/-- Batch row `b` of an array, as a function of its position and column. -/
abbrev rd (X : FVec Ideal S32x256x128 .f32) (b : Fin 32) : Fin 256 → Fin 128 → EReal := fun s j => X (ix3 b s j)
/-- A matrix as a function. -/
abbrev rm (W : FVec Ideal S128x128 .f32) : Fin 128 → Fin 128 → EReal := fun i j => W (ix2 i j)
/-- A vector as a function. -/
abbrev rv (b : FVec Ideal S128 .f32) : Fin 128 → EReal := fun j => b (ix1 j)

variable (b : Fin 32)

/-- The dense map is the mathematical linear map of the row. -/
theorem dense_at (X : FVec Ideal S32x256x128 .f32) (W : FVec Ideal S128x128 .f32) (c : FVec Ideal S128 .f32) :
    rd (dense X W c) b = Enc.lin (rd X b) (rm W) (rv c) := by
  funext s j
  pointwise! [rd, rm, rv, dense, rows, Enc.lin]

/-- A score is the head-wise inner product over the scale. -/
theorem scores_at (Q K : FVec Ideal S32x256x128 .f32) (h : Fin 8) (s t : Fin 256) : scores Q K (ix4 b h s t) = Enc.score (rd Q b) (rd K b) h s t := by
  pointwise [scores, split, Enc.score, rd, Enc.col]
  rfl

/-- The row maximum of the scores, over the keys. -/
theorem top_at (S : FVec Ideal S32x8x256x256 .f32) (h : Fin 8) (s : Fin 256) :
    Host.reduce FloatOps.maximumf S (constant S_ .f32 0xFF800000#32) reducesTo_S32x8x256x256_S32x8x256_d3 h_S_ (ix3 b h s)
      = Finset.univ.fold max (Ideal.ofBits .f32 0xFF800000#32) fun t : Fin 256 => S (ix4 b h s t) := by
  pointwise

/-- A row statistic spread over the keys reads the statistic of the query. -/
theorem spread_at (R : FVec Ideal S32x8x256 .f32) (h : Fin 8) (s t : Fin 256) :
    broadcastInDim S32x8x256x256 ![0, 1, 2, 3] bcast_S32x8x256x1_S32x8x256x256_0_1_2_3
      (broadcastInDim S32x8x256x1 ![0, 1, 2] bcast_S32x8x256_S32x8x256x1_0_1_2 R) (ix4 b h s t) = R (ix3 b h s) := by
  pointwise

/-- The exponential weights, in terms of any scores. -/
theorem weights_of (S : FVec Ideal S32x8x256x256 .f32) (h : Fin 8) (s t : Fin 256) :
    weights S (ix4 b h s t) = Ideal.exp (S (ix4 b h s t) - max (Ideal.ofBits .f32 0xFF800000#32)
      (Finset.univ.fold max (Ideal.ofBits .f32 0xFF800000#32) fun t : Fin 256 => S (ix4 b h s t))) := by
  have e : ∀ A : FVec Ideal S32x8x256x256 .f32, Host.exp (subf S A) (ix4 b h s t) = Ideal.exp (S (ix4 b h s t) - A (ix4 b h s t)) := fun A => rfl
  have e2 : ∀ A B : FVec Ideal S32x8x256 .f32, maximumf A B (ix3 b h s) = max (A (ix3 b h s)) (B (ix3 b h s)) := fun A B => rfl
  unfold weights
  rw [e, spread_at, e2, top_at]
  rw [show broadcastInDim S32x8x256 ![] bcast_S_S32x8x256 (constant (F := Ideal) S_ .f32 0xFF800000#32) (ix3 b h s) = Ideal.ofBits .f32 0xFF800000#32 from by pointwise]

/-- The exponential weight of a score under its row maximum. -/
theorem weights_at (Q K : FVec Ideal S32x256x128 .f32) (h : Fin 8) (s t : Fin 256) : weights (scores Q K) (ix4 b h s t) = Enc.wt (rd Q b) (rd K b) h s t := by
  rw [weights_of, Enc.wt, Enc.top, scores_at, Enc.cbot, max_eq_right bot_le]
  refine congrArg (fun f : Fin 256 → EReal => Ideal.exp (_ - Finset.univ.fold max ⊥ f)) ?_
  funext u
  exact scores_at b Q K h s u

/-- Attention on a batch row, the weights divided before the products. -/
theorem heads_at (Q K V : FVec Ideal S32x256x128 .f32) : rd (heads Q K V) b = Enc.attR (rd Q b) (rd K b) (rd V b) := by
  funext s j
  pointwise [rd, heads, split, Enc.attR, weights_at b Q K]
  rfl

/-- The row mean. -/
theorem mean_at (X : FVec Ideal S32x256x128 .f32) (s : Fin 256) (z : Fin 1) : mean X (ix3 b s z) = Enc.mean (rd X b) s := by
  pointwise [mean, Enc.mean]

/-- The normalisation of a row. -/
theorem norm_at (X : FVec Ideal S32x256x128 .f32) (g c : FVec Ideal S128 .f32) : rd (norm X g c) b = Enc.norm (rd X b) (rv g) (rv c) := by
  have hc : ∀ s j, centre X (ix3 b s j) = rd X b s j - Enc.mean (rd X b) s := fun s j => by
    pointwise [centre, mean_at b X]
  have hm : ∀ s z, mean (mulf (centre X) (centre X)) (ix3 b s z)
      = Enc.mean (fun s j => (rd X b s j - Enc.mean (rd X b) s) * (rd X b s j - Enc.mean (rd X b) s)) s := fun s z => by
    rw [mean_at]
    refine congrFun (congrArg Enc.mean ?_) s
    funext s j
    pointwise [rd, hc]
  funext s j
  pointwise [rd, norm, Enc.norm, rows, hc, hm]

/-- The positive part. -/
theorem relu_at (X : FVec Ideal S32x256x128 .f32) : rd (relu X) b = Enc.relu (rd X b) := by
  funext s j
  pointwise [rd, relu, Enc.relu]

/-- The feed-forward block. -/
theorem ffn_at (X : FVec Ideal S32x256x128 .f32) (W1 : FVec Ideal S128x512 .f32) (b1 : FVec Ideal S512 .f32) (W2 : FVec Ideal S512x128 .f32) (b2 : FVec Ideal S128 .f32) :
    rd (ffn X W1 b1 W2 b2) b = Enc.ffn (rd X b) (fun i j => W1 (ix2 i j)) (fun j => b1 (ix1 j)) (fun i j => W2 (ix2 i j)) (rv b2) := by
  funext s j
  pointwise! [rd, ffn, rows, Enc.ffn, Enc.lin, Enc.relu]

/-- The layer's weights as functions. -/
def par (Wq : FVec Ideal S128x128 .f32) (bq : FVec Ideal S128 .f32) (Wk : FVec Ideal S128x128 .f32) (bk : FVec Ideal S128 .f32)
    (Wv : FVec Ideal S128x128 .f32) (bv : FVec Ideal S128 .f32) (Wo : FVec Ideal S128x128 .f32) (bo : FVec Ideal S128 .f32)
    (W1 : FVec Ideal S128x512 .f32) (b1 : FVec Ideal S512 .f32) (W2 : FVec Ideal S512x128 .f32) (b2 : FVec Ideal S128 .f32)
    (g1 c1 g2 c2 : FVec Ideal S128 .f32) : Enc.Par :=
  ⟨rm Wq, rv bq, rm Wk, rv bk, rm Wv, rv bv, rm Wo, rv bo, fun i j => W1 (ix2 i j), fun j => b1 (ix1 j), fun i j => W2 (ix2 i j), rv b2, rv g1, rv c1, rv g2, rv c2⟩

/-- One encoder layer is the mathematical layer, its weights divided first. -/
theorem layer_at (X : FVec Ideal S32x256x128 .f32) (Wq : FVec Ideal S128x128 .f32) (bq : FVec Ideal S128 .f32) (Wk : FVec Ideal S128x128 .f32) (bk : FVec Ideal S128 .f32)
    (Wv : FVec Ideal S128x128 .f32) (bv : FVec Ideal S128 .f32) (Wo : FVec Ideal S128x128 .f32) (bo : FVec Ideal S128 .f32)
    (W1 : FVec Ideal S128x512 .f32) (b1 : FVec Ideal S512 .f32) (W2 : FVec Ideal S512x128 .f32) (b2 : FVec Ideal S128 .f32)
    (g1 c1 g2 c2 : FVec Ideal S128 .f32) :
    rd (layer X Wq bq Wk bk Wv bv Wo bo W1 b1 W2 b2 g1 c1 g2 c2) b = Enc.layer Enc.attR (rd X b) (par Wq bq Wk bk Wv bv Wo bo W1 b1 W2 b2 g1 c1 g2 c2) := by
  have ha : ∀ Y : FVec Ideal S32x256x128 .f32, rd (addf X Y) b = fun s j => rd X b s j + rd Y b s j := fun Y => rfl
  unfold layer Enc.layer par
  rw [norm_at, ffn_at, norm_at, ha, dense_at, heads_at, dense_at, dense_at, dense_at]

/-- The auto-encoder. -/
theorem auto_at (X : FVec Ideal S32x256x128 .f32) (E1 : FVec Ideal S128x128 .f32) (e1 : FVec Ideal S128 .f32) (E2 : FVec Ideal S128x128 .f32) (e2 : FVec Ideal S128 .f32)
    (D1 : FVec Ideal S128x128 .f32) (d1 : FVec Ideal S128 .f32) (D2 : FVec Ideal S128x128 .f32) (d2 : FVec Ideal S128 .f32) :
    rd (auto X E1 e1 E2 e2 D1 d1 D2 d2) b = Enc.auto (rd X b) (rm E1) (rv e1) (rm E2) (rv e2) (rm D1) (rv d1) (rm D2) (rv d2) := by
  unfold auto Enc.auto
  rw [dense_at, relu_at, dense_at, dense_at, relu_at, dense_at]

end Cert.ReferenceIdeal.Stage

end
-- ==== Proof.RefNet.lean ====
/- The reference's result at an index is the encoder of its batch row, with the weights divided first. -/
module

public import proofs.«01_k».proof.Proof.RRead
public import proofs.«01_k».proof.Proof.Net

@[expose] public section

set_option maxRecDepth 16384

noncomputable section

namespace Cert.ReferenceIdeal.Stage

open Cert.ReferenceIdeal Cert.ReferenceIdeal.Gen Idealize.ShloMosaic Idealize.ShloMosaic.TcCoe Idealize.SL.Sem

/-- A stacked table's matrix reads the table. -/
theorem mat_at (l : ℕ) (k : Fin 2) (hk : l = k.val) (h : S2x128x128.Slices ![l, 0, 0] S1x128x128) (W : FVec Ideal S2x128x128 .f32) (i j : Fin 128) :
    mat l h W (ix2 i j) = W (ix3 k i j) := by
  subst hk
  pointwise [mat]

/-- A stacked table's row reads the table. -/
theorem vec_at (l : ℕ) (k : Fin 2) (hk : l = k.val) (h : S2x128.Slices ![l, 0] S1x128) (v : FVec Ideal S2x128 .f32) (j : Fin 128) :
    vec l h v (ix1 j) = v (ix2 k j) := by
  subst hk
  pointwise [vec]

/-- Layer `k` of the stacked tables is the mathematical layer with that layer's weights. -/
theorem layerAt_at (b : Fin 32) (l : ℕ) (k : Fin 2) (hk : l = k.val) (h3 : S2x128x128.Slices ![l, 0, 0] S1x128x128) (h2 : S2x128.Slices ![l, 0] S1x128)
    (h5 : S2x128x512.Slices ![l, 0, 0] S1x128x512) (h6 : S2x512.Slices ![l, 0] S1x512) (h7 : S2x512x128.Slices ![l, 0, 0] S1x512x128)
    (X : FVec Ideal S32x256x128 .f32) (x3 : FVec Ideal S2x128x128 .f32) (x4 : FVec Ideal S2x128 .f32) (x5 : FVec Ideal S2x128x128 .f32) (x6 : FVec Ideal S2x128 .f32) (x7 : FVec Ideal S2x128x128 .f32) (x8 : FVec Ideal S2x128 .f32) (x9 : FVec Ideal S2x128x128 .f32) (x10 : FVec Ideal S2x128 .f32) (x11 : FVec Ideal S2x128x512 .f32) (x12 : FVec Ideal S2x512 .f32) (x13 : FVec Ideal S2x512x128 .f32) (x14 : FVec Ideal S2x128 .f32) (x15 : FVec Ideal S2x128 .f32) (x16 : FVec Ideal S2x128 .f32) (x17 : FVec Ideal S2x128 .f32) (x18 : FVec Ideal S2x128 .f32) :
    rd (layerAt l h3 h2 h5 h6 h7 X x3 x4 x5 x6 x7 x8 x9 x10 x11 x12 x13 x14 x15 x16 x17 x18) b = Enc.layer Enc.attR (rd X b) (Enc.parAt k x3 x4 x5 x6 x7 x8 x9 x10 x11 x12 x13 x14 x15 x16 x17 x18) := by
  unfold layerAt
  rw [layer_at]
  have e1 : (fun i j => shapeCast S128x512 (extractStridedSlice S1x128x512 ![l, 0, 0] x11 h5) shapeCasts_S1x128x512_S128x512 (ix2 i j)) = fun (i : Fin 128) (j : Fin 512) => x11 (ix3 k i j) := by
    subst hk; funext i j; pointwise
  have e2 : (fun j => shapeCast S512 (extractStridedSlice S1x512 ![l, 0] x12 h6) shapeCasts_S1x512_S512 (ix1 j)) = fun (j : Fin 512) => x12 (ix2 k j) := by
    subst hk; funext j; pointwise
  have e3 : (fun i j => shapeCast S512x128 (extractStridedSlice S1x512x128 ![l, 0, 0] x13 h7) shapeCasts_S1x512x128_S512x128 (ix2 i j)) = fun (i : Fin 512) (j : Fin 128) => x13 (ix3 k i j) := by
    subst hk; funext i j; pointwise
  have em : ∀ W : FVec Ideal S2x128x128 .f32, rm (mat l h3 W) = fun i j => W (ix3 k i j) := fun W => by
    funext i j; exact mat_at l k hk h3 W i j
  have ev : ∀ v : FVec Ideal S2x128 .f32, rv (vec l h2 v) = fun j => v (ix2 k j) := fun v => by
    funext j; exact vec_at l k hk h2 v j
  unfold par Enc.parAt
  simp only [em, ev, e1, e2, e3]

/-- The reference's result at an index. -/
theorem result_at (b : Fin 32) (x0 : FVec Ideal S32x256x128 .f32) (x1 : FVec Ideal S128x128 .f32) (x2 : FVec Ideal S128 .f32) (x3 : FVec Ideal S2x128x128 .f32) (x4 : FVec Ideal S2x128 .f32) (x5 : FVec Ideal S2x128x128 .f32) (x6 : FVec Ideal S2x128 .f32) (x7 : FVec Ideal S2x128x128 .f32) (x8 : FVec Ideal S2x128 .f32) (x9 : FVec Ideal S2x128x128 .f32) (x10 : FVec Ideal S2x128 .f32) (x11 : FVec Ideal S2x128x512 .f32) (x12 : FVec Ideal S2x512 .f32) (x13 : FVec Ideal S2x512x128 .f32) (x14 : FVec Ideal S2x128 .f32) (x15 : FVec Ideal S2x128 .f32) (x16 : FVec Ideal S2x128 .f32) (x17 : FVec Ideal S2x128 .f32) (x18 : FVec Ideal S2x128 .f32) (x19 : FVec Ideal S128x128 .f32) (x20 : FVec Ideal S128 .f32) (x21 : FVec Ideal S128x128 .f32) (x22 : FVec Ideal S128 .f32) (x23 : FVec Ideal S128x128 .f32) (x24 : FVec Ideal S128 .f32) (x25 : FVec Ideal S128x128 .f32) (x26 : FVec Ideal S128 .f32) :
    rd (result x0 x1 x2 x3 x4 x5 x6 x7 x8 x9 x10 x11 x12 x13 x14 x15 x16 x17 x18 x19 x20 x21 x22 x23 x24 x25 x26) b = Enc.net Enc.attR (rd x0 b) x1 x2 x3 x4 x5 x6 x7 x8 x9 x10 x11 x12 x13 x14 x15 x16 x17 x18 x19 x20 x21 x22 x23 x24 x25 x26 := by
  unfold result Enc.net
  rw [auto_at, layerAt_at b 1 1 rfl, layerAt_at b 0 0 rfl, dense_at]

end Cert.ReferenceIdeal.Stage

end
-- ==== Proof.Final.lean ====
/- The kernel's result array after the launch is the reference's result, for finite inputs and query and key weights. -/
module

public import proofs.«01_k».proof.Proof.KNet
public import proofs.«01_k».proof.Proof.RefNet
public import proofs.«01_k».proof.Proof.Gen.KernelIdeal.Value

@[expose] public section

set_option maxRecDepth 16384

noncomputable section

namespace Cert.KernelIdeal.Stage

open Cert.KernelIdeal Cert.KernelIdeal.Gen Idealize.ShloMosaic Idealize.ShloMosaic.TcCoe Idealize.SL.Sem

variable (m : (ℓ : Loc nD τ sig) → Buf (Elt Ideal) ℓ)

/-- Point `t` takes four batch rows of the input and writes the same four of the result. -/
theorem idx : ∀ t : Fin cfg0.N, win0_0.index t = ![t.val, 0, 0] ∧ win0_27.index t = ![t.val, 0, 0] := (by decide +kernel : ∀ t : Fin grid0.N, _)

/-- Parameter 1 is read whole. -/
theorem whole1 (c : Dev nD) (t : Fin cfg0.N) : iblk m c 1 t = m ((c.tc : Thread nD τ).loc main_arg1) := by
  have h : ∀ t : Fin cfg0.N, win0_1.index t = ![0, 0] := (by decide +kernel : ∀ t : Fin grid0.N, _)
  blk_ext! [iblk, V, h t]
/-- Parameter 2 is read whole. -/
theorem whole2 (c : Dev nD) (t : Fin cfg0.N) : iblk m c 2 t = m ((c.tc : Thread nD τ).loc main_arg2) := by
  have h : ∀ t : Fin cfg0.N, win0_2.index t = ![0] := (by decide +kernel : ∀ t : Fin grid0.N, _)
  blk_ext! [iblk, V, h t]
/-- Parameter 3 is read whole. -/
theorem whole3 (c : Dev nD) (t : Fin cfg0.N) : iblk m c 3 t = m ((c.tc : Thread nD τ).loc main_arg3) := by
  have h : ∀ t : Fin cfg0.N, win0_3.index t = ![0, 0, 0] := (by decide +kernel : ∀ t : Fin grid0.N, _)
  blk_ext! [iblk, V, h t]
/-- Parameter 4 is read whole. -/
theorem whole4 (c : Dev nD) (t : Fin cfg0.N) : iblk m c 4 t = m ((c.tc : Thread nD τ).loc main_arg4) := by
  have h : ∀ t : Fin cfg0.N, win0_4.index t = ![0, 0] := (by decide +kernel : ∀ t : Fin grid0.N, _)
  blk_ext! [iblk, V, h t]
/-- Parameter 5 is read whole. -/
theorem whole5 (c : Dev nD) (t : Fin cfg0.N) : iblk m c 5 t = m ((c.tc : Thread nD τ).loc main_arg5) := by
  have h : ∀ t : Fin cfg0.N, win0_5.index t = ![0, 0, 0] := (by decide +kernel : ∀ t : Fin grid0.N, _)
  blk_ext! [iblk, V, h t]
/-- Parameter 6 is read whole. -/
theorem whole6 (c : Dev nD) (t : Fin cfg0.N) : iblk m c 6 t = m ((c.tc : Thread nD τ).loc main_arg6) := by
  have h : ∀ t : Fin cfg0.N, win0_6.index t = ![0, 0] := (by decide +kernel : ∀ t : Fin grid0.N, _)
  blk_ext! [iblk, V, h t]
/-- Parameter 7 is read whole. -/
theorem whole7 (c : Dev nD) (t : Fin cfg0.N) : iblk m c 7 t = m ((c.tc : Thread nD τ).loc main_arg7) := by
  have h : ∀ t : Fin cfg0.N, win0_7.index t = ![0, 0, 0] := (by decide +kernel : ∀ t : Fin grid0.N, _)
  blk_ext! [iblk, V, h t]
/-- Parameter 8 is read whole. -/
theorem whole8 (c : Dev nD) (t : Fin cfg0.N) : iblk m c 8 t = m ((c.tc : Thread nD τ).loc main_arg8) := by
  have h : ∀ t : Fin cfg0.N, win0_8.index t = ![0, 0] := (by decide +kernel : ∀ t : Fin grid0.N, _)
  blk_ext! [iblk, V, h t]
/-- Parameter 9 is read whole. -/
theorem whole9 (c : Dev nD) (t : Fin cfg0.N) : iblk m c 9 t = m ((c.tc : Thread nD τ).loc main_arg9) := by
  have h : ∀ t : Fin cfg0.N, win0_9.index t = ![0, 0, 0] := (by decide +kernel : ∀ t : Fin grid0.N, _)
  blk_ext! [iblk, V, h t]
/-- Parameter 10 is read whole. -/
theorem whole10 (c : Dev nD) (t : Fin cfg0.N) : iblk m c 10 t = m ((c.tc : Thread nD τ).loc main_arg10) := by
  have h : ∀ t : Fin cfg0.N, win0_10.index t = ![0, 0] := (by decide +kernel : ∀ t : Fin grid0.N, _)
  blk_ext! [iblk, V, h t]
/-- Parameter 11 is read whole. -/
theorem whole11 (c : Dev nD) (t : Fin cfg0.N) : iblk m c 11 t = m ((c.tc : Thread nD τ).loc main_arg11) := by
  have h : ∀ t : Fin cfg0.N, win0_11.index t = ![0, 0, 0] := (by decide +kernel : ∀ t : Fin grid0.N, _)
  blk_ext! [iblk, V, h t]
/-- Parameter 12 is read whole. -/
theorem whole12 (c : Dev nD) (t : Fin cfg0.N) : iblk m c 12 t = m ((c.tc : Thread nD τ).loc main_arg12) := by
  have h : ∀ t : Fin cfg0.N, win0_12.index t = ![0, 0] := (by decide +kernel : ∀ t : Fin grid0.N, _)
  blk_ext! [iblk, V, h t]
/-- Parameter 13 is read whole. -/
theorem whole13 (c : Dev nD) (t : Fin cfg0.N) : iblk m c 13 t = m ((c.tc : Thread nD τ).loc main_arg13) := by
  have h : ∀ t : Fin cfg0.N, win0_13.index t = ![0, 0, 0] := (by decide +kernel : ∀ t : Fin grid0.N, _)
  blk_ext! [iblk, V, h t]
/-- Parameter 14 is read whole. -/
theorem whole14 (c : Dev nD) (t : Fin cfg0.N) : iblk m c 14 t = m ((c.tc : Thread nD τ).loc main_arg14) := by
  have h : ∀ t : Fin cfg0.N, win0_14.index t = ![0, 0] := (by decide +kernel : ∀ t : Fin grid0.N, _)
  blk_ext! [iblk, V, h t]
/-- Parameter 15 is read whole. -/
theorem whole15 (c : Dev nD) (t : Fin cfg0.N) : iblk m c 15 t = m ((c.tc : Thread nD τ).loc main_arg15) := by
  have h : ∀ t : Fin cfg0.N, win0_15.index t = ![0, 0] := (by decide +kernel : ∀ t : Fin grid0.N, _)
  blk_ext! [iblk, V, h t]
/-- Parameter 16 is read whole. -/
theorem whole16 (c : Dev nD) (t : Fin cfg0.N) : iblk m c 16 t = m ((c.tc : Thread nD τ).loc main_arg16) := by
  have h : ∀ t : Fin cfg0.N, win0_16.index t = ![0, 0] := (by decide +kernel : ∀ t : Fin grid0.N, _)
  blk_ext! [iblk, V, h t]
/-- Parameter 17 is read whole. -/
theorem whole17 (c : Dev nD) (t : Fin cfg0.N) : iblk m c 17 t = m ((c.tc : Thread nD τ).loc main_arg17) := by
  have h : ∀ t : Fin cfg0.N, win0_17.index t = ![0, 0] := (by decide +kernel : ∀ t : Fin grid0.N, _)
  blk_ext! [iblk, V, h t]
/-- Parameter 18 is read whole. -/
theorem whole18 (c : Dev nD) (t : Fin cfg0.N) : iblk m c 18 t = m ((c.tc : Thread nD τ).loc main_arg18) := by
  have h : ∀ t : Fin cfg0.N, win0_18.index t = ![0, 0] := (by decide +kernel : ∀ t : Fin grid0.N, _)
  blk_ext! [iblk, V, h t]
/-- Parameter 19 is read whole. -/
theorem whole19 (c : Dev nD) (t : Fin cfg0.N) : iblk m c 19 t = m ((c.tc : Thread nD τ).loc main_arg19) := by
  have h : ∀ t : Fin cfg0.N, win0_19.index t = ![0, 0] := (by decide +kernel : ∀ t : Fin grid0.N, _)
  blk_ext! [iblk, V, h t]
/-- Parameter 20 is read whole. -/
theorem whole20 (c : Dev nD) (t : Fin cfg0.N) : iblk m c 20 t = m ((c.tc : Thread nD τ).loc main_arg20) := by
  have h : ∀ t : Fin cfg0.N, win0_20.index t = ![0] := (by decide +kernel : ∀ t : Fin grid0.N, _)
  blk_ext! [iblk, V, h t]
/-- Parameter 21 is read whole. -/
theorem whole21 (c : Dev nD) (t : Fin cfg0.N) : iblk m c 21 t = m ((c.tc : Thread nD τ).loc main_arg21) := by
  have h : ∀ t : Fin cfg0.N, win0_21.index t = ![0, 0] := (by decide +kernel : ∀ t : Fin grid0.N, _)
  blk_ext! [iblk, V, h t]
/-- Parameter 22 is read whole. -/
theorem whole22 (c : Dev nD) (t : Fin cfg0.N) : iblk m c 22 t = m ((c.tc : Thread nD τ).loc main_arg22) := by
  have h : ∀ t : Fin cfg0.N, win0_22.index t = ![0] := (by decide +kernel : ∀ t : Fin grid0.N, _)
  blk_ext! [iblk, V, h t]
/-- Parameter 23 is read whole. -/
theorem whole23 (c : Dev nD) (t : Fin cfg0.N) : iblk m c 23 t = m ((c.tc : Thread nD τ).loc main_arg23) := by
  have h : ∀ t : Fin cfg0.N, win0_23.index t = ![0, 0] := (by decide +kernel : ∀ t : Fin grid0.N, _)
  blk_ext! [iblk, V, h t]
/-- Parameter 24 is read whole. -/
theorem whole24 (c : Dev nD) (t : Fin cfg0.N) : iblk m c 24 t = m ((c.tc : Thread nD τ).loc main_arg24) := by
  have h : ∀ t : Fin cfg0.N, win0_24.index t = ![0] := (by decide +kernel : ∀ t : Fin grid0.N, _)
  blk_ext! [iblk, V, h t]
/-- Parameter 25 is read whole. -/
theorem whole25 (c : Dev nD) (t : Fin cfg0.N) : iblk m c 25 t = m ((c.tc : Thread nD τ).loc main_arg25) := by
  have h : ∀ t : Fin cfg0.N, win0_25.index t = ![0, 0] := (by decide +kernel : ∀ t : Fin grid0.N, _)
  blk_ext! [iblk, V, h t]
/-- Parameter 26 is read whole. -/
theorem whole26 (c : Dev nD) (t : Fin cfg0.N) : iblk m c 26 t = m ((c.tc : Thread nD τ).loc main_arg26) := by
  have h : ∀ t : Fin cfg0.N, win0_26.index t = ![0] := (by decide +kernel : ∀ t : Fin grid0.N, _)
  blk_ext! [iblk, V, h t]

/-- Row `b` of point `t`'s input block is the batch row it was taken from. -/
theorem rows_at (c : Dev nD) (t : Fin cfg0.N) (b : Fin 4) (B : Fin 32) (hB : B.val = 4 * t.val + b.val) (s : Fin 256) (j : Fin 128) :
    (show FVec Ideal S4x256x128 .f32 from iblk m c 0 t) (ix3 b s j) = (show FVec Ideal S32x256x128 .f32 from m ((c.tc : Thread nD τ).loc main_arg0)) (ix3 B s j) := by
  blk_point [iblk, V, idx t]

/-- What a point stores at an index of its block is the reference's result at the array's index. -/
theorem core (c : Dev nD) (t : Fin cfg0.N) (x0 : FVec Ideal S32x256x128 .f32) (hx : (m ((c.tc : Thread nD τ).loc main_arg0)) = x0) (x1 : FVec Ideal S128x128 .f32) (x2 : FVec Ideal S128 .f32) (x3 : FVec Ideal S2x128x128 .f32) (x4 : FVec Ideal S2x128 .f32) (x5 : FVec Ideal S2x128x128 .f32) (x6 : FVec Ideal S2x128 .f32) (x7 : FVec Ideal S2x128x128 .f32) (x8 : FVec Ideal S2x128 .f32) (x9 : FVec Ideal S2x128x128 .f32) (x10 : FVec Ideal S2x128 .f32) (x11 : FVec Ideal S2x128x512 .f32) (x12 : FVec Ideal S2x512 .f32) (x13 : FVec Ideal S2x512x128 .f32) (x14 : FVec Ideal S2x128 .f32) (x15 : FVec Ideal S2x128 .f32) (x16 : FVec Ideal S2x128 .f32) (x17 : FVec Ideal S2x128 .f32) (x18 : FVec Ideal S2x128 .f32) (x19 : FVec Ideal S128x128 .f32) (x20 : FVec Ideal S128 .f32) (x21 : FVec Ideal S128x128 .f32) (x22 : FVec Ideal S128 .f32) (x23 : FVec Ideal S128x128 .f32) (x24 : FVec Ideal S128 .f32) (x25 : FVec Ideal S128x128 .f32) (x26 : FVec Ideal S128 .f32)
    (h0 : ∀ i, Enc.Fin' (x0 i)) (h1 : ∀ i, Enc.Fin' (x1 i)) (h2 : ∀ i, Enc.Fin' (x2 i)) (h3 : ∀ i, Enc.Fin' (x3 i)) (h4 : ∀ i, Enc.Fin' (x4 i))
    (h5 : ∀ i, Enc.Fin' (x5 i)) (h6 : ∀ i, Enc.Fin' (x6 i)) (h17 : ∀ i, Enc.Fin' (x17 i)) (h18 : ∀ i, Enc.Fin' (x18 i))
    (b : Fin 4) (s : Fin 256) (j : Fin 128) (B : Fin 32) (hB : B.val = 4 * t.val + b.val) :
    stored (F := Ideal) (iblk m c 0 t) x1 x2 x3 x4 x5 x6 x7 x8 x9 x10 x11 x12 x13 x14 x15 x16 x17 x18 x19 x20 x21 x22 x23 x24 x25 x26 (ix3 b s j) = Cert.ReferenceIdeal.Stage.result x0 x1 x2 x3 x4 x5 x6 x7 x8 x9 x10 x11 x12 x13 x14 x15 x16 x17 x18 x19 x20 x21 x22 x23 x24 x25 x26 (ix3 B s j) := by
  have hr := congrFun (congrFun (Cert.ReferenceIdeal.Stage.result_at B x0 x1 x2 x3 x4 x5 x6 x7 x8 x9 x10 x11 x12 x13 x14 x15 x16 x17 x18 x19 x20 x21 x22 x23 x24 x25 x26) s) j
  have hn := Enc.net_eq (Cert.ReferenceIdeal.Stage.rd x0 B) x1 x2 x3 x4 x5 x6 x7 x8 x9 x10 x11 x12 x13 x14 x15 x16 x17 x18 x19 x20 x21 x22 x23 x24 x25 x26 (fun _ _ => h0 _) h1 h2 h3 h4 h5 h6 h17 h18
  have hb : (fun (s : Fin 256) (j : Fin 128) => (show FVec Ideal S4x256x128 .f32 from iblk m c 0 t) (ix3 b s j)) = Cert.ReferenceIdeal.Stage.rd x0 B := by
    funext s j
    rw [rows_at m c t b B hB s j, hx]
  refine (stored_at (iblk m c 0 t) x1 x2 x3 x4 x5 x6 x7 x8 x9 x10 x11 x12 x13 x14 x15 x16 x17 x18 x19 x20 x21 x22 x23 x24 x25 x26 b s j).trans (Eq.trans ?_ hr.symm)
  rw [← hn]
  exact congrFun (congrFun (congrArg (fun X => Enc.net Enc.attK X x1 x2 x3 x4 x5 x6 x7 x8 x9 x10 x11 x12 x13 x14 x15 x16 x17 x18 x19 x20 x21 x22 x23 x24 x25 x26) hb) s) j

set_option maxHeartbeats 3200000 in
/-- The kernel's result array after the launch. -/
theorem final (c : Dev nD) (x0 : FVec Ideal S32x256x128 .f32) (e0 : (m ((c.tc : Thread nD τ).loc main_arg0)) = x0) (x1 : FVec Ideal S128x128 .f32) (e1 : (m ((c.tc : Thread nD τ).loc main_arg1)) = x1) (x2 : FVec Ideal S128 .f32) (e2 : (m ((c.tc : Thread nD τ).loc main_arg2)) = x2) (x3 : FVec Ideal S2x128x128 .f32) (e3 : (m ((c.tc : Thread nD τ).loc main_arg3)) = x3) (x4 : FVec Ideal S2x128 .f32) (e4 : (m ((c.tc : Thread nD τ).loc main_arg4)) = x4) (x5 : FVec Ideal S2x128x128 .f32) (e5 : (m ((c.tc : Thread nD τ).loc main_arg5)) = x5) (x6 : FVec Ideal S2x128 .f32) (e6 : (m ((c.tc : Thread nD τ).loc main_arg6)) = x6) (x7 : FVec Ideal S2x128x128 .f32) (e7 : (m ((c.tc : Thread nD τ).loc main_arg7)) = x7) (x8 : FVec Ideal S2x128 .f32) (e8 : (m ((c.tc : Thread nD τ).loc main_arg8)) = x8) (x9 : FVec Ideal S2x128x128 .f32) (e9 : (m ((c.tc : Thread nD τ).loc main_arg9)) = x9) (x10 : FVec Ideal S2x128 .f32) (e10 : (m ((c.tc : Thread nD τ).loc main_arg10)) = x10) (x11 : FVec Ideal S2x128x512 .f32) (e11 : (m ((c.tc : Thread nD τ).loc main_arg11)) = x11) (x12 : FVec Ideal S2x512 .f32) (e12 : (m ((c.tc : Thread nD τ).loc main_arg12)) = x12) (x13 : FVec Ideal S2x512x128 .f32) (e13 : (m ((c.tc : Thread nD τ).loc main_arg13)) = x13) (x14 : FVec Ideal S2x128 .f32) (e14 : (m ((c.tc : Thread nD τ).loc main_arg14)) = x14) (x15 : FVec Ideal S2x128 .f32) (e15 : (m ((c.tc : Thread nD τ).loc main_arg15)) = x15) (x16 : FVec Ideal S2x128 .f32) (e16 : (m ((c.tc : Thread nD τ).loc main_arg16)) = x16) (x17 : FVec Ideal S2x128 .f32) (e17 : (m ((c.tc : Thread nD τ).loc main_arg17)) = x17) (x18 : FVec Ideal S2x128 .f32) (e18 : (m ((c.tc : Thread nD τ).loc main_arg18)) = x18) (x19 : FVec Ideal S128x128 .f32) (e19 : (m ((c.tc : Thread nD τ).loc main_arg19)) = x19) (x20 : FVec Ideal S128 .f32) (e20 : (m ((c.tc : Thread nD τ).loc main_arg20)) = x20) (x21 : FVec Ideal S128x128 .f32) (e21 : (m ((c.tc : Thread nD τ).loc main_arg21)) = x21) (x22 : FVec Ideal S128 .f32) (e22 : (m ((c.tc : Thread nD τ).loc main_arg22)) = x22) (x23 : FVec Ideal S128x128 .f32) (e23 : (m ((c.tc : Thread nD τ).loc main_arg23)) = x23) (x24 : FVec Ideal S128 .f32) (e24 : (m ((c.tc : Thread nD τ).loc main_arg24)) = x24) (x25 : FVec Ideal S128x128 .f32) (e25 : (m ((c.tc : Thread nD τ).loc main_arg25)) = x25) (x26 : FVec Ideal S128 .f32) (e26 : (m ((c.tc : Thread nD τ).loc main_arg26)) = x26)
    (h0 : ∀ i, Enc.Fin' (x0 i)) (h1 : ∀ i, Enc.Fin' (x1 i)) (h2 : ∀ i, Enc.Fin' (x2 i)) (h3 : ∀ i, Enc.Fin' (x3 i)) (h4 : ∀ i, Enc.Fin' (x4 i)) (h5 : ∀ i, Enc.Fin' (x5 i)) (h6 : ∀ i, Enc.Fin' (x6 i)) (h17 : ∀ i, Enc.Fin' (x17 i)) (h18 : ∀ i, Enc.Fin' (x18 i)) :
    (dats m 0 c).arrAt 27 cfg0.N = Cert.ReferenceIdeal.Stage.result (F := Ideal) x0 x1 x2 x3 x4 x5 x6 x7 x8 x9 x10 x11 x12 x13 x14 x15 x16 x17 x18 x19 x20 x21 x22 x23 x24 x25 x26 := by
  refine (dats m 0 c).arrAt_eq_of_covers 27 _ (by decide +kernel) fun t _ y => ?_
  blk_simp
  rw [after0_27, out_eq]
  rw [whole1 m c t, whole2 m c t, whole3 m c t, whole4 m c t, whole5 m c t, whole6 m c t, whole7 m c t, whole8 m c t, whole9 m c t, whole10 m c t, whole11 m c t, whole12 m c t, whole13 m c t, whole14 m c t, whole15 m c t, whole16 m c t, whole17 m c t, whole18 m c t, whole19 m c t, whole20 m c t, whole21 m c t, whole22 m c t, whole23 m c t, whole24 m c t, whole25 m c t, whole26 m c t]
  rw [e1, e2, e3, e4, e5, e6, e7, e8, e9, e10, e11, e12, e13, e14, e15, e16, e17, e18, e19, e20, e21, e22, e23, e24, e25, e26]
  idx_vars y
  have hb := y0.isLt
  have ht : t.val < 8 := t.isLt
  refine (core m c t x0 e0 x1 x2 x3 x4 x5 x6 x7 x8 x9 x10 x11 x12 x13 x14 x15 x16 x17 x18 x19 x20 x21 x22 x23 x24 x25 x26 h0 h1 h2 h3 h4 h5 h6 h17 h18 y0 y1 y2 ⟨4 * t.val + y0.val, by omega⟩ rfl).trans ?_
  refine congrArg (Cert.ReferenceIdeal.Stage.result x0 x1 x2 x3 x4 x5 x6 x7 x8 x9 x10 x11 x12 x13 x14 x15 x16 x17 x18 x19 x20 x21 x22 x23 x24 x25 x26) ?_
  blk_ext [idx t]

end Cert.KernelIdeal.Stage

end
-- ==== Proof.Pre.lean ====
/- The precondition read: every entry of the named arguments is a real number. -/
module

public import proofs.«01_k».proof.Defs
public import proofs.«01_k».proof.Proof.Enc
public import Idealize.ShloMosaic.Lib.Pointwise

@[expose] public section

set_option maxRecDepth 16384

noncomputable section

namespace Cert.KernelIdeal.Stage

open Cert.KernelIdeal Idealize.ShloMosaic Idealize.ShloMosaic.TcCoe Idealize.SL.Sem

/-- The precondition's own side conditions: a scalar spreads over any shape. -/
theorem preFacts : Cert.Pre_scores_finite.Facts := by
  constructor <;> decide

/-- An entry whose magnitude is below the infinity pattern is a real number. -/
theorem real_of_lt {s : Shape} (X : FVec Ideal s .f32) (h : (⟨0, ![]⟩ : Shape).BroadcastsInDim s ![])
    (e : cmpf .olt (Host.absf X) (broadcastInDim s ![] h (constant (F := Ideal) ⟨0, ![]⟩ .f32 0x7F800000#32)) = fun _ => 1#1) (i : s.Idx) : Enc.Fin' (X i) := by
  have hi : Ideal.cmp .olt (max (X i) (-(X i))) (Ideal.ofBits .f32 0x7F800000#32) = 1#1 := congrFun e i
  have hT : Ideal.ofBits .f32 0x7F800000#32 = (⊤ : EReal) := by simp [Ideal.ofBits, Ideal.ieee]
  rw [hT] at hi
  have hl : max (X i) (-(X i)) < (⊤ : EReal) := by
    by_contra hn
    simp [Ideal.cmp, hn] at hi
  rw [max_lt_iff] at hl
  generalize X i = x at hl
  induction x using EReal.rec with
  | bot => exact absurd hl.2 (by simp)
  | coe r => exact ⟨r, rfl⟩
  | top => exact absurd hl.1 (by simp)

/-- Every entry of the nine arguments the precondition names is a real number. -/
theorem pre_real (m : (ℓ : Loc nD τ sig) → Buf (Elt Ideal) ℓ) (h : Cert.Pre_KernelIdeal_scores_finite (hPre_scores_finite := preFacts) m) (c : Dev nD) :
    (∀ i, Enc.Fin' ((show FVec Ideal S32x256x128 .f32 from m ((c.tc : Thread nD τ).loc main_arg0)) i)) ∧ (∀ i, Enc.Fin' ((show FVec Ideal S128x128 .f32 from m ((c.tc : Thread nD τ).loc main_arg1)) i)) ∧ (∀ i, Enc.Fin' ((show FVec Ideal S128 .f32 from m ((c.tc : Thread nD τ).loc main_arg2)) i)) ∧ (∀ i, Enc.Fin' ((show FVec Ideal S2x128x128 .f32 from m ((c.tc : Thread nD τ).loc main_arg3)) i)) ∧ (∀ i, Enc.Fin' ((show FVec Ideal S2x128 .f32 from m ((c.tc : Thread nD τ).loc main_arg4)) i)) ∧ (∀ i, Enc.Fin' ((show FVec Ideal S2x128x128 .f32 from m ((c.tc : Thread nD τ).loc main_arg5)) i)) ∧ (∀ i, Enc.Fin' ((show FVec Ideal S2x128 .f32 from m ((c.tc : Thread nD τ).loc main_arg6)) i)) ∧ (∀ i, Enc.Fin' ((show FVec Ideal S2x128 .f32 from m ((c.tc : Thread nD τ).loc main_arg17)) i)) ∧ (∀ i, Enc.Fin' ((show FVec Ideal S2x128 .f32 from m ((c.tc : Thread nD τ).loc main_arg18)) i)) := by
  obtain ⟨a0, a1, a2, a3, a4, a5, a6, a7, a8⟩ := h c
  exact ⟨real_of_lt _ _ a0, real_of_lt _ _ a1, real_of_lt _ _ a2, real_of_lt _ _ a3, real_of_lt _ _ a4, real_of_lt _ _ a5, real_of_lt _ _ a6, real_of_lt _ _ a7, real_of_lt _ _ a8⟩

end Cert.KernelIdeal.Stage

end
-- ==== Proof.AsgStages.lean ====
/- The assignment kernel's body for ONE position, cut into named stages: the squared distances of its rows, the softmax
   of their negatives, the ranks, the position's part of the total, the rows' labels. Each is written with the operations
   the body prints, over variable inputs; a grid point's two outputs are these stages over its 32 positions. -/
module

public import proofs.«01_k».proof.Proof.Gen.AssignIdeal.Frame
public import Idealize.ShloMosaic.Lib.Pipeline.ValueKit

@[expose] public section

set_option maxRecDepth 65536

noncomputable section

namespace Cert.AssignIdeal.Stage

open Cert.AssignIdeal Cert.AssignIdeal.Gen Idealize.ShloMosaic Idealize.ShloMosaic.TcCoe Idealize.SL.Sem

variable {F : FTy → Type} [FloatOps F]

/-- The squared distances between the rows of one position. -/
def dist (X : FVec F S1x32x128 .f32) : FVec F S32x32 .f32 :=
  have a : FVec F S32x128 .f32 := shapeCast S32x128 X shapeCasts_S1x32x128_S32x128
  have d : FVec F S32x32x128 .f32 := subf (broadcastTo S32x32x128 (shapeCast S32x1x128 a shapeCasts_S32x128_S32x1x128) broadcasts_S32x1x128_S32x32x128)
    (broadcastTo S32x32x128 (shapeCast S1x32x128 a shapeCasts_S32x128_S1x32x128) broadcasts_S1x32x128_S32x32x128)
  multiReduction .add [2] S32x32 (mulf d d) 0x00000000#32 reduces_S32x32x128_S32x32 (.inl rfl) rfl

/-- The negated distances. -/
def neg (D : FVec F S32x32 .f32) : FVec F S32x32 .f32 :=
  subf (broadcast S32x32 (Scalar.ofBits .f32 0x00000000#32 : F .f32)) D

/-- The exponentials of a matrix, each row lessened by its greatest entry. -/
def expo (Z : FVec F S32x32 .f32) : FVec F S32x32 .f32 :=
  exp (subf Z (broadcastTo S32x32 (shapeCast S32x1 (multiReduction .maximumf [1] S32 Z 0xFF800000#32 reduces_S32x32_S32 (.inl rfl) rfl) shapeCasts_S32_S32x1) broadcasts_S32x1_S32x32))

/-- The four groups of eight columns added. -/
def eight (E : FVec F S32x32 .f32) : FVec F S32x8 .f32 :=
  addf (addf (addf (extractStridedSlice S32x8 ![0, 0] E slices_S32x32_o0_0_S32x8) (extractStridedSlice S32x8 ![0, 8] E slices_S32x32_o0_8_S32x8))
    (extractStridedSlice S32x8 ![0, 16] E slices_S32x32_o0_16_S32x8)) (extractStridedSlice S32x8 ![0, 24] E slices_S32x32_o0_24_S32x8)

/-- Eight columns added by halves. -/
def halves (G : FVec F S32x8 .f32) : FVec F S32x1 .f32 :=
  have q : FVec F S32x4 .f32 := addf (extractStridedSlice S32x4 ![0, 0] G slices_S32x8_o0_0_S32x4) (extractStridedSlice S32x4 ![0, 4] G slices_S32x8_o0_4_S32x4)
  have h : FVec F S32x2 .f32 := addf (extractStridedSlice S32x2 ![0, 0] q slices_S32x4_o0_0_S32x2) (extractStridedSlice S32x2 ![0, 2] q slices_S32x4_o0_2_S32x2)
  addf (extractStridedSlice S32x1 ![0, 0] h slices_S32x2_o0_0_S32x1) (extractStridedSlice S32x1 ![0, 1] h slices_S32x2_o0_1_S32x1)

/-- Each row over its sum. -/
def prob (E : FVec F S32x32 .f32) : FVec F S32x32 .f32 :=
  divf E (broadcastTo S32x32 (halves (eight E)) broadcasts_S32x1_S32x32)

/-- Which entry `j` stands before entry `k` of row `c`: the greater one, or the equal one at the lower index. -/
def beats (p : FVec F S32x32 .f32) : IVec S32x32x32 1 :=
  have P1 : FVec F S32x32x32 .f32 := broadcastTo S32x32x32 (shapeCast S32x1x32 p shapeCasts_S32x32_S32x1x32) broadcasts_S32x1x32_S32x32x32
  have P2 : FVec F S32x32x32 .f32 := broadcastTo S32x32x32 (shapeCast S32x32x1 p shapeCasts_S32x32_S32x32x1) broadcasts_S32x32x1_S32x32x32
  ori (cmpf .ogt P1 P2) (andi (cmpf .oeq P1 P2) (cmpi .slt (iota .tc S32x32x32 32 [2] iota_S32x32x32_d2_w32) (iota .tc S32x32x32 32 [1] iota_S32x32x32_d1_w32)))

/-- How many entries of its row stand before each entry. -/
def rank (p : FVec F S32x32 .f32) : IVec S32x32 32 :=
  multiReductionI .add [2] S32x32 (extui 32 (beats p) natLt_1_32) 0#32 reduces_S32x32x32_S32x32 rfl

/-- How many of the first 16 entries of each row have their own index as rank. -/
def fixedCount (R : IVec S32x32 32) : FVec F S32 .f32 :=
  multiReduction .add [1] S32 (sitofp .f32 (extui 32 (andi (cmpi .eq R (iota .tc S32x32 32 [1] iota_S32x32_d1_w32)) (cmpi .slt (iota .tc S32x32 32 [1] iota_S32x32_d1_w32) (broadcast S32x32 16#32))) natLt_1_32) : FVec F S32x32 .f32) 0x00000000#32 reduces_S32x32_S32 (.inl rfl) rfl

/-- One position's part of the total, from its distances and ranks. -/
def part (D : FVec F S32x32 .f32) (R : IVec S32x32 32) : FVec F S1x1 .f32 :=
  shapeCast S1x1 (broadcast S1 (extractAt ![0, 0] (shapeCast S1x1 (multiReduction .add [1] S1 (shapeCast S1x32 (mulf (fixedCount R) (multiReduction .add [1] S32 D 0x00000000#32 reduces_S32x32_S32 (.inl rfl) rfl)) shapeCasts_S32_S1x32) 0x00000000#32 reduces_S1x32_S1 (.inl rfl) rfl) shapeCasts_S1_S1x1) inpos_S1x1_p0_0)) shapeCasts_S1_S1x1

/-- The ranks of one position's rows. -/
def ranks (X : FVec F S1x32x128 .f32) : IVec S32x32 32 := rank (prob (expo (neg (dist X))))

/-- One position's part of the total. -/
def partOf (X : FVec F S1x32x128 .f32) : FVec F S1x1 .f32 := part (dist X) (ranks X)

/-- Whether an entry is among the first 16 of its row, as a number. -/
def chosen (R : IVec S32x32 32) : FVec F S32x32 .f32 :=
  sitofp .f32 (extui 32 (cmpi .slt R (broadcast S32x32 16#32)) natLt_1_32)

/-- Whether a row's label is `v`, as a number. -/
def isLabel (L : IVec S1x32 32) : FVec F S32x16 .f32 :=
  sitofp .f32 (extui 32 (cmpi .eq (broadcastTo S32x16 (shapeCast S32x1 (shapeCast S32 L shapeCasts_S1x32_S32) shapeCasts_S32_S32x1) broadcasts_S32x1_S32x16) (iota .tc S32x16 32 [1] iota_S32x16_d1_w32)) natLt_1_32)

/-- How many of a row's first 16 entries carry each label. -/
def counts (R : IVec S32x32 32) (L : IVec S1x32 32) : FVec F S32x16 .f32 :=
  multiReduction .add [1] S32x16 (mulf
    (broadcastTo S32x32x16 (shapeCast S32x32x1 (chosen R : FVec F S32x32 .f32) shapeCasts_S32x32_S32x32x1) broadcasts_S32x32x1_S32x32x16)
    (broadcastTo S32x32x16 (shapeCast S1x32x16 (isLabel L : FVec F S32x16 .f32) shapeCasts_S32x16_S1x32x16) broadcasts_S1x32x16_S32x32x16)) 0x00000000#32 reduces_S32x32x16_S32x16 (.inl rfl) rfl

/-- The least label of greatest count. -/
def label (C : FVec F S32x16 .f32) : IVec S32 32 :=
  multiReductionI .minsi [1] S32 (select (cmpf .oeq C (broadcastTo S32x16 (shapeCast S32x1 (multiReduction .maximumf [1] S32 C 0xFF800000#32 reduces_S32x16_S32 (.inl rfl) rfl) shapeCasts_S32_S32x1) broadcasts_S32x1_S32x16)) (iota .tc S32x16 32 [1] iota_S32x16_d1_w32) (broadcast S32x16 16#32)) 2147483647#32 reduces_S32x16_S32 rfl

/-- One position's row of the assigned labels. -/
def labelsOf (X : FVec F S1x32x128 .f32) (L : IVec S1x32 32) : IVec S1x32 32 :=
  shapeCast S1x32 (label (counts (ranks X) L : FVec F S32x16 .f32)) shapeCasts_S32_S1x32

/-- The 32 positions' parts of the total, added from zero. -/
def parts (x0 : Vec F S32x32x128 .f32) : FVec F S1x1 .f32 :=
  have p0 : FVec F S1x1 .f32 := broadcast S1x1 (Scalar.ofBits .f32 0x00000000#32 : F .f32)
  have p1 : FVec F S1x1 .f32 := addf p0 (partOf (View.ld x0 (Rect.unit (s := S32x32x128) ![0, 0, 0] S1x32x128.size inb_S32x32x128_S1x32x128_0_0_0)))
  have p2 : FVec F S1x1 .f32 := addf p1 (partOf (View.ld x0 (Rect.unit (s := S32x32x128) ![1, 0, 0] S1x32x128.size inb_S32x32x128_S1x32x128_1_0_0)))
  have p3 : FVec F S1x1 .f32 := addf p2 (partOf (View.ld x0 (Rect.unit (s := S32x32x128) ![2, 0, 0] S1x32x128.size inb_S32x32x128_S1x32x128_2_0_0)))
  have p4 : FVec F S1x1 .f32 := addf p3 (partOf (View.ld x0 (Rect.unit (s := S32x32x128) ![3, 0, 0] S1x32x128.size inb_S32x32x128_S1x32x128_3_0_0)))
  have p5 : FVec F S1x1 .f32 := addf p4 (partOf (View.ld x0 (Rect.unit (s := S32x32x128) ![4, 0, 0] S1x32x128.size inb_S32x32x128_S1x32x128_4_0_0)))
  have p6 : FVec F S1x1 .f32 := addf p5 (partOf (View.ld x0 (Rect.unit (s := S32x32x128) ![5, 0, 0] S1x32x128.size inb_S32x32x128_S1x32x128_5_0_0)))
  have p7 : FVec F S1x1 .f32 := addf p6 (partOf (View.ld x0 (Rect.unit (s := S32x32x128) ![6, 0, 0] S1x32x128.size inb_S32x32x128_S1x32x128_6_0_0)))
  have p8 : FVec F S1x1 .f32 := addf p7 (partOf (View.ld x0 (Rect.unit (s := S32x32x128) ![7, 0, 0] S1x32x128.size inb_S32x32x128_S1x32x128_7_0_0)))
  have p9 : FVec F S1x1 .f32 := addf p8 (partOf (View.ld x0 (Rect.unit (s := S32x32x128) ![8, 0, 0] S1x32x128.size inb_S32x32x128_S1x32x128_8_0_0)))
  have p10 : FVec F S1x1 .f32 := addf p9 (partOf (View.ld x0 (Rect.unit (s := S32x32x128) ![9, 0, 0] S1x32x128.size inb_S32x32x128_S1x32x128_9_0_0)))
  have p11 : FVec F S1x1 .f32 := addf p10 (partOf (View.ld x0 (Rect.unit (s := S32x32x128) ![10, 0, 0] S1x32x128.size inb_S32x32x128_S1x32x128_10_0_0)))
  have p12 : FVec F S1x1 .f32 := addf p11 (partOf (View.ld x0 (Rect.unit (s := S32x32x128) ![11, 0, 0] S1x32x128.size inb_S32x32x128_S1x32x128_11_0_0)))
  have p13 : FVec F S1x1 .f32 := addf p12 (partOf (View.ld x0 (Rect.unit (s := S32x32x128) ![12, 0, 0] S1x32x128.size inb_S32x32x128_S1x32x128_12_0_0)))
  have p14 : FVec F S1x1 .f32 := addf p13 (partOf (View.ld x0 (Rect.unit (s := S32x32x128) ![13, 0, 0] S1x32x128.size inb_S32x32x128_S1x32x128_13_0_0)))
  have p15 : FVec F S1x1 .f32 := addf p14 (partOf (View.ld x0 (Rect.unit (s := S32x32x128) ![14, 0, 0] S1x32x128.size inb_S32x32x128_S1x32x128_14_0_0)))
  have p16 : FVec F S1x1 .f32 := addf p15 (partOf (View.ld x0 (Rect.unit (s := S32x32x128) ![15, 0, 0] S1x32x128.size inb_S32x32x128_S1x32x128_15_0_0)))
  have p17 : FVec F S1x1 .f32 := addf p16 (partOf (View.ld x0 (Rect.unit (s := S32x32x128) ![16, 0, 0] S1x32x128.size inb_S32x32x128_S1x32x128_16_0_0)))
  have p18 : FVec F S1x1 .f32 := addf p17 (partOf (View.ld x0 (Rect.unit (s := S32x32x128) ![17, 0, 0] S1x32x128.size inb_S32x32x128_S1x32x128_17_0_0)))
  have p19 : FVec F S1x1 .f32 := addf p18 (partOf (View.ld x0 (Rect.unit (s := S32x32x128) ![18, 0, 0] S1x32x128.size inb_S32x32x128_S1x32x128_18_0_0)))
  have p20 : FVec F S1x1 .f32 := addf p19 (partOf (View.ld x0 (Rect.unit (s := S32x32x128) ![19, 0, 0] S1x32x128.size inb_S32x32x128_S1x32x128_19_0_0)))
  have p21 : FVec F S1x1 .f32 := addf p20 (partOf (View.ld x0 (Rect.unit (s := S32x32x128) ![20, 0, 0] S1x32x128.size inb_S32x32x128_S1x32x128_20_0_0)))
  have p22 : FVec F S1x1 .f32 := addf p21 (partOf (View.ld x0 (Rect.unit (s := S32x32x128) ![21, 0, 0] S1x32x128.size inb_S32x32x128_S1x32x128_21_0_0)))
  have p23 : FVec F S1x1 .f32 := addf p22 (partOf (View.ld x0 (Rect.unit (s := S32x32x128) ![22, 0, 0] S1x32x128.size inb_S32x32x128_S1x32x128_22_0_0)))
  have p24 : FVec F S1x1 .f32 := addf p23 (partOf (View.ld x0 (Rect.unit (s := S32x32x128) ![23, 0, 0] S1x32x128.size inb_S32x32x128_S1x32x128_23_0_0)))
  have p25 : FVec F S1x1 .f32 := addf p24 (partOf (View.ld x0 (Rect.unit (s := S32x32x128) ![24, 0, 0] S1x32x128.size inb_S32x32x128_S1x32x128_24_0_0)))
  have p26 : FVec F S1x1 .f32 := addf p25 (partOf (View.ld x0 (Rect.unit (s := S32x32x128) ![25, 0, 0] S1x32x128.size inb_S32x32x128_S1x32x128_25_0_0)))
  have p27 : FVec F S1x1 .f32 := addf p26 (partOf (View.ld x0 (Rect.unit (s := S32x32x128) ![26, 0, 0] S1x32x128.size inb_S32x32x128_S1x32x128_26_0_0)))
  have p28 : FVec F S1x1 .f32 := addf p27 (partOf (View.ld x0 (Rect.unit (s := S32x32x128) ![27, 0, 0] S1x32x128.size inb_S32x32x128_S1x32x128_27_0_0)))
  have p29 : FVec F S1x1 .f32 := addf p28 (partOf (View.ld x0 (Rect.unit (s := S32x32x128) ![28, 0, 0] S1x32x128.size inb_S32x32x128_S1x32x128_28_0_0)))
  have p30 : FVec F S1x1 .f32 := addf p29 (partOf (View.ld x0 (Rect.unit (s := S32x32x128) ![29, 0, 0] S1x32x128.size inb_S32x32x128_S1x32x128_29_0_0)))
  have p31 : FVec F S1x1 .f32 := addf p30 (partOf (View.ld x0 (Rect.unit (s := S32x32x128) ![30, 0, 0] S1x32x128.size inb_S32x32x128_S1x32x128_30_0_0)))
  have p32 : FVec F S1x1 .f32 := addf p31 (partOf (View.ld x0 (Rect.unit (s := S32x32x128) ![31, 0, 0] S1x32x128.size inb_S32x32x128_S1x32x128_31_0_0)))
  p32

/-- The 32 positions' rows of labels, one above another. -/
def rows (x0 : Vec F S32x32x128 .f32) (x1 : Vec F S32x32 .i32) : IVec S32x32 32 :=
  have L : IVec S32x32 32 := shapeCast S32x32 x1 shapeCasts_S32x32_S32x32
  concatenate S32x32 0 [⟨S1x32, labelsOf (View.ld x0 (Rect.unit (s := S32x32x128) ![0, 0, 0] S1x32x128.size inb_S32x32x128_S1x32x128_0_0_0)) (extractStridedSlice S1x32 ![0, 0] L slices_S32x32_o0_0_S1x32)⟩,
    ⟨S1x32, labelsOf (View.ld x0 (Rect.unit (s := S32x32x128) ![1, 0, 0] S1x32x128.size inb_S32x32x128_S1x32x128_1_0_0)) (extractStridedSlice S1x32 ![1, 0] L slices_S32x32_o1_0_S1x32)⟩,
    ⟨S1x32, labelsOf (View.ld x0 (Rect.unit (s := S32x32x128) ![2, 0, 0] S1x32x128.size inb_S32x32x128_S1x32x128_2_0_0)) (extractStridedSlice S1x32 ![2, 0] L slices_S32x32_o2_0_S1x32)⟩,
    ⟨S1x32, labelsOf (View.ld x0 (Rect.unit (s := S32x32x128) ![3, 0, 0] S1x32x128.size inb_S32x32x128_S1x32x128_3_0_0)) (extractStridedSlice S1x32 ![3, 0] L slices_S32x32_o3_0_S1x32)⟩,
    ⟨S1x32, labelsOf (View.ld x0 (Rect.unit (s := S32x32x128) ![4, 0, 0] S1x32x128.size inb_S32x32x128_S1x32x128_4_0_0)) (extractStridedSlice S1x32 ![4, 0] L slices_S32x32_o4_0_S1x32)⟩,
    ⟨S1x32, labelsOf (View.ld x0 (Rect.unit (s := S32x32x128) ![5, 0, 0] S1x32x128.size inb_S32x32x128_S1x32x128_5_0_0)) (extractStridedSlice S1x32 ![5, 0] L slices_S32x32_o5_0_S1x32)⟩,
    ⟨S1x32, labelsOf (View.ld x0 (Rect.unit (s := S32x32x128) ![6, 0, 0] S1x32x128.size inb_S32x32x128_S1x32x128_6_0_0)) (extractStridedSlice S1x32 ![6, 0] L slices_S32x32_o6_0_S1x32)⟩,
    ⟨S1x32, labelsOf (View.ld x0 (Rect.unit (s := S32x32x128) ![7, 0, 0] S1x32x128.size inb_S32x32x128_S1x32x128_7_0_0)) (extractStridedSlice S1x32 ![7, 0] L slices_S32x32_o7_0_S1x32)⟩,
    ⟨S1x32, labelsOf (View.ld x0 (Rect.unit (s := S32x32x128) ![8, 0, 0] S1x32x128.size inb_S32x32x128_S1x32x128_8_0_0)) (extractStridedSlice S1x32 ![8, 0] L slices_S32x32_o8_0_S1x32)⟩,
    ⟨S1x32, labelsOf (View.ld x0 (Rect.unit (s := S32x32x128) ![9, 0, 0] S1x32x128.size inb_S32x32x128_S1x32x128_9_0_0)) (extractStridedSlice S1x32 ![9, 0] L slices_S32x32_o9_0_S1x32)⟩,
    ⟨S1x32, labelsOf (View.ld x0 (Rect.unit (s := S32x32x128) ![10, 0, 0] S1x32x128.size inb_S32x32x128_S1x32x128_10_0_0)) (extractStridedSlice S1x32 ![10, 0] L slices_S32x32_o10_0_S1x32)⟩,
    ⟨S1x32, labelsOf (View.ld x0 (Rect.unit (s := S32x32x128) ![11, 0, 0] S1x32x128.size inb_S32x32x128_S1x32x128_11_0_0)) (extractStridedSlice S1x32 ![11, 0] L slices_S32x32_o11_0_S1x32)⟩,
    ⟨S1x32, labelsOf (View.ld x0 (Rect.unit (s := S32x32x128) ![12, 0, 0] S1x32x128.size inb_S32x32x128_S1x32x128_12_0_0)) (extractStridedSlice S1x32 ![12, 0] L slices_S32x32_o12_0_S1x32)⟩,
    ⟨S1x32, labelsOf (View.ld x0 (Rect.unit (s := S32x32x128) ![13, 0, 0] S1x32x128.size inb_S32x32x128_S1x32x128_13_0_0)) (extractStridedSlice S1x32 ![13, 0] L slices_S32x32_o13_0_S1x32)⟩,
    ⟨S1x32, labelsOf (View.ld x0 (Rect.unit (s := S32x32x128) ![14, 0, 0] S1x32x128.size inb_S32x32x128_S1x32x128_14_0_0)) (extractStridedSlice S1x32 ![14, 0] L slices_S32x32_o14_0_S1x32)⟩,
    ⟨S1x32, labelsOf (View.ld x0 (Rect.unit (s := S32x32x128) ![15, 0, 0] S1x32x128.size inb_S32x32x128_S1x32x128_15_0_0)) (extractStridedSlice S1x32 ![15, 0] L slices_S32x32_o15_0_S1x32)⟩,
    ⟨S1x32, labelsOf (View.ld x0 (Rect.unit (s := S32x32x128) ![16, 0, 0] S1x32x128.size inb_S32x32x128_S1x32x128_16_0_0)) (extractStridedSlice S1x32 ![16, 0] L slices_S32x32_o16_0_S1x32)⟩,
    ⟨S1x32, labelsOf (View.ld x0 (Rect.unit (s := S32x32x128) ![17, 0, 0] S1x32x128.size inb_S32x32x128_S1x32x128_17_0_0)) (extractStridedSlice S1x32 ![17, 0] L slices_S32x32_o17_0_S1x32)⟩,
    ⟨S1x32, labelsOf (View.ld x0 (Rect.unit (s := S32x32x128) ![18, 0, 0] S1x32x128.size inb_S32x32x128_S1x32x128_18_0_0)) (extractStridedSlice S1x32 ![18, 0] L slices_S32x32_o18_0_S1x32)⟩,
    ⟨S1x32, labelsOf (View.ld x0 (Rect.unit (s := S32x32x128) ![19, 0, 0] S1x32x128.size inb_S32x32x128_S1x32x128_19_0_0)) (extractStridedSlice S1x32 ![19, 0] L slices_S32x32_o19_0_S1x32)⟩,
    ⟨S1x32, labelsOf (View.ld x0 (Rect.unit (s := S32x32x128) ![20, 0, 0] S1x32x128.size inb_S32x32x128_S1x32x128_20_0_0)) (extractStridedSlice S1x32 ![20, 0] L slices_S32x32_o20_0_S1x32)⟩,
    ⟨S1x32, labelsOf (View.ld x0 (Rect.unit (s := S32x32x128) ![21, 0, 0] S1x32x128.size inb_S32x32x128_S1x32x128_21_0_0)) (extractStridedSlice S1x32 ![21, 0] L slices_S32x32_o21_0_S1x32)⟩,
    ⟨S1x32, labelsOf (View.ld x0 (Rect.unit (s := S32x32x128) ![22, 0, 0] S1x32x128.size inb_S32x32x128_S1x32x128_22_0_0)) (extractStridedSlice S1x32 ![22, 0] L slices_S32x32_o22_0_S1x32)⟩,
    ⟨S1x32, labelsOf (View.ld x0 (Rect.unit (s := S32x32x128) ![23, 0, 0] S1x32x128.size inb_S32x32x128_S1x32x128_23_0_0)) (extractStridedSlice S1x32 ![23, 0] L slices_S32x32_o23_0_S1x32)⟩,
    ⟨S1x32, labelsOf (View.ld x0 (Rect.unit (s := S32x32x128) ![24, 0, 0] S1x32x128.size inb_S32x32x128_S1x32x128_24_0_0)) (extractStridedSlice S1x32 ![24, 0] L slices_S32x32_o24_0_S1x32)⟩,
    ⟨S1x32, labelsOf (View.ld x0 (Rect.unit (s := S32x32x128) ![25, 0, 0] S1x32x128.size inb_S32x32x128_S1x32x128_25_0_0)) (extractStridedSlice S1x32 ![25, 0] L slices_S32x32_o25_0_S1x32)⟩,
    ⟨S1x32, labelsOf (View.ld x0 (Rect.unit (s := S32x32x128) ![26, 0, 0] S1x32x128.size inb_S32x32x128_S1x32x128_26_0_0)) (extractStridedSlice S1x32 ![26, 0] L slices_S32x32_o26_0_S1x32)⟩,
    ⟨S1x32, labelsOf (View.ld x0 (Rect.unit (s := S32x32x128) ![27, 0, 0] S1x32x128.size inb_S32x32x128_S1x32x128_27_0_0)) (extractStridedSlice S1x32 ![27, 0] L slices_S32x32_o27_0_S1x32)⟩,
    ⟨S1x32, labelsOf (View.ld x0 (Rect.unit (s := S32x32x128) ![28, 0, 0] S1x32x128.size inb_S32x32x128_S1x32x128_28_0_0)) (extractStridedSlice S1x32 ![28, 0] L slices_S32x32_o28_0_S1x32)⟩,
    ⟨S1x32, labelsOf (View.ld x0 (Rect.unit (s := S32x32x128) ![29, 0, 0] S1x32x128.size inb_S32x32x128_S1x32x128_29_0_0)) (extractStridedSlice S1x32 ![29, 0] L slices_S32x32_o29_0_S1x32)⟩,
    ⟨S1x32, labelsOf (View.ld x0 (Rect.unit (s := S32x32x128) ![30, 0, 0] S1x32x128.size inb_S32x32x128_S1x32x128_30_0_0)) (extractStridedSlice S1x32 ![30, 0] L slices_S32x32_o30_0_S1x32)⟩,
    ⟨S1x32, labelsOf (View.ld x0 (Rect.unit (s := S32x32x128) ![31, 0, 0] S1x32x128.size inb_S32x32x128_S1x32x128_31_0_0)) (extractStridedSlice S1x32 ![31, 0] L slices_S32x32_o31_0_S1x32)⟩] concatenates_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S32x32_d0

/-- The labels a grid point stores first are its 32 positions' rows. -/
theorem labels_A (c : Dev nD) (i : grid0.Coords) (arg1 : Memref sig .tc .vmem S32x32x128 .f32) (harg1 : arg1.IsWhole) (arg2 : Memref sig .tc .vmem S32x32 .i32) (harg2 : arg2.IsWhole) (arg3 : Memref sig .tc .vmem S32x32 .i32) (harg3 : arg3.IsWhole) (arg4 : Memref sig .tc .vmem S1x1 .f32) (harg4 : arg4.IsWhole) (hc0 : cond0_0 i)
    (x0 : Vec F S32x32x128 .f32) (x1 : Vec F S32x32 .i32) (y : S32x32.Idx) :
    out0_A_2 c i arg1 harg1 arg2 harg2 arg3 harg3 arg4 harg4 hc0 x0 x1 y = rows x0 x1 y := by
  frame_out
  rfl

/-- The total a grid point leaves first: its parts over zero. -/
theorem total_A (c : Dev nD) (i : grid0.Coords) (arg1 : Memref sig .tc .vmem S32x32x128 .f32) (harg1 : arg1.IsWhole) (arg2 : Memref sig .tc .vmem S32x32 .i32) (harg2 : arg2.IsWhole) (arg3 : Memref sig .tc .vmem S32x32 .i32) (harg3 : arg3.IsWhole) (arg4 : Memref sig .tc .vmem S1x1 .f32) (harg4 : arg4.IsWhole) (hc0 : cond0_0 i)
    (x0 : Vec F S32x32x128 .f32) (x1 : Vec F S32x32 .i32) (y : S1x1.Idx) :
    out0_A_3 c i arg1 harg1 arg2 harg2 arg3 harg3 arg4 harg4 hc0 x0 x1 y = addf (shapeCast S1x1 (broadcast S1x1 (Scalar.ofBits .f32 0x00000000#32 : F .f32)) shapeCasts_S1x1_S1x1) (parts x0) y := by
  frame_out
  rfl

/-- The labels a grid point stores later are its 32 positions' rows. -/
theorem labels_B (c : Dev nD) (i : grid0.Coords) (arg1 : Memref sig .tc .vmem S32x32x128 .f32) (harg1 : arg1.IsWhole) (arg2 : Memref sig .tc .vmem S32x32 .i32) (harg2 : arg2.IsWhole) (arg3 : Memref sig .tc .vmem S32x32 .i32) (harg3 : arg3.IsWhole) (arg4 : Memref sig .tc .vmem S1x1 .f32) (harg4 : arg4.IsWhole) (hc0 : ¬cond0_0 i)
    (x0 : Vec F S32x32x128 .f32) (x1 : Vec F S32x32 .i32) (xo3 : Vec F S1x1 .f32) (y : S32x32.Idx) :
    out0_B_2 c i arg1 harg1 arg2 harg2 arg3 harg3 arg4 harg4 hc0 x0 x1 xo3 y = rows x0 x1 y := by
  frame_out
  rfl

/-- The total a grid point leaves later: its parts over what it found. -/
theorem total_B (c : Dev nD) (i : grid0.Coords) (arg1 : Memref sig .tc .vmem S32x32x128 .f32) (harg1 : arg1.IsWhole) (arg2 : Memref sig .tc .vmem S32x32 .i32) (harg2 : arg2.IsWhole) (arg3 : Memref sig .tc .vmem S32x32 .i32) (harg3 : arg3.IsWhole) (arg4 : Memref sig .tc .vmem S1x1 .f32) (harg4 : arg4.IsWhole) (hc0 : ¬cond0_0 i)
    (x0 : Vec F S32x32x128 .f32) (x1 : Vec F S32x32 .i32) (xo3 : Vec F S1x1 .f32) (y : S1x1.Idx) :
    out0_B_3 c i arg1 harg1 arg2 harg2 arg3 harg3 arg4 harg4 hc0 x0 x1 xo3 y = addf (shapeCast S1x1 xo3 shapeCasts_S1x1_S1x1) (parts x0) y := by
  frame_out
  rfl

end Cert.AssignIdeal.Stage

end
-- ==== Proof.AsgMath.lean ====
/- The assignment step as plain mathematics: squared distances between the rows of one position, the softmax of their
   negatives, the rank of every entry in its row, the entries whose rank is their own index, the labels counted among the
   first sixteen, and the least label of greatest count. -/
module

public import Idealize.ShloMosaic.Lib.Pointwise
public import Idealize.ShloMosaic.Lib.WordCmp

@[expose] public section

noncomputable section

namespace Cert.Asg

open Idealize.ShloMosaic
open scoped Classical

/-- The squared distance between rows `c` and `k`. -/
def dist (X : Fin 32 → Fin 128 → EReal) (c k : Fin 32) : EReal :=
  ∑ d : Fin 128, (X c d - X k d) * (X c d - X k d)

/-- The greatest negated distance of row `c`. -/
def top (D : Fin 32 → Fin 32 → EReal) (c : Fin 32) : EReal :=
  Finset.univ.fold max (Ideal.ofBits .f32 0xFF800000#32) fun k => -D c k

/-- The exponential of a negated distance less its row's greatest. -/
def wt (D : Fin 32 → Fin 32 → EReal) (c k : Fin 32) : EReal := Ideal.exp (-D c k - top D c)

/-- The softmax of the negated distances. -/
def prob (D : Fin 32 → Fin 32 → EReal) (c k : Fin 32) : EReal := Ideal.div (wt D c k) (∑ j : Fin 32, wt D c j)

/-- Entry `j` stands before entry `k`: it is greater, or equal at a lower index. -/
def Before (p : Fin 32 → EReal) (j k : Fin 32) : Prop := p k < p j ∨ (p j = p k ∧ j < k)

/-- How many entries stand before entry `k`. -/
def rank (p : Fin 32 → EReal) (k : Fin 32) : ℕ := (Finset.univ.filter fun j => Before p j k).card

/-- How many of the first sixteen entries have their own index as rank. -/
def fixed (p : Fin 32 → EReal) : ℕ := (Finset.univ.filter fun k : Fin 32 => rank p k = k.val ∧ k.val < 16).card

/-- One position's part of the total: over its rows, the entries in place times the row's sum of distances. -/
def part (X : Fin 32 → Fin 128 → EReal) : EReal :=
  ∑ c : Fin 32, ((fixed (prob (dist X) c) : ℕ) : EReal) * ∑ k : Fin 32, dist X c k

/-- How many of the sixteen entries first in rank carry the label `v`. -/
def count (p : Fin 32 → EReal) (lab : Fin 32 → BitVec 32) (v : Fin 16) : ℕ :=
  (Finset.univ.filter fun k : Fin 32 => rank p k < 16 ∧ lab k = BitVec.ofNat 32 v.val).card

/-- The number of entries in place is small. -/
theorem fixed_le (p : Fin 32 → EReal) : fixed p ≤ 32 := (Finset.card_filter_le _ _).trans (by simp)

/-- A count is small. -/
theorem count_le (p : Fin 32 → EReal) (lab : Fin 32 → BitVec 32) (v : Fin 16) : count p lab v ≤ 32 := (Finset.card_filter_le _ _).trans (by simp)

/-- The least index of greatest count. -/
def IsBest (n : Fin 16 → ℕ) (v : Fin 16) : Prop := (∀ u, n u ≤ n v) ∧ ∀ u, n u = n v → v ≤ u

/-- There is a least index of greatest count. -/
theorem exists_best (n : Fin 16 → ℕ) : ∃ v, IsBest n v := by
  obtain ⟨w, -, hw⟩ := Finset.exists_max_image (Finset.univ : Finset (Fin 16)) n ⟨0, Finset.mem_univ _⟩
  obtain ⟨v, hv, hm⟩ := Finset.exists_min_image (Finset.univ.filter fun u => n u = n w) (fun u => u) ⟨w, by simp⟩
  have e : n v = n w := (Finset.mem_filter.mp hv).2
  exact ⟨v, fun u => e ▸ hw u (Finset.mem_univ _), fun u hu => hm u (by simp [hu, e])⟩

/-- A word of one bit, widened and read as a number, is one or zero. -/
theorem bit_at (b : BitVec 1) : (FloatOps.sitofp .f32 (b.setWidth 32) : Ideal .f32) = if b = 1#1 then (1 : EReal) else 0 := by
  have h : b = 0#1 ∨ b = 1#1 := by
    revert b; decide
  rcases h with rfl | rfl
  · show (((BitVec.setWidth 32 0#1).toInt : ℝ) : EReal) = _
    rw [if_neg (by decide), show (BitVec.setWidth 32 0#1).toInt = 0 from by decide]; simp
  · show (((BitVec.setWidth 32 1#1).toInt : ℝ) : EReal) = _
    rw [if_pos rfl, show (BitVec.setWidth 32 1#1).toInt = 1 from by decide]; simp

/-- A sum of ones and zeros is the number of ones. -/
theorem sum_bits {ι : Type} [Fintype ι] (P : ι → Prop) [DecidablePred P] : (∑ x : ι, if P x then (1 : EReal) else 0) = (((Finset.univ.filter P).card : ℕ) : EReal) :=
  Finset.sum_boole P Finset.univ

/-- A small natural number as a signed word read as a number is itself. -/
theorem nat_at (n : ℕ) (h : n < 2 ^ 31) : (FloatOps.sitofp .f32 (BitVec.ofNat 32 n) : Ideal .f32) = ((n : ℕ) : EReal) := by
  show (((BitVec.ofNat 32 n).toInt : ℝ) : EReal) = _
  rw [WordCmp.toInt_ofNat_of_lt (by simpa using h)]
  simp

/-- The signed minimum over a set of words, from a first word, is one of them and below all. -/
theorem fold_min {ι : Type} (b : BitVec 32) (f : ι → BitVec 32) (S : Finset ι) :
    (S.fold IntOp.minsi b f = b ∨ ∃ x ∈ S, S.fold IntOp.minsi b f = f x) ∧ (S.fold IntOp.minsi b f).toInt ≤ b.toInt
      ∧ ∀ x ∈ S, (S.fold IntOp.minsi b f).toInt ≤ (f x).toInt := by
  have m : ∀ x y : BitVec 32, (IntOp.minsi x y = x ∧ x.toInt ≤ y.toInt) ∨ (IntOp.minsi x y = y ∧ y.toInt ≤ x.toInt) := fun x y => by
    unfold IntOp.minsi
    by_cases h : x.slt y
    · left; rw [if_pos h]; exact ⟨rfl, le_of_lt (by simpa [BitVec.slt] using h)⟩
    · right; rw [if_neg h]; exact ⟨rfl, by simpa [BitVec.slt] using h⟩
  induction S using Finset.induction_on with
  | empty => simp
  | insert a S ha ih =>
    obtain ⟨h1, h2, h3⟩ := ih
    rw [Finset.fold_insert ha]
    generalize S.fold IntOp.minsi b f = r at h1 h2 h3 ⊢
    rcases m (f a) r with ⟨e, h⟩ | ⟨e, h⟩ <;> rw [e]
    · refine ⟨Or.inr ⟨a, Finset.mem_insert_self _ _, rfl⟩, le_trans h h2, fun x hx => ?_⟩
      rcases Finset.mem_insert.mp hx with rfl | hx
      · exact le_refl _
      · exact le_trans h (h3 x hx)
    · refine ⟨?_, h2, fun x hx => ?_⟩
      · rcases h1 with h1 | ⟨x, hx, h1⟩
        · exact Or.inl h1
        · exact Or.inr ⟨x, Finset.mem_insert_of_mem hx, h1⟩
      · rcases Finset.mem_insert.mp hx with rfl | hx
        · exact h
        · exact h3 x hx

/-- The least label among those of greatest count, by a signed minimum over the labels, the others read as sixteen. -/
theorem min_best (n : Fin 16 → ℕ) (v : Fin 16) (hv : IsBest n v) (P : Fin 16 → Prop) [DecidablePred P] (hP : ∀ u, P u ↔ n u = n v) :
    (Finset.univ.fold IntOp.minsi 2147483647#32 fun u : Fin 16 => if P u then BitVec.ofNat 32 u.val else 16#32) = BitVec.ofNat 32 v.val := by
  have ti : ∀ u : Fin 16, (BitVec.ofNat 32 u.val).toInt = (u.val : ℤ) := fun u => WordCmp.toInt_ofNat_of_lt (by have := u.isLt; simp; omega)
  obtain ⟨h1, h2, h3⟩ := fold_min 2147483647#32 (fun u : Fin 16 => if P u then BitVec.ofNat 32 u.val else 16#32) Finset.univ
  generalize Finset.univ.fold IntOp.minsi 2147483647#32 (fun u : Fin 16 => if P u then BitVec.ofNat 32 u.val else 16#32) = r at h1 h2 h3 ⊢
  have hr := h3 v (Finset.mem_univ _)
  simp only [if_pos ((hP v).mpr rfl), ti] at hr
  have hvl := v.isLt
  rcases h1 with h1 | ⟨u, -, h1⟩
  · rw [h1, show (2147483647#32 : BitVec 32).toInt = 2147483647 from by decide] at hr; omega
  · by_cases hu : P u
    · rw [if_pos hu] at h1
      rw [h1, ti] at hr
      have := hv.2 u ((hP u).mp hu)
      rw [h1, show u = v from le_antisymm (Fin.le_def.mpr (by omega)) this]
    · rw [if_neg hu] at h1
      rw [h1, show (16#32 : BitVec 32).toInt = 16 from by decide] at hr; omega

end Cert.Asg

end
-- ==== Proof.AsgSort.lean ====
/- A stable sort by the greater entry puts at place `r` the entry of rank `r`; what is counted over the first sixteen places
   is counted over the entries of rank below sixteen. -/
module

public import proofs.«01_k».proof.Proof.AsgMath
public import Idealize.ShloMosaic.Lib.SortFacts

@[expose] public section

noncomputable section

namespace Cert.Asg

open Idealize.ShloMosaic
open scoped Classical

variable (p : Fin 32 → EReal)

/-- Placing an entry of lower index into a list in the order `Before` keeps the order. -/
theorem before_insert (a : Fin 32) (l : List (Fin 32)) (ha : ∀ b ∈ l, a < b) (hl : l.Pairwise (Before p)) :
    (insertBefore (fun x y => decide (p y < p x)) a l).Pairwise (Before p) := by
  induction l with
  | nil => simp [insertBefore]
  | cons b l ih =>
    have hb := (List.pairwise_cons.mp hl).1
    have hl' := (List.pairwise_cons.mp hl).2
    unfold insertBefore
    by_cases h : p a < p b
    · rw [if_pos (by simpa using h)]
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl h
      · exact hb x hx'
    · rw [if_neg (by simpa using h)]
      have hle : p b ≤ p a := not_lt.mp h
      refine List.pairwise_cons.mpr ⟨fun x hx => ?_, hl⟩
      have hxa : p x ≤ p a := by
        rcases List.mem_cons.mp hx with rfl | hx'
        · exact hle
        · rcases hb x hx' with h1 | h1
          · exact le_trans (le_of_lt h1) hle
          · exact le_trans (le_of_eq h1.1.symm) hle
      rcases lt_or_eq_of_le hxa with h1 | h1
      · exact Or.inl h1
      · exact Or.inr ⟨h1.symm, ha x hx⟩

/-- The stable sort of an increasing list is in the order `Before`. -/
theorem before_sort (l : List (Fin 32)) (hl : l.Pairwise (· < ·)) : (stableSort (fun x y => decide (p y < p x)) l).Pairwise (Before p) := by
  induction l with
  | nil => simp [stableSort]
  | cons a l ih =>
    unfold stableSort
    refine before_insert p a _ (fun b hb => (List.pairwise_cons.mp hl).1 b ((perm_stableSort _ l).mem_iff.mp hb)) (ih (List.pairwise_cons.mp hl).2)

/-- The entry the stable sort puts at place `r`. -/
def place (r : Fin 32) : Fin 32 := sortedFrom (fun x y => decide (p y < p x)) r

/-- Different places hold different entries. -/
theorem place_inj : Function.Injective (place p) := sortedFrom_injective _

/-- Every entry has a place. -/
theorem place_surj : Function.Surjective (place p) := sortedFrom_surjective _

/-- An earlier place's entry stands before a later place's. -/
theorem before_place (i j : Fin 32) (h : i < j) : Before p (place p i) (place p j) := by
  have key : ∀ (L : List (Fin 32)) (hL : L.length = 32), L.Pairwise (Before p) → Before p (L.get (i.cast hL.symm)) (L.get (j.cast hL.symm)) :=
    fun L hL hp => List.pairwise_iff_get.mp hp _ _ h
  have hs : (sortPositions 32 (fun x y => decide (p y < p x))).Pairwise (Before p) := by
    unfold sortPositions
    exact before_sort p _ (List.pairwise_lt_finRange 32)
  have e : ∀ r : Fin 32, place p r = (sortPositions 32 (fun x y => decide (p y < p x))).get (r.cast (length_sortPositions 32 _).symm) := fun r => by
    unfold place sortedFrom
    rfl
  rw [e, e]
  exact key _ (length_sortPositions 32 _) hs

/-- No two entries stand before each other. -/
theorem before_asymm (i j : Fin 32) (h : Before p i j) : ¬Before p j i := by
  rintro (h2 | h2) <;> rcases h with h1 | h1
  · exact absurd h1 (not_lt.mpr (le_of_lt h2))
  · exact absurd h2 (by rw [h1.1]; exact lt_irrefl _)
  · exact absurd h1 (by rw [h2.1]; exact lt_irrefl _)
  · exact absurd h1.2 (not_lt.mpr (le_of_lt h2.2))

/-- The entry at place `r` has rank `r`. -/
theorem rank_place (r : Fin 32) : rank p (place p r) = r.val := by
  have e : (Finset.univ.filter fun j => Before p j (place p r)) = (Finset.univ.filter fun i : Fin 32 => i < r).image (place p) := by
    ext j
    obtain ⟨i, rfl⟩ := place_surj p j
    simp only [Finset.mem_filter, Finset.mem_univ, true_and, Finset.mem_image]
    refine ⟨fun h => ⟨i, ?_, rfl⟩, ?_⟩
    · rcases lt_trichotomy i r with h1 | h1 | h1
      · exact h1
      · subst h1; exact absurd h (before_asymm p _ _ h)
      · exact absurd (before_place p _ _ h1) (before_asymm p _ _ h)
    · rintro ⟨i', h1, h2⟩
      have := place_inj p h2
      subst this
      exact before_place p _ _ h1
  rw [rank, e, Finset.card_image_of_injective _ (place_inj p)]
  have : (Finset.univ.filter fun i : Fin 32 => i < r) = Finset.Iio r := by ext i; simp
  rw [this, Fin.card_Iio]

/-- Every rank is below 32. -/
theorem rank_lt (k : Fin 32) : rank p k < 32 := by
  obtain ⟨i, rfl⟩ := place_surj p k
  exact lt_of_eq_of_lt (rank_place p i) i.isLt

/-- The entry of rank `r` stands at place `r`. -/
theorem place_rank (k r : Fin 32) : place p r = k ↔ rank p k = r.val := by
  constructor
  · rintro rfl; exact rank_place p r
  · obtain ⟨i, rfl⟩ := place_surj p k
    intro h
    rw [rank_place p i] at h
    rw [show r = i from Fin.ext h.symm]

/-- The place `r` of the first sixteen. -/
abbrev at16 (r : Fin 16) : Fin 32 := ⟨r.val, by omega⟩

/-- The places among the first sixteen that hold the entry of their own number are counted by `fixed`. -/
theorem card_fixed : (Finset.univ.filter fun r : Fin 16 => place p (at16 r) = at16 r).card = fixed p := by
  unfold fixed
  refine Finset.card_bij (fun r _ => at16 r) (fun r h => ?_) (fun a _ b _ h => Fin.ext (congrArg (fun x : Fin 32 => x.val) h)) (fun k h => ?_)
  · simp only [Finset.mem_filter, Finset.mem_univ, true_and] at h ⊢
    exact ⟨(place_rank p _ _).mp h, r.isLt⟩
  · simp only [Finset.mem_filter, Finset.mem_univ, true_and] at h
    exact ⟨⟨k.val, h.2⟩, by simp only [Finset.mem_filter, Finset.mem_univ, true_and]; exact (place_rank p _ _).mpr h.1, rfl⟩

/-- The labels counted over the first sixteen places are counted by `count`. -/
theorem card_count (lab : Fin 32 → BitVec 32) (v : Fin 16) :
    (Finset.univ.filter fun r : Fin 16 => lab (place p (at16 r)) = BitVec.ofNat 32 v.val).card = count p lab v := by
  unfold count
  refine Finset.card_bij (fun r _ => place p (at16 r)) (fun r h => ?_) (fun a _ b _ h => ?_) (fun k h => ?_)
  · simp only [Finset.mem_filter, Finset.mem_univ, true_and] at h ⊢
    exact ⟨lt_of_eq_of_lt (rank_place p _) r.isLt, h⟩
  · exact Fin.ext (congrArg (fun x : Fin 32 => x.val) (place_inj p h))
  · simp only [Finset.mem_filter, Finset.mem_univ, true_and] at h
    have e : place p (at16 ⟨rank p k, h.1⟩) = k := (place_rank p _ _).mpr rfl
    exact ⟨⟨rank p k, h.1⟩, by simp only [Finset.mem_filter, Finset.mem_univ, true_and]; rw [e]; exact h.2, e⟩

end Cert.Asg

end
-- ==== Proof.AsgRead.lean ====
/- The assignment kernel's stages read at an index, as the step's mathematics. -/
module

public import proofs.«01_k».proof.Proof.AsgStages
public import proofs.«01_k».proof.Proof.AsgSort
public import proofs.«01_k».proof.Proof.Enc
public import Idealize.ShloMosaic.Lib.IndicatorCount

@[expose] public section

set_option maxRecDepth 16384

noncomputable section

namespace Cert.AssignIdeal.Stage

open Cert.AssignIdeal Cert.AssignIdeal.Gen Idealize.ShloMosaic Idealize.ShloMosaic.TcCoe Idealize.SL.Sem
open scoped Classical

/-- A matrix of one position as a function. -/
abbrev rd (D : FVec Ideal S32x32 .f32) : Fin 32 → Fin 32 → EReal := fun c k => D (ix2 c k)

/-- The distances of one position. -/
theorem dist_at (X : FVec Ideal S1x32x128 .f32) : rd (dist X) = Asg.dist (fun c d => X (ix3 0 c d)) := by
  funext c k
  pointwise! [rd, dist, Asg.dist]

/-- The exponentials of the negated distances. -/
theorem expo_at (D : FVec Ideal S32x32 .f32) : rd (expo (neg D)) = Asg.wt (rd D) := by
  funext c k
  pointwise [rd, expo, neg, Asg.wt, Asg.top]
  simp only [zero_sub]

/-- The softmax of the negated distances: the row sum by eights and halves is the row sum. -/
theorem prob_at (D : FVec Ideal S32x32 .f32) : rd (prob (expo (neg D))) = Asg.prob (rd D) := by
  have h : ∀ c k, expo (neg D) (ix2 c k) = Asg.wt (rd D) c k := fun c k => congrFun (congrFun (expo_at D) c) k
  funext c k
  pointwise [rd, prob, halves, eight, Asg.prob, h]
  refine congrArg (Ideal.div _) ?_
  generalize Asg.wt (rd D) c = f
  rw [Fin.sum_univ_tiles 4 8 rfl f]
  simp only [Fin.sum_univ_four, Fin.sum_univ_eight]
  show (((f 0 + f 8 + f 16 + f 24) + (f 4 + f 12 + f 20 + f 28)) + ((f 2 + f 10 + f 18 + f 26) + (f 6 + f 14 + f 22 + f 30)))
    + (((f 1 + f 9 + f 17 + f 25) + (f 5 + f 13 + f 21 + f 29)) + ((f 3 + f 11 + f 19 + f 27) + (f 7 + f 15 + f 23 + f 31)))
    = f 0 + f 1 + f 2 + f 3 + f 4 + f 5 + f 6 + f 7 + (f 8 + f 9 + f 10 + f 11 + f 12 + f 13 + f 14 + f 15)
    + (f 16 + f 17 + f 18 + f 19 + f 20 + f 21 + f 22 + f 23) + (f 24 + f 25 + f 26 + f 27 + f 28 + f 29 + f 30 + f 31)
  ac_rfl

/-- The rank the kernel counts is the number of entries standing before. -/
theorem rank_at (p : FVec Ideal S32x32 .f32) (c k : Fin 32) : rank p (ix2 c k) = BitVec.ofNat 32 (Asg.rank (rd p c) k) := by
  pointwise [rank, beats]
  refine (IndicatorCount.fold_addi_setWidth_eq_card _ _).trans ?_
  refine congrArg (fun s : Finset (Fin 32) => BitVec.ofNat 32 s.card) ?_
  ext x
  have e : IntOp.cmpi .slt (BitVec.ofNat 32 x.val) (BitVec.ofNat 32 k.val) = BitVec.ofBool (decide (x < k)) := by
    have hx := x.isLt
    have hk := k.isLt
    rw [WordCmp.cmpi_slt_eq, WordCmp.toInt_ofNat_of_lt (by simp; omega), WordCmp.toInt_ofNat_of_lt (by simp; omega)]
    exact congrArg BitVec.ofBool (decide_eq_decide.mpr (by rw [Fin.lt_def]; omega))
  simp only [Finset.mem_filter, Finset.mem_univ, true_and, e, WordCmp.andi_ofBool, WordCmp.ori_ofBool, WordCmp.ofBool_eq_one_iff, Bool.or_eq_true,
    Bool.and_eq_true, decide_eq_true_eq]
  exact or_congr decide_eq_true_iff (and_congr decide_eq_true_iff Iff.rfl)

/-- The ranks of one position. -/
theorem ranks_at (X : FVec Ideal S1x32x128 .f32) (c k : Fin 32) :
    ranks X (ix2 c k) = BitVec.ofNat 32 (Asg.rank (Asg.prob (Asg.dist fun c d => X (ix3 0 c d)) c) k) := by
  rw [ranks, rank_at, prob_at, dist_at]

/-- The entries in place, counted. -/
theorem fixed_at (p : Fin 32 → EReal) (R : IVec S32x32 32) (c : Fin 32) (hR : ∀ k : Fin 32, R (ix2 c k) = BitVec.ofNat 32 (Asg.rank p k)) :
    fixedCount (F := Ideal) R (ix1 c) = ((Asg.fixed p : ℕ) : EReal) := by
  pointwise [fixedCount, hR]
  rw [Asg.fixed]
  refine Eq.trans ?_ (Asg.sum_bits fun k : Fin 32 => Asg.rank p k = k.val ∧ k.val < 16)
  refine Finset.sum_congr rfl fun x _ => (Asg.bit_at _).trans (if_congr ?_ rfl rfl)
  have hx := x.isLt
  have hr := Asg.rank_lt p x
  have e : IntOp.cmpi .slt (BitVec.ofNat 32 x.val) 16#32 = BitVec.ofBool (decide (x.val < 16)) :=
    WordCmp.cmpi_slt_of_lt (by simp; omega) (by decide) |>.trans (by rw [WordCmp.toNat_ofNat_of_lt (by omega)]; rfl)
  have e2 : IntOp.cmpi .eq (BitVec.ofNat 32 (Asg.rank p x)) (BitVec.ofNat 32 x.val) = BitVec.ofBool (decide (Asg.rank p x = x.val)) := by
    rw [WordCmp.cmpi_eq_eq_toNat, WordCmp.toNat_ofNat_of_lt (by omega), WordCmp.toNat_ofNat_of_lt (by omega)]
  simp only [e, e2, WordCmp.andi_ofBool, WordCmp.ofBool_eq_one_iff, Bool.and_eq_true, decide_eq_true_eq]

/-- One position's part of the total. -/
theorem part_at (X : FVec Ideal S1x32x128 .f32) (z : S1x1.Idx) : partOf X z = Asg.part fun c d => X (ix3 0 c d) := by
  have hf := fun c => fixed_at _ (ranks X) c (ranks_at X c)
  have hd : ∀ c k, dist X (ix2 c k) = Asg.dist (fun c d => X (ix3 0 c d)) c k := fun c k => congrFun (congrFun (dist_at X) c) k
  pointwise [partOf, part, hf, hd, Asg.part]

/-- How many of a row's first sixteen entries carry a label. -/
theorem counts_at (p : Fin 32 → EReal) (R : IVec S32x32 32) (L : IVec S1x32 32) (c : Fin 32) (v : Fin 16)
    (hR : ∀ k : Fin 32, R (ix2 c k) = BitVec.ofNat 32 (Asg.rank p k)) :
    counts (F := Ideal) R L (ix2 c v) = ((Asg.count p (fun k => L (ix2 0 k)) v : ℕ) : EReal) := by
  pointwise [counts, chosen, isLabel, hR]
  rw [Asg.count]
  refine Eq.trans ?_ (Asg.sum_bits fun k : Fin 32 => Asg.rank p k < 16 ∧ L (ix2 0 k) = BitVec.ofNat 32 v.val)
  refine Finset.sum_congr rfl fun x _ => (congrArg₂ (· * ·) (Asg.bit_at _) (Asg.bit_at _)).trans ?_
  have hr := Asg.rank_lt p x
  have e : IntOp.cmpi .slt (BitVec.ofNat 32 (Asg.rank p x)) 16#32 = BitVec.ofBool (decide (Asg.rank p x < 16)) :=
    WordCmp.cmpi_slt_of_lt (by simp; omega) (by decide) |>.trans (by rw [WordCmp.toNat_ofNat_of_lt (by omega)]; rfl)
  simp only [e, WordCmp.cmpi_eq_eq, WordCmp.ofBool_eq_one_iff, decide_eq_true_eq]
  by_cases h1 : Asg.rank p x < 16 <;> by_cases h2 : L (ix2 0 x) = BitVec.ofNat 32 v.val <;> simp [h1, h2]

/-- The label of a row whose counts are natural numbers. -/
theorem label_at (C : FVec Ideal S32x16 .f32) (c : Fin 32) (n : Fin 16 → ℕ) (v : Fin 16) (hC : ∀ u : Fin 16, C (ix2 c u) = ((n u : ℕ) : EReal))
    (hv : Asg.IsBest n v) : label C (ix1 c) = BitVec.ofNat 32 v.val := by
  have ht : (Finset.univ.fold max (Ideal.ofBits .f32 0xFF800000#32) fun x : Fin 16 => ((n x : ℕ) : EReal)) = ((n v : ℕ) : EReal) := by
    refine le_antisymm (Finset.fold_max_le _ |>.mpr ⟨?_, fun x _ => ?_⟩) (Finset.le_fold_max _ |>.mpr (Or.inr ⟨v, Finset.mem_univ _, le_refl _⟩))
    · rw [Cert.Enc.cbot]; exact bot_le
    · exact Nat.cast_le.mpr (hv.1 x)
  pointwise [label, hC, ht]
  exact Asg.min_best n v hv (fun u => ((n u : ℕ) : EReal) = ((n v : ℕ) : EReal)) fun u => Nat.cast_inj

/-- One position's row of labels. -/
theorem labels_at (X : FVec Ideal S1x32x128 .f32) (L : IVec S1x32 32) (z : Fin 1) (c : Fin 32) (v : Fin 16)
    (hv : Asg.IsBest (Asg.count (Asg.prob (Asg.dist fun c d => X (ix3 0 c d)) c) fun k => L (ix2 0 k)) v) :
    labelsOf X L (ix2 z c) = BitVec.ofNat 32 v.val := by
  pointwise [labelsOf]
  exact label_at _ c _ v (fun u => counts_at _ (ranks X) L c u (ranks_at X c)) hv

end Cert.AssignIdeal.Stage

end
-- ==== Proof.AsgNet.lean ====
/- A grid point's two outputs over its 32 positions, as the assignment step's mathematics of every position. -/
module

public import proofs.«01_k».proof.Proof.AsgRead

@[expose] public section

set_option maxRecDepth 16384

noncomputable section

namespace Cert.AssignIdeal.Stage

open Cert.AssignIdeal Cert.AssignIdeal.Gen Idealize.ShloMosaic Idealize.ShloMosaic.TcCoe Idealize.SL.Sem
open scoped Classical

/-- The rows of one position of a block. -/
def slab (x0 : FVec Ideal S32x32x128 .f32) (k : Fin 32) : FVec Ideal S1x32x128 .f32 := fun i => x0 (ix3 k (i 1) (i 2))

/-- The labels of one position of a block. -/
def line (x1 : IVec S32x32 32) (k : Fin 32) : IVec S1x32 32 := fun i => x1 (ix2 k (i 1))

/-- A load of one position reads that position's rows. -/
theorem ld_eq (k : ℕ) (hk : k < 32) (x0 : FVec Ideal S32x32x128 .f32) (hb : ∀ a, (![k, 0, 0] : Fin 3 → Nat) a + S1x32x128.size a ≤ S32x32x128.size a) :
    View.ld (Val := Elt Ideal) (e' := .f32) x0 (Rect.unit (s := S32x32x128) ![k, 0, 0] S1x32x128.size hb) = slab x0 ⟨k, hk⟩ := by
  funext i
  refine congrArg x0 ?_
  funext a
  refine Fin.ext ?_
  match a with
  | ⟨0, _⟩ =>
    have h0 : (i 0).val = 0 := by have := (i 0).isLt; change (i 0).val < 1 at this; omega
    show k + 1 * (i 0).val = k
    omega
  | ⟨1, _⟩ => show 0 + 1 * (i 1).val = (i 1).val; omega
  | ⟨2, _⟩ => show 0 + 1 * (i 2).val = (i 2).val; omega

/-- A slice of one position's labels. -/
theorem line_eq (k : ℕ) (hk : k < 32) (x1 : IVec S32x32 32) (hs : S32x32.Slices ![k, 0] S1x32) :
    extractStridedSlice S1x32 ![k, 0] (shapeCast S32x32 x1 shapeCasts_S32x32_S32x32) hs = line x1 ⟨k, hk⟩ := by
  have e : shapeCast S32x32 x1 shapeCasts_S32x32_S32x32 = x1 := shapeCast_self _ _
  rw [e]
  funext i
  refine congrArg x1 ?_
  funext a
  refine Fin.ext ?_
  match a with
  | ⟨0, _⟩ =>
    have h0 : (i 0).val = 0 := by have := (i 0).isLt; change (i 0).val < 1 at this; omega
    show k + (i 0).val = k
    omega
  | ⟨1, _⟩ => show 0 + (i 1).val = (i 1).val; omega

/-- The part of the total of position `k`, nothing past the last. -/
def partAt (x0 : FVec Ideal S32x32x128 .f32) (k : ℕ) : EReal := if h : k < 32 then Asg.part fun c d => x0 (ix3 ⟨k, h⟩ c d) else 0

/-- One position's part of the total. -/
theorem piece_at (k : ℕ) (x0 : FVec Ideal S32x32x128 .f32) (z : S1x1.Idx)
    (hb : ∀ a, (![k, 0, 0] : Fin 3 → Nat) a + S1x32x128.size a ≤ S32x32x128.size a) :
    partOf (F := Ideal) (View.ld (Val := Elt Ideal) (e' := .f32) x0 (Rect.unit (s := S32x32x128) ![k, 0, 0] S1x32x128.size hb)) z = partAt x0 k := by
  have hk : k < 32 := by have := hb 0; change k + 1 ≤ 32 at this; omega
  rw [ld_eq k hk, part_at, partAt, dif_pos hk]
  rfl

/-- A grid point's parts are the sum over its positions. -/
theorem parts_at (x0 : FVec Ideal S32x32x128 .f32) (z : S1x1.Idx) : parts (F := Ideal) x0 z = ∑ k : Fin 32, Asg.part fun c d => x0 (ix3 k c d) := by
  have e0 : (broadcast S1x1 (Scalar.ofBits .f32 0x00000000#32 : Ideal .f32) : FVec Ideal S1x1 .f32) z = 0 := by pointwise
  have hs : (∑ k : Fin 32, Asg.part fun c d => x0 (ix3 k c d)) = ∑ k ∈ Finset.range 32, partAt x0 k := by
    rw [← Fin.sum_univ_eq_sum_range (partAt x0) 32]
    exact Finset.sum_congr rfl fun k _ => by rw [partAt, dif_pos k.isLt]
  rw [hs]
  simp only [Finset.sum_range_succ, Finset.sum_range_zero]
  rw [← piece_at 0 x0 z inb_S32x32x128_S1x32x128_0_0_0, ← piece_at 1 x0 z inb_S32x32x128_S1x32x128_1_0_0, ← piece_at 2 x0 z inb_S32x32x128_S1x32x128_2_0_0, ← piece_at 3 x0 z inb_S32x32x128_S1x32x128_3_0_0, ← piece_at 4 x0 z inb_S32x32x128_S1x32x128_4_0_0, ← piece_at 5 x0 z inb_S32x32x128_S1x32x128_5_0_0, ← piece_at 6 x0 z inb_S32x32x128_S1x32x128_6_0_0, ← piece_at 7 x0 z inb_S32x32x128_S1x32x128_7_0_0, ← piece_at 8 x0 z inb_S32x32x128_S1x32x128_8_0_0, ← piece_at 9 x0 z inb_S32x32x128_S1x32x128_9_0_0, ← piece_at 10 x0 z inb_S32x32x128_S1x32x128_10_0_0, ← piece_at 11 x0 z inb_S32x32x128_S1x32x128_11_0_0, ← piece_at 12 x0 z inb_S32x32x128_S1x32x128_12_0_0, ← piece_at 13 x0 z inb_S32x32x128_S1x32x128_13_0_0, ← piece_at 14 x0 z inb_S32x32x128_S1x32x128_14_0_0, ← piece_at 15 x0 z inb_S32x32x128_S1x32x128_15_0_0, ← piece_at 16 x0 z inb_S32x32x128_S1x32x128_16_0_0, ← piece_at 17 x0 z inb_S32x32x128_S1x32x128_17_0_0, ← piece_at 18 x0 z inb_S32x32x128_S1x32x128_18_0_0, ← piece_at 19 x0 z inb_S32x32x128_S1x32x128_19_0_0, ← piece_at 20 x0 z inb_S32x32x128_S1x32x128_20_0_0, ← piece_at 21 x0 z inb_S32x32x128_S1x32x128_21_0_0, ← piece_at 22 x0 z inb_S32x32x128_S1x32x128_22_0_0, ← piece_at 23 x0 z inb_S32x32x128_S1x32x128_23_0_0, ← piece_at 24 x0 z inb_S32x32x128_S1x32x128_24_0_0, ← piece_at 25 x0 z inb_S32x32x128_S1x32x128_25_0_0, ← piece_at 26 x0 z inb_S32x32x128_S1x32x128_26_0_0, ← piece_at 27 x0 z inb_S32x32x128_S1x32x128_27_0_0, ← piece_at 28 x0 z inb_S32x32x128_S1x32x128_28_0_0, ← piece_at 29 x0 z inb_S32x32x128_S1x32x128_29_0_0, ← piece_at 30 x0 z inb_S32x32x128_S1x32x128_30_0_0, ← piece_at 31 x0 z inb_S32x32x128_S1x32x128_31_0_0, ← e0]
  rfl

/-- 32 rows one above another read at an index. -/
theorem stack_at (p0 p1 p2 p3 p4 p5 p6 p7 p8 p9 p10 p11 p12 p13 p14 p15 p16 p17 p18 p19 p20 p21 p22 p23 p24 p25 p26 p27 p28 p29 p30 p31 : IVec S1x32 32) (P : Fin 32 → IVec S1x32 32) (h0 : p0 = P 0) (h1 : p1 = P 1) (h2 : p2 = P 2) (h3 : p3 = P 3) (h4 : p4 = P 4) (h5 : p5 = P 5) (h6 : p6 = P 6) (h7 : p7 = P 7) (h8 : p8 = P 8) (h9 : p9 = P 9) (h10 : p10 = P 10) (h11 : p11 = P 11) (h12 : p12 = P 12) (h13 : p13 = P 13) (h14 : p14 = P 14) (h15 : p15 = P 15) (h16 : p16 = P 16) (h17 : p17 = P 17) (h18 : p18 = P 18) (h19 : p19 = P 19) (h20 : p20 = P 20) (h21 : p21 = P 21) (h22 : p22 = P 22) (h23 : p23 = P 23) (h24 : p24 = P 24) (h25 : p25 = P 25) (h26 : p26 = P 26) (h27 : p27 = P 27) (h28 : p28 = P 28) (h29 : p29 = P 29) (h30 : p30 = P 30) (h31 : p31 = P 31) (s c : Fin 32) :
    concatenate S32x32 0 [⟨S1x32, p0⟩, ⟨S1x32, p1⟩, ⟨S1x32, p2⟩, ⟨S1x32, p3⟩, ⟨S1x32, p4⟩, ⟨S1x32, p5⟩, ⟨S1x32, p6⟩, ⟨S1x32, p7⟩, ⟨S1x32, p8⟩, ⟨S1x32, p9⟩, ⟨S1x32, p10⟩, ⟨S1x32, p11⟩, ⟨S1x32, p12⟩, ⟨S1x32, p13⟩, ⟨S1x32, p14⟩, ⟨S1x32, p15⟩, ⟨S1x32, p16⟩, ⟨S1x32, p17⟩, ⟨S1x32, p18⟩, ⟨S1x32, p19⟩, ⟨S1x32, p20⟩, ⟨S1x32, p21⟩, ⟨S1x32, p22⟩, ⟨S1x32, p23⟩, ⟨S1x32, p24⟩, ⟨S1x32, p25⟩, ⟨S1x32, p26⟩, ⟨S1x32, p27⟩, ⟨S1x32, p28⟩, ⟨S1x32, p29⟩, ⟨S1x32, p30⟩, ⟨S1x32, p31⟩] concatenates_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S32x32_d0 (ix2 s c) = P s (ix2 0 c) := by
  subst h0 h1 h2 h3 h4 h5 h6 h7 h8 h9 h10 h11 h12 h13 h14 h15 h16 h17 h18 h19 h20 h21 h22 h23 h24 h25 h26 h27 h28 h29 h30 h31
  exact concatenate_ofFn_unit_apply (t := S32x32) (s₁ := S1x32) 0 P _ rfl rfl (ix2 (s : Fin 32) (c : Fin 32) : S32x32.Idx) s rfl (ix2 (0 : Fin 1) (c : Fin 32) : S1x32.Idx) fun b hb => by
    match b with
    | ⟨0, _⟩ => exact absurd rfl hb
    | ⟨1, _⟩ => rfl

/-- A row of labels a grid point stores. -/
theorem rows_at (x0 : FVec Ideal S32x32x128 .f32) (x1 : IVec S32x32 32) (s c : Fin 32) (v : Fin 16)
    (hv : Asg.IsBest (Asg.count (Asg.prob (Asg.dist fun c d => x0 (ix3 s c d)) c) fun k => x1 (ix2 s k)) v) :
    rows (F := Ideal) x0 x1 (ix2 s c) = BitVec.ofNat 32 v.val := by
  refine (stack_at _ _ _ _ _ _ _ _ _ _ _ _ _ _ _ _ _ _ _ _ _ _ _ _ _ _ _ _ _ _ _ _ (fun k => labelsOf (slab x0 k) (line x1 k)) (by rw [ld_eq 0 (by omega), line_eq 0 (by omega)]; rfl) (by rw [ld_eq 1 (by omega), line_eq 1 (by omega)]; rfl) (by rw [ld_eq 2 (by omega), line_eq 2 (by omega)]; rfl) (by rw [ld_eq 3 (by omega), line_eq 3 (by omega)]; rfl) (by rw [ld_eq 4 (by omega), line_eq 4 (by omega)]; rfl) (by rw [ld_eq 5 (by omega), line_eq 5 (by omega)]; rfl) (by rw [ld_eq 6 (by omega), line_eq 6 (by omega)]; rfl) (by rw [ld_eq 7 (by omega), line_eq 7 (by omega)]; rfl) (by rw [ld_eq 8 (by omega), line_eq 8 (by omega)]; rfl) (by rw [ld_eq 9 (by omega), line_eq 9 (by omega)]; rfl) (by rw [ld_eq 10 (by omega), line_eq 10 (by omega)]; rfl) (by rw [ld_eq 11 (by omega), line_eq 11 (by omega)]; rfl) (by rw [ld_eq 12 (by omega), line_eq 12 (by omega)]; rfl) (by rw [ld_eq 13 (by omega), line_eq 13 (by omega)]; rfl) (by rw [ld_eq 14 (by omega), line_eq 14 (by omega)]; rfl) (by rw [ld_eq 15 (by omega), line_eq 15 (by omega)]; rfl) (by rw [ld_eq 16 (by omega), line_eq 16 (by omega)]; rfl) (by rw [ld_eq 17 (by omega), line_eq 17 (by omega)]; rfl) (by rw [ld_eq 18 (by omega), line_eq 18 (by omega)]; rfl) (by rw [ld_eq 19 (by omega), line_eq 19 (by omega)]; rfl) (by rw [ld_eq 20 (by omega), line_eq 20 (by omega)]; rfl) (by rw [ld_eq 21 (by omega), line_eq 21 (by omega)]; rfl) (by rw [ld_eq 22 (by omega), line_eq 22 (by omega)]; rfl) (by rw [ld_eq 23 (by omega), line_eq 23 (by omega)]; rfl) (by rw [ld_eq 24 (by omega), line_eq 24 (by omega)]; rfl) (by rw [ld_eq 25 (by omega), line_eq 25 (by omega)]; rfl) (by rw [ld_eq 26 (by omega), line_eq 26 (by omega)]; rfl) (by rw [ld_eq 27 (by omega), line_eq 27 (by omega)]; rfl) (by rw [ld_eq 28 (by omega), line_eq 28 (by omega)]; rfl) (by rw [ld_eq 29 (by omega), line_eq 29 (by omega)]; rfl) (by rw [ld_eq 30 (by omega), line_eq 30 (by omega)]; rfl) (by rw [ld_eq 31 (by omega), line_eq 31 (by omega)]; rfl) s c).trans ?_
  exact labels_at (slab x0 s) (line x1 s) 0 c v hv

end Cert.AssignIdeal.Stage

end
-- ==== Proof.AsgRun.lean ====
/- The reference of the assignment step: its operations cut into named stages, its run as a list of operations, and the
   two results in terms of the stages. -/
module

public import proofs.«01_k».proof.Proof.Gen.AssignReferenceIdeal
public import Idealize.ShloMosaic.Lib.StableHlo.Run

@[expose] public section

set_option maxRecDepth 16384

noncomputable section

namespace Cert.AssignReferenceIdeal.Stage

open Cert.AssignReferenceIdeal Cert.AssignReferenceIdeal.Gen Idealize.ShloMosaic Idealize.ShloMosaic.TcCoe Idealize.SL.Sem Idealize.ShloMosaic.StableHlo

variable {F : FTy → Type} [FloatOps F]

/-- The differences between the rows of every position. -/
def diff (X : FVec F S32x256x128 .f32) : FVec F S256x32x32x128 .f32 :=
  transpose S256x32x32x128 [2, 0, 1, 3]
    (subf (broadcastInDim S32x32x256x128 ![0, 1, 2, 3] bcast_S32x1x256x128_S32x32x256x128_0_1_2_3 (broadcastInDim S32x1x256x128 ![0, 2, 3] bcast_S32x256x128_S32x1x256x128_0_2_3 X))
      (broadcastInDim S32x32x256x128 ![0, 1, 2, 3] bcast_S1x32x256x128_S32x32x256x128_0_1_2_3 (broadcastInDim S1x32x256x128 ![1, 2, 3] bcast_S32x256x128_S1x32x256x128_1_2_3 X)))
    transposes_S32x32x256x128_S256x32x32x128_2_0_1_3

/-- The squared distances. -/
def dist (X : FVec F S32x256x128 .f32) : FVec F S256x32x32 .f32 :=
  Host.dotGeneral dot_S256x32x32x128_S256x32x32x128_S256x32x32_3_3_n_n_012_012 none (diff X) (diff X)

/-- A row statistic spread over the row. -/
def spread (R : FVec F S256x32 .f32) : FVec F S256x32x32 .f32 :=
  broadcastInDim S256x32x32 ![0, 1, 2] bcast_S256x32x1_S256x32x32_0_1_2 (broadcastInDim S256x32x1 ![0, 1] bcast_S256x32_S256x32x1_0_1 R)

/-- The greatest entry of every row. -/
def top (Z : FVec F S256x32x32 .f32) : FVec F S256x32 .f32 :=
  maximumf (broadcastInDim S256x32 ![] bcast_S_S256x32 (constant S_ .f32 0xFF800000#32))
    (Host.reduce FloatOps.maximumf Z (constant S_ .f32 0xFF800000#32) reducesTo_S256x32x32_S256x32_d2 h_S_)

/-- The exponentials of the rows less their greatest entries. -/
def expo (Z : FVec F S256x32x32 .f32) : FVec F S256x32x32 .f32 := Host.exp (subf Z (spread (top Z)))

/-- The sum of every row. -/
def rowSum (Z : FVec F S256x32x32 .f32) : FVec F S256x32 .f32 :=
  Host.reduceAdd Z (constant S_ .f32 0x00000000#32) reducesTo_S256x32x32_S256x32_d2 h_S_

/-- The softmax of the negated distances. -/
def prob (D : FVec F S256x32x32 .f32) : FVec F S256x32x32 .f32 :=
  Host.divf (expo (Host.negf D)) (spread (rowSum (expo (Host.negf D))))

/-- The indices of the sixteen greatest entries of every row, in order. -/
def best16 (p : FVec F S256x32x32 .f32) : IVec S256x32x16 32 :=
  (Host.topK S256x32x16 2 (FloatOps.cmpfTotal .gt) p sliceFits_S256x32x32_S256x32x16).2

/-- How many of the sixteen stand at their own index. -/
def inPlace (I : IVec S256x32x16 32) : IVec S256x32 32 :=
  Host.reduce IntOp.addi (extui 32 (cmpi .eq I (broadcastInDim S256x32x16 ![0, 1, 2] bcast_S1x1x16_S256x32x16_0_1_2
    (broadcastInDim S1x1x16 ![2] bcast_S16_S1x1x16_2 (iotaInDim S16 32 0)))) natLt_1_32) (constantI S_ 32 0#32) reducesTo_S256x32x16_S256x32_d2 h_S_

/-- The total, from the distances and the indices. -/
def total (D : FVec F S256x32x32 .f32) (I : IVec S256x32x16 32) : FVec F S_ .f32 :=
  Host.reduceAdd (mulf (sitofp .f32 (inPlace I)) (rowSum D)) (constant S_ .f32 0x00000000#32) reducesTo_S256x32_S_d0_1 h_S_

/-- Indices from the end, below zero, taken from the start: the sixteen indices of every row. -/
def wrapped (I : IVec S256x32x16 32) : IVec S256x32x16 32 :=
  select (cmpi .slt I (broadcastInDim S256x32x16 ![] bcast_S_S256x32x16 (constantI S_ 32 0#32)))
    (addi I (broadcastInDim S256x32x16 ![] bcast_S_S256x32x16 (constantI S_ 32 32#32))) I

/-- The positions' own indices. -/
def posIdx : IVec S256x1x1 32 := broadcastInDim S256x1x1 ![0] bcast_S256_S256x1x1_0 (iotaInDim S256 32 0)

/-- The positions' own indices, those below zero taken from the start, for every entry of a row. -/
def positions : IVec S256x32x16 32 :=
  broadcastInDim S256x32x16 ![0, 1, 2] bcast_S256x1x1_S256x32x16_0_1_2
    (select (cmpi .slt posIdx (broadcastInDim S256x1x1 ![] bcast_S_S256x1x1 (constantI S_ 32 0#32)))
      (addi posIdx (broadcastInDim S256x1x1 ![] bcast_S_S256x1x1 (constantI S_ 32 256#32))) posIdx)

/-- Two arrays of indices, side by side as pairs. -/
def pair (a b : (⟨S256x32x16x1, .i32⟩ : BufTy).Contents (Elt F)) : (⟨S256x32x16x2, .i32⟩ : BufTy).Contents (Elt F) :=
  concatenate S256x32x16x2 3 [⟨S256x32x16x1, a⟩, ⟨S256x32x16x1, b⟩] concatenates_S256x32x16x1_S256x32x16x1_S256x32x16x2_d3

/-- The pairs of an entry's index and its position. -/
def where_ (I : IVec S256x32x16 32) : IVec S256x32x16x2 32 :=
  pair (F := F) (broadcastInDim S256x32x16x1 ![0, 1, 2] bcast_S256x32x16_S256x32x16x1_0_1_2 (wrapped I))
    (broadcastInDim S256x32x16x1 ![0, 1, 2] bcast_S256x32x16_S256x32x16x1_0_1_2 positions)

/-- The labels of the sixteen entries of every row. -/
def labels (L : IVec S32x256x1 32) (I : IVec S256x32x16 32) : IVec S256x32x16 32 :=
  Host.gather gather_S32x256_S256x32x16x2_S256x32x16_n_01_n_n_01_3_11 (shapeCast S32x256 L shapeCasts_S32x256x1_S32x256) (where_ (F := F) I)

/-- How many of the sixteen carry each label. -/
def counts (G : IVec S256x32x16 32) : IVec S256x32x16 32 :=
  Host.reduce IntOp.addi (extui 32 (cmpi .eq
      (broadcastInDim S256x32x16x16 ![0, 1, 2, 3] bcast_S256x32x16x1_S256x32x16x16_0_1_2_3 (broadcastInDim S256x32x16x1 ![0, 1, 2] bcast_S256x32x16_S256x32x16x1_0_1_2 G))
      (broadcastInDim S256x32x16x16 ![0, 1, 2, 3] bcast_S1x1x1x16_S256x32x16x16_0_1_2_3 (broadcastInDim S1x1x1x16 ![3] bcast_S16_S1x1x1x16_3 (iotaInDim S16 32 0)))) natLt_1_32)
    (constantI S_ 32 0#32) reducesTo_S256x32x16x16_S256x32x16_d2 h_S_

/-- The first index of the greatest count of every row. -/
def winner (C : IVec S256x32x16 32) : IVec S256x32 32 := fun j =>
  (Host.reduce2 reducer_argmax_i32_i32 C (iotaInDim S256x32x16 32 2) (constantI S_ 32 2147483648#32) (constantI S_ 32 0#32)
    reducesTo_S256x32x16_S256x32_d2 h_S_ j).2

/-- The sixteen indices, from the argument. -/
def picks (X : FVec F S32x256x128 .f32) : IVec S256x32x16 32 := best16 (prob (dist X))

/-- The first result. -/
def outTotal (X : FVec F S32x256x128 .f32) : FVec F S_ .f32 := total (dist X) (picks X)

/-- The second result. -/
def outLabels (X : FVec F S32x256x128 .f32) (L : IVec S32x256x1 32) : IVec S256x32 32 := winner (counts (labels (F := F) L (picks X)))

/-- The reference's operations, in order. -/
abbrev steps : List (HloOp τ sig (Elt F)) :=
  [ unary main_arg0 main_v0 (broadcastInDim S32x1x256x128 ![0, 2, 3] bcast_S32x256x128_S32x1x256x128_0_2_3 : (⟨S32x256x128, .f32⟩ : BufTy).Contents (Elt F) → (⟨S32x1x256x128, .f32⟩ : BufTy).Contents (Elt F)),
    unary main_arg0 main_v1 (broadcastInDim S1x32x256x128 ![1, 2, 3] bcast_S32x256x128_S1x32x256x128_1_2_3 : (⟨S32x256x128, .f32⟩ : BufTy).Contents (Elt F) → (⟨S1x32x256x128, .f32⟩ : BufTy).Contents (Elt F)),
    unary main_v0 main_v2 (broadcastInDim S32x32x256x128 ![0, 1, 2, 3] bcast_S32x1x256x128_S32x32x256x128_0_1_2_3 : (⟨S32x1x256x128, .f32⟩ : BufTy).Contents (Elt F) → (⟨S32x32x256x128, .f32⟩ : BufTy).Contents (Elt F)),
    unary main_v1 main_v3 (broadcastInDim S32x32x256x128 ![0, 1, 2, 3] bcast_S1x32x256x128_S32x32x256x128_0_1_2_3 : (⟨S1x32x256x128, .f32⟩ : BufTy).Contents (Elt F) → (⟨S32x32x256x128, .f32⟩ : BufTy).Contents (Elt F)),
    binary main_v2 main_v3 main_v4 (subf : (⟨S32x32x256x128, .f32⟩ : BufTy).Contents (Elt F) → (⟨S32x32x256x128, .f32⟩ : BufTy).Contents (Elt F) → (⟨S32x32x256x128, .f32⟩ : BufTy).Contents (Elt F)),
    unary main_v4 main_v5 ((transpose S256x32x32x128 [2, 0, 1, 3] · transposes_S32x32x256x128_S256x32x32x128_2_0_1_3) : (⟨S32x32x256x128, .f32⟩ : BufTy).Contents (Elt F) → (⟨S256x32x32x128, .f32⟩ : BufTy).Contents (Elt F)),
    binary main_v5 main_v5 main_v6 ((fun l r => Host.dotGeneral dot_S256x32x32x128_S256x32x32x128_S256x32x32_3_3_n_n_012_012 none l r) : (⟨S256x32x32x128, .f32⟩ : BufTy).Contents (Elt F) → (⟨S256x32x32x128, .f32⟩ : BufTy).Contents (Elt F) → (⟨S256x32x32, .f32⟩ : BufTy).Contents (Elt F)),
    unary main_v6 main_v7 (Host.negf : (⟨S256x32x32, .f32⟩ : BufTy).Contents (Elt F) → (⟨S256x32x32, .f32⟩ : BufTy).Contents (Elt F)),
    nullary main_cst (constant S_ .f32 0xFF800000#32),
    binary main_v7 main_cst main_v8 ((fun x v => Host.reduce FloatOps.maximumf x v reducesTo_S256x32x32_S256x32_d2 h_S_) : (⟨S256x32x32, .f32⟩ : BufTy).Contents (Elt F) → (⟨S_, .f32⟩ : BufTy).Contents (Elt F) → (⟨S256x32, .f32⟩ : BufTy).Contents (Elt F)),
    nullary main_cst_0 (constant S_ .f32 0xFF800000#32),
    unary main_cst_0 main_v9 (broadcastInDim S256x32 ![] bcast_S_S256x32 : (⟨S_, .f32⟩ : BufTy).Contents (Elt F) → (⟨S256x32, .f32⟩ : BufTy).Contents (Elt F)),
    binary main_v9 main_v8 main_v10 (maximumf : (⟨S256x32, .f32⟩ : BufTy).Contents (Elt F) → (⟨S256x32, .f32⟩ : BufTy).Contents (Elt F) → (⟨S256x32, .f32⟩ : BufTy).Contents (Elt F)),
    unary main_v10 main_v11 (broadcastInDim S256x32x1 ![0, 1] bcast_S256x32_S256x32x1_0_1 : (⟨S256x32, .f32⟩ : BufTy).Contents (Elt F) → (⟨S256x32x1, .f32⟩ : BufTy).Contents (Elt F)),
    unary main_v11 main_v12 (broadcastInDim S256x32x32 ![0, 1, 2] bcast_S256x32x1_S256x32x32_0_1_2 : (⟨S256x32x1, .f32⟩ : BufTy).Contents (Elt F) → (⟨S256x32x32, .f32⟩ : BufTy).Contents (Elt F)),
    binary main_v7 main_v12 main_v13 (subf : (⟨S256x32x32, .f32⟩ : BufTy).Contents (Elt F) → (⟨S256x32x32, .f32⟩ : BufTy).Contents (Elt F) → (⟨S256x32x32, .f32⟩ : BufTy).Contents (Elt F)),
    unary main_v13 main_v14 (Host.exp : (⟨S256x32x32, .f32⟩ : BufTy).Contents (Elt F) → (⟨S256x32x32, .f32⟩ : BufTy).Contents (Elt F)),
    nullary main_cst_1 (constant S_ .f32 0x00000000#32),
    binary main_v14 main_cst_1 main_v15 ((fun x v => Host.reduceAdd x v reducesTo_S256x32x32_S256x32_d2 h_S_) : (⟨S256x32x32, .f32⟩ : BufTy).Contents (Elt F) → (⟨S_, .f32⟩ : BufTy).Contents (Elt F) → (⟨S256x32, .f32⟩ : BufTy).Contents (Elt F)),
    unary main_v15 main_v16 (broadcastInDim S256x32x1 ![0, 1] bcast_S256x32_S256x32x1_0_1 : (⟨S256x32, .f32⟩ : BufTy).Contents (Elt F) → (⟨S256x32x1, .f32⟩ : BufTy).Contents (Elt F)),
    unary main_v16 main_v17 (broadcastInDim S256x32x32 ![0, 1, 2] bcast_S256x32x1_S256x32x32_0_1_2 : (⟨S256x32x1, .f32⟩ : BufTy).Contents (Elt F) → (⟨S256x32x32, .f32⟩ : BufTy).Contents (Elt F)),
    binary main_v14 main_v17 main_v18 (Host.divf : (⟨S256x32x32, .f32⟩ : BufTy).Contents (Elt F) → (⟨S256x32x32, .f32⟩ : BufTy).Contents (Elt F) → (⟨S256x32x32, .f32⟩ : BufTy).Contents (Elt F)),
    unary main_v18 main_values ((fun x => (Host.topK S256x32x16 2 (FloatOps.cmpfTotal .gt) x sliceFits_S256x32x32_S256x32x16).1) : (⟨S256x32x32, .f32⟩ : BufTy).Contents (Elt F) → (⟨S256x32x16, .f32⟩ : BufTy).Contents (Elt F)),
    unary main_v18 main_indices ((fun x => (Host.topK S256x32x16 2 (FloatOps.cmpfTotal .gt) x sliceFits_S256x32x32_S256x32x16).2) : (⟨S256x32x32, .f32⟩ : BufTy).Contents (Elt F) → (⟨S256x32x16, .i32⟩ : BufTy).Contents (Elt F)),
    nullary main_v19 (iotaInDim S16 32 0),
    unary main_v19 main_v20 (broadcastInDim S1x1x16 ![2] bcast_S16_S1x1x16_2 : (⟨S16, .i32⟩ : BufTy).Contents (Elt F) → (⟨S1x1x16, .i32⟩ : BufTy).Contents (Elt F)),
    unary main_v20 main_v21 (broadcastInDim S256x32x16 ![0, 1, 2] bcast_S1x1x16_S256x32x16_0_1_2 : (⟨S1x1x16, .i32⟩ : BufTy).Contents (Elt F) → (⟨S256x32x16, .i32⟩ : BufTy).Contents (Elt F)),
    binary main_indices main_v21 main_v22 (cmpi .eq : (⟨S256x32x16, .i32⟩ : BufTy).Contents (Elt F) → (⟨S256x32x16, .i32⟩ : BufTy).Contents (Elt F) → (⟨S256x32x16, .i1⟩ : BufTy).Contents (Elt F)),
    nullary main_cst_2 (constant S_ .f32 0x00000000#32),
    binary main_v6 main_cst_2 main_v23 ((fun x v => Host.reduceAdd x v reducesTo_S256x32x32_S256x32_d2 h_S_) : (⟨S256x32x32, .f32⟩ : BufTy).Contents (Elt F) → (⟨S_, .f32⟩ : BufTy).Contents (Elt F) → (⟨S256x32, .f32⟩ : BufTy).Contents (Elt F)),
    unary main_v22 main_v24 ((extui 32 · natLt_1_32) : (⟨S256x32x16, .i1⟩ : BufTy).Contents (Elt F) → (⟨S256x32x16, .i32⟩ : BufTy).Contents (Elt F)),
    nullary main_c (constantI S_ 32 0#32),
    binary main_v24 main_c main_v25 ((fun x v => Host.reduce IntOp.addi x v reducesTo_S256x32x16_S256x32_d2 h_S_) : (⟨S256x32x16, .i32⟩ : BufTy).Contents (Elt F) → (⟨S_, .i32⟩ : BufTy).Contents (Elt F) → (⟨S256x32, .i32⟩ : BufTy).Contents (Elt F)),
    unary main_v25 main_v26 (sitofp .f32 : (⟨S256x32, .i32⟩ : BufTy).Contents (Elt F) → (⟨S256x32, .f32⟩ : BufTy).Contents (Elt F)),
    binary main_v26 main_v23 main_v27 (mulf : (⟨S256x32, .f32⟩ : BufTy).Contents (Elt F) → (⟨S256x32, .f32⟩ : BufTy).Contents (Elt F) → (⟨S256x32, .f32⟩ : BufTy).Contents (Elt F)),
    nullary main_cst_3 (constant S_ .f32 0x00000000#32),
    binary main_v27 main_cst_3 main_v28 ((fun x v => Host.reduceAdd x v reducesTo_S256x32_S_d0_1 h_S_) : (⟨S256x32, .f32⟩ : BufTy).Contents (Elt F) → (⟨S_, .f32⟩ : BufTy).Contents (Elt F) → (⟨S_, .f32⟩ : BufTy).Contents (Elt F)),
    reshape main_arg1 main_v29 (rfl : (.i32 : EltTy) = .i32) shapeCasts_S32x256x1_S32x256,
    nullary main_v30 (iotaInDim S256 32 0),
    unary main_v30 main_v31 (broadcastInDim S256x1x1 ![0] bcast_S256_S256x1x1_0 : (⟨S256, .i32⟩ : BufTy).Contents (Elt F) → (⟨S256x1x1, .i32⟩ : BufTy).Contents (Elt F)),
    nullary main_c_4 (constantI S_ 32 0#32),
    unary main_c_4 main_v32 (broadcastInDim S256x32x16 ![] bcast_S_S256x32x16 : (⟨S_, .i32⟩ : BufTy).Contents (Elt F) → (⟨S256x32x16, .i32⟩ : BufTy).Contents (Elt F)),
    binary main_indices main_v32 main_v33 (cmpi .slt : (⟨S256x32x16, .i32⟩ : BufTy).Contents (Elt F) → (⟨S256x32x16, .i32⟩ : BufTy).Contents (Elt F) → (⟨S256x32x16, .i1⟩ : BufTy).Contents (Elt F)),
    nullary main_c_5 (constantI S_ 32 32#32),
    unary main_c_5 main_v34 (broadcastInDim S256x32x16 ![] bcast_S_S256x32x16 : (⟨S_, .i32⟩ : BufTy).Contents (Elt F) → (⟨S256x32x16, .i32⟩ : BufTy).Contents (Elt F)),
    binary main_indices main_v34 main_v35 (addi : (⟨S256x32x16, .i32⟩ : BufTy).Contents (Elt F) → (⟨S256x32x16, .i32⟩ : BufTy).Contents (Elt F) → (⟨S256x32x16, .i32⟩ : BufTy).Contents (Elt F)),
    ternary main_v33 main_v35 main_indices main_v36 (select : (⟨S256x32x16, .i1⟩ : BufTy).Contents (Elt F) → (⟨S256x32x16, .i32⟩ : BufTy).Contents (Elt F) → (⟨S256x32x16, .i32⟩ : BufTy).Contents (Elt F) → (⟨S256x32x16, .i32⟩ : BufTy).Contents (Elt F)),
    nullary main_c_6 (constantI S_ 32 0#32),
    unary main_c_6 main_v37 (broadcastInDim S256x1x1 ![] bcast_S_S256x1x1 : (⟨S_, .i32⟩ : BufTy).Contents (Elt F) → (⟨S256x1x1, .i32⟩ : BufTy).Contents (Elt F)),
    binary main_v31 main_v37 main_v38 (cmpi .slt : (⟨S256x1x1, .i32⟩ : BufTy).Contents (Elt F) → (⟨S256x1x1, .i32⟩ : BufTy).Contents (Elt F) → (⟨S256x1x1, .i1⟩ : BufTy).Contents (Elt F)),
    nullary main_c_7 (constantI S_ 32 256#32),
    unary main_c_7 main_v39 (broadcastInDim S256x1x1 ![] bcast_S_S256x1x1 : (⟨S_, .i32⟩ : BufTy).Contents (Elt F) → (⟨S256x1x1, .i32⟩ : BufTy).Contents (Elt F)),
    binary main_v31 main_v39 main_v40 (addi : (⟨S256x1x1, .i32⟩ : BufTy).Contents (Elt F) → (⟨S256x1x1, .i32⟩ : BufTy).Contents (Elt F) → (⟨S256x1x1, .i32⟩ : BufTy).Contents (Elt F)),
    ternary main_v38 main_v40 main_v31 main_v41 (select : (⟨S256x1x1, .i1⟩ : BufTy).Contents (Elt F) → (⟨S256x1x1, .i32⟩ : BufTy).Contents (Elt F) → (⟨S256x1x1, .i32⟩ : BufTy).Contents (Elt F) → (⟨S256x1x1, .i32⟩ : BufTy).Contents (Elt F)),
    unary main_v41 main_v42 (broadcastInDim S256x32x16 ![0, 1, 2] bcast_S256x1x1_S256x32x16_0_1_2 : (⟨S256x1x1, .i32⟩ : BufTy).Contents (Elt F) → (⟨S256x32x16, .i32⟩ : BufTy).Contents (Elt F)),
    unary main_v36 main_v43 (broadcastInDim S256x32x16x1 ![0, 1, 2] bcast_S256x32x16_S256x32x16x1_0_1_2 : (⟨S256x32x16, .i32⟩ : BufTy).Contents (Elt F) → (⟨S256x32x16x1, .i32⟩ : BufTy).Contents (Elt F)),
    unary main_v42 main_v44 (broadcastInDim S256x32x16x1 ![0, 1, 2] bcast_S256x32x16_S256x32x16x1_0_1_2 : (⟨S256x32x16, .i32⟩ : BufTy).Contents (Elt F) → (⟨S256x32x16x1, .i32⟩ : BufTy).Contents (Elt F)),
    binary main_v43 main_v44 main_v45 (pair (F := F)),
    binary main_v29 main_v45 main_v46 ((fun x i => Host.gather gather_S32x256_S256x32x16x2_S256x32x16_n_01_n_n_01_3_11 x i) : (⟨S32x256, .i32⟩ : BufTy).Contents (Elt F) → (⟨S256x32x16x2, .i32⟩ : BufTy).Contents (Elt F) → (⟨S256x32x16, .i32⟩ : BufTy).Contents (Elt F)),
    unary main_v46 main_v47 (broadcastInDim S256x32x16x1 ![0, 1, 2] bcast_S256x32x16_S256x32x16x1_0_1_2 : (⟨S256x32x16, .i32⟩ : BufTy).Contents (Elt F) → (⟨S256x32x16x1, .i32⟩ : BufTy).Contents (Elt F)),
    nullary main_v48 (iotaInDim S16 32 0),
    unary main_v48 main_v49 (broadcastInDim S1x1x1x16 ![3] bcast_S16_S1x1x1x16_3 : (⟨S16, .i32⟩ : BufTy).Contents (Elt F) → (⟨S1x1x1x16, .i32⟩ : BufTy).Contents (Elt F)),
    unary main_v47 main_v50 (broadcastInDim S256x32x16x16 ![0, 1, 2, 3] bcast_S256x32x16x1_S256x32x16x16_0_1_2_3 : (⟨S256x32x16x1, .i32⟩ : BufTy).Contents (Elt F) → (⟨S256x32x16x16, .i32⟩ : BufTy).Contents (Elt F)),
    unary main_v49 main_v51 (broadcastInDim S256x32x16x16 ![0, 1, 2, 3] bcast_S1x1x1x16_S256x32x16x16_0_1_2_3 : (⟨S1x1x1x16, .i32⟩ : BufTy).Contents (Elt F) → (⟨S256x32x16x16, .i32⟩ : BufTy).Contents (Elt F)),
    binary main_v50 main_v51 main_v52 (cmpi .eq : (⟨S256x32x16x16, .i32⟩ : BufTy).Contents (Elt F) → (⟨S256x32x16x16, .i32⟩ : BufTy).Contents (Elt F) → (⟨S256x32x16x16, .i1⟩ : BufTy).Contents (Elt F)),
    unary main_v52 main_v53 ((extui 32 · natLt_1_32) : (⟨S256x32x16x16, .i1⟩ : BufTy).Contents (Elt F) → (⟨S256x32x16x16, .i32⟩ : BufTy).Contents (Elt F)),
    nullary main_c_8 (constantI S_ 32 0#32),
    binary main_v53 main_c_8 main_v54 ((fun x v => Host.reduce IntOp.addi x v reducesTo_S256x32x16x16_S256x32x16_d2 h_S_) : (⟨S256x32x16x16, .i32⟩ : BufTy).Contents (Elt F) → (⟨S_, .i32⟩ : BufTy).Contents (Elt F) → (⟨S256x32x16, .i32⟩ : BufTy).Contents (Elt F)),
    nullary main_call0_v0 (iotaInDim S256x32x16 32 2),
    nullary main_call0_c (constantI S_ 32 2147483648#32),
    nullary main_call0_c_0 (constantI S_ 32 0#32),
    quaternary main_v54 main_call0_v0 main_call0_c main_call0_c_0 main_call0_v1_0 (fun x y u v j => (Host.reduce2 reducer_argmax_i32_i32 x y u v reducesTo_S256x32x16_S256x32_d2 h_S_ j).1 : (⟨S256x32x16, .i32⟩ : BufTy).Contents (Elt F) → (⟨S256x32x16, .i32⟩ : BufTy).Contents (Elt F) → (⟨S_, .i32⟩ : BufTy).Contents (Elt F) → (⟨S_, .i32⟩ : BufTy).Contents (Elt F) → (⟨S256x32, .i32⟩ : BufTy).Contents (Elt F)),
    quaternary main_v54 main_call0_v0 main_call0_c main_call0_c_0 main_v55 (fun x y u v j => (Host.reduce2 reducer_argmax_i32_i32 x y u v reducesTo_S256x32x16_S256x32_d2 h_S_ j).2 : (⟨S256x32x16, .i32⟩ : BufTy).Contents (Elt F) → (⟨S256x32x16, .i32⟩ : BufTy).Contents (Elt F) → (⟨S_, .i32⟩ : BufTy).Contents (Elt F) → (⟨S_, .i32⟩ : BufTy).Contents (Elt F) → (⟨S256x32, .i32⟩ : BufTy).Contents (Elt F)) ]

set_option maxRecDepth 8192 in
set_option maxHeartbeats 4000000 in
/-- The reference runs its operations in order. -/
theorem steps_eq (c : Dev nD) : main (F := F) c = seq steps := rfl

/-- No buffer of the reference is scoped. -/
theorem no_scoped : (Finset.univ.filter fun b : Ref sig .tc => b.isScoped) = ∅ := by decide

/-- No semaphore of the reference is scoped. -/
theorem no_sems : (Finset.univ.filter fun s : SemLoc sig => s.isScoped .tc) = ∅ := by decide

set_option maxRecDepth 8192 in
/-- The operations' buffers are the program's. -/
theorem steps_bufs : (steps : List (HloOp τ sig (Elt F))).Forall fun op => op.bufs ⊆ tcRefs τ sig :=
  ⟨unary_bufs_sub .., unary_bufs_sub .., unary_bufs_sub .., unary_bufs_sub .., binary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., nullary_bufs_sub .., unary_bufs_sub .., unary_bufs_sub .., binary_bufs_sub .., nullary_bufs_sub .., binary_bufs_sub .., unary_bufs_sub .., nullary_bufs_sub .., binary_bufs_sub .., unary_bufs_sub .., binary_bufs_sub .., nullary_bufs_sub .., binary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., nullary_bufs_sub .., unary_bufs_sub .., unary_bufs_sub .., unary_bufs_sub .., binary_bufs_sub .., unary_bufs_sub .., nullary_bufs_sub .., binary_bufs_sub .., nullary_bufs_sub .., nullary_bufs_sub .., nullary_bufs_sub .., quaternary_bufs_sub .., quaternary_bufs_sub ..⟩

set_option maxRecDepth 8192 in
set_option maxHeartbeats 27200000 in
/-- Every execution of the reference ends with its two results at the stages' terms and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = outTotal (m ((c.tc : Thread nD τ).loc main_arg0))
      ∧ r.2.mem ((c.tc : Thread nD τ).loc main_v55) = outLabels (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v28).trans (by after_results_simp <;> rfl),
      (h c main_v55).trans (by after_results_simp <;> rfl),
      (h c main_arg0).trans (by after_results_simp <;> rfl),
      (h c main_arg1).trans (by after_results_simp <;> rfl)⟩)
    (run_seq no_scoped no_sems defs main (fun _ => steps) steps_eq (fun _ => steps_bufs) m ρ)

end Cert.AssignReferenceIdeal.Stage

end
-- ==== Proof.AsgRef.lean ====
/- The reference's stages of the assignment step read at an index of one position, as the step's mathematics. -/
module

public import proofs.«01_k».proof.Proof.AsgRun
public import proofs.«01_k».proof.Proof.AsgSort
public import proofs.«01_k».proof.Proof.Enc
public import Idealize.ShloMosaic.Lib.Pointwise
public import Idealize.ShloMosaic.Lib.IndicatorCount

@[expose] public section

set_option maxRecDepth 16384

noncomputable section

namespace Cert.AssignReferenceIdeal.Stage

open Cert.AssignReferenceIdeal Cert.AssignReferenceIdeal.Gen Idealize.ShloMosaic Idealize.ShloMosaic.TcCoe Idealize.SL.Sem
open scoped Classical

variable (s : Fin 256)

/-- Position `s` of an array of matrices, as a function. -/
abbrev rd (D : FVec Ideal S256x32x32 .f32) (s : Fin 256) : Fin 32 → Fin 32 → EReal := fun c k => D (ix3 s c k)

/-- The rows of position `s`. -/
abbrev pos (X : FVec Ideal S32x256x128 .f32) (s : Fin 256) : Fin 32 → Fin 128 → EReal := fun c d => X (ix3 c s d)

/-- The distances of one position. -/
theorem dist_at (X : FVec Ideal S32x256x128 .f32) : rd (dist X) s = Asg.dist (pos X s) := by
  funext c k
  pointwise! [rd, dist, diff, Asg.dist, pos]

/-- A row statistic spread over the row. -/
theorem spread_at (R : FVec Ideal S256x32 .f32) (c k : Fin 32) : spread R (ix3 s c k) = R (ix2 s c) := by
  pointwise [spread]

/-- The greatest entry of a row of negated distances. -/
theorem top_at (D : FVec Ideal S256x32x32 .f32) (c : Fin 32) : top (Host.negf D) (ix2 s c) = Asg.top (rd D s) c := by
  pointwise [top, Asg.top, rd]
  exact max_eq_right ((Finset.le_fold_max _).mpr (Or.inl (le_refl _)))

/-- The exponentials of the negated distances. -/
theorem expo_at (D : FVec Ideal S256x32x32 .f32) (c k : Fin 32) : expo (Host.negf D) (ix3 s c k) = Asg.wt (rd D s) c k := by
  pointwise [expo, Asg.wt, spread_at, top_at, rd]

/-- The sum of a row. -/
theorem rowSum_at (D : FVec Ideal S256x32x32 .f32) (c : Fin 32) : rowSum D (ix2 s c) = ∑ k : Fin 32, D (ix3 s c k) := by
  pointwise [rowSum]

/-- The softmax of the negated distances. -/
theorem prob_at (D : FVec Ideal S256x32x32 .f32) (c k : Fin 32) : prob D (ix3 s c k) = Asg.prob (rd D s) c k := by
  pointwise [prob, Asg.prob, spread_at, rowSum_at, expo_at]

/-- The index results of a top-k at a place of the operand: the sort's permutation of the axis at that place. -/
theorem topK_idx {α : Type} {s t : Shape} {d : Nat} (hd : d < s.rank) (gt : α → α → BitVec 1) (x : s.Idx → α) (h : s.Slices (fun _ => 0) t)
    (j : t.Idx) (J : s.Idx) (hJ : ∀ a, (J a).val = (j (a.cast h.1.symm)).val) :
    (Host.topK t d gt x h).2 j
      = BitVec.ofNat 32 (sortedFrom (fun k k' => gt (x (J.along ⟨d, hd⟩ k)) (x (J.along ⟨d, hd⟩ k')) == 1#1) (J ⟨d, hd⟩)).val := by
  unfold Host.topK Host.sort2 extractStridedSlice
  have e : (fun a : Fin s.rank => (⟨0 + (j (a.cast h.1.symm)).val,
      Nat.lt_of_lt_of_le (Nat.add_lt_add_left (j _).isLt _) (h.2 a)⟩ : Fin (s.size a))) = J := funext fun a => Fin.ext (by
    rw [hJ]; exact Nat.zero_add _)
  simp only [dif_pos hd, iotaInDim]
  rw [e]
  simp only [Shape.Idx.along, Function.update_self]
  exact congrArg (fun q => BitVec.ofNat 32 (sortedFrom _ q).val) (congrFun e ⟨d, hd⟩)

/-- The sixteen indices of a row, as the sort leaves them. -/
theorem best16_sorted (p : FVec Ideal S256x32x32 .f32) (c : Fin 32) (r : Fin 16) :
    best16 p (ix3 s c r) = BitVec.ofNat 32 (sortedFrom (fun k k' : Fin 32 => FloatOps.cmpfTotal .gt (p (ix3 s c k)) (p (ix3 s c k')) == 1#1)
      (Asg.at16 r)).val := by
  have ha : ∀ j k : Fin 32, (ix3 s c j : S256x32x32.Idx).along (2 : Fin 3) k = ix3 s c k := fun j k => by
    funext a
    match a with
    | ⟨0, _⟩ => rfl
    | ⟨1, _⟩ => rfl
    | ⟨2, _⟩ => rfl
  refine (topK_idx (by decide : 2 < S256x32x32.rank) _ p _ (ix3 s c r) (ix3 s c (Asg.at16 r)) fun a => ?_).trans ?_
  · match a with
    | ⟨0, _⟩ => rfl
    | ⟨1, _⟩ => rfl
    | ⟨2, _⟩ => rfl
  · have hf : (fun k k' : Fin 32 => FloatOps.cmpfTotal .gt (p ((ix3 s c (Asg.at16 r) : S256x32x32.Idx).along (2 : Fin 3) k))
        (p ((ix3 s c (Asg.at16 r) : S256x32x32.Idx).along (2 : Fin 3) k')) == 1#1)
        = fun k k' : Fin 32 => FloatOps.cmpfTotal .gt (p (ix3 s c k)) (p (ix3 s c k')) == 1#1 := by
      funext k k'
      rw [ha, ha]
    exact congrArg (fun f : Fin 32 → Fin 32 → Bool => BitVec.ofNat 32 (sortedFrom f (Asg.at16 r)).val) hf

/-- The sixteen indices of a row are the first sixteen places. -/
theorem best16_at (p : FVec Ideal S256x32x32 .f32) (c : Fin 32) (r : Fin 16) :
    best16 p (ix3 s c r) = BitVec.ofNat 32 (Asg.place (fun k => p (ix3 s c k)) (Asg.at16 r)).val := by
  rw [best16_sorted, Asg.place]
  refine congrArg (fun f => BitVec.ofNat 32 (sortedFrom f (Asg.at16 r)).val) ?_
  funext k k'
  show (Ideal.cmp CmpFPredicate.ogt (p (ix3 s c k)) (p (ix3 s c k')) == 1#1) = _
  by_cases h : p (ix3 s c k') < p (ix3 s c k)
  · simp [Ideal.cmp, h]
  · simp [Ideal.cmp, h]

/-- How many of the sixteen indices of a row are their own place. -/
theorem inPlace_at (p : Fin 32 → EReal) (I : IVec S256x32x16 32) (c : Fin 32)
    (hI : ∀ r : Fin 16, I (ix3 s c r) = BitVec.ofNat 32 (Asg.place p (Asg.at16 r)).val) :
    inPlace I (ix2 s c) = BitVec.ofNat 32 (Asg.fixed p) := by
  pointwise [inPlace, hI]
  refine (IndicatorCount.fold_addi_setWidth_eq_card _ _).trans ?_
  rw [← Asg.card_fixed]
  refine congrArg (fun s : Finset (Fin 16) => BitVec.ofNat 32 s.card) ?_
  ext r
  have hr := r.isLt
  have hp := (Asg.place p (Asg.at16 r)).isLt
  rw [Finset.mem_filter, Finset.mem_filter, WordCmp.cmpi_eq_eq_toNat, WordCmp.toNat_ofNat_of_lt (by omega), WordCmp.toNat_ofNat_of_lt (by omega),
    WordCmp.ofBool_eq_one_iff, decide_eq_true_iff, Fin.ext_iff]

/-- The total over the positions. -/
theorem outTotal_at (X : FVec Ideal S32x256x128 .f32) (z : S_.Idx) : outTotal X z = ∑ s : Fin 256, Asg.part (pos X s) := by
  have hc : ∀ s c, inPlace (picks X) (ix2 s c) = BitVec.ofNat 32 (Asg.fixed (Asg.prob (Asg.dist (pos X s)) c)) := fun s c =>
    inPlace_at s _ _ c fun r => by
      rw [picks, best16_at, ← dist_at]
      exact congrArg (fun f => BitVec.ofNat 32 (Asg.place f (Asg.at16 r)).val) (funext fun k => prob_at s (dist X) c k)
  have hd : ∀ s c k, dist X (ix3 s c k) = Asg.dist (pos X s) c k := fun s c k => congrFun (congrFun (dist_at s X) c) k
  have hn : ∀ q : Fin 32 → EReal, (FloatOps.sitofp .f32 (BitVec.ofNat 32 (Asg.fixed q)) : Ideal .f32) = ((Asg.fixed q : ℕ) : EReal) := fun q =>
    Asg.nat_at _ (lt_of_le_of_lt (Asg.fixed_le q) (by decide))
  pointwise [outTotal, total, hc, rowSum_at, hd, hn, Asg.part]

/-- The pairs' first components. -/
theorem where_fst (I : IVec S256x32x16 32) (c : Fin 32) (r : Fin 16) : where_ (F := Ideal) I (ix4 s c r 0) = wrapped I (ix3 s c r) := by
  pointwise [where_, pair]

/-- The pairs' second components. -/
theorem where_snd (I : IVec S256x32x16 32) (c : Fin 32) (r : Fin 16) : where_ (F := Ideal) I (ix4 s c r 1) = positions (ix3 s c r) := by
  pointwise [where_, pair]

/-- A small number is not below zero as a signed word. -/
theorem slt_zero (n : ℕ) (h : n < 2 ^ 31) : IntOp.cmpi .slt (BitVec.ofNat 32 n) 0#32 = 0#1 := by
  rw [WordCmp.cmpi_slt_eq, WordCmp.toInt_ofNat_of_lt (by simpa using h), show (0#32 : BitVec 32).toInt = 0 from by decide,
    decide_eq_false (by omega)]
  rfl

/-- Indices not below zero are left alone. -/
theorem wrapped_at (I : IVec S256x32x16 32) (c : Fin 32) (r : Fin 16) (n : ℕ) (h : n < 2 ^ 31) (hI : I (ix3 s c r) = BitVec.ofNat 32 n) :
    wrapped I (ix3 s c r) = BitVec.ofNat 32 n := by
  pointwise [wrapped, hI, slt_zero n h]

/-- The position's own index. -/
theorem positions_at (c : Fin 32) (r : Fin 16) : positions (ix3 s c r) = BitVec.ofNat 32 s.val := by
  have hs := s.isLt
  pointwise [positions, posIdx, slt_zero s.val (by omega)]

/-- The gather reads the operand at the pair. -/
theorem gather_at (x : IVec S32x256 32) (idx : IVec S256x32x16x2 32) (c : Fin 32) (r : Fin 16) :
    Host.gather gather_S32x256_S256x32x16x2_S256x32x16_n_01_n_n_01_3_11 x idx (ix3 s c r)
      = x (ix2 ⟨min (idx (ix4 s c r 0)).toInt.toNat 31, by omega⟩ ⟨min (idx (ix4 s c r 1)).toInt.toNat 255, by omega⟩) := by
  unfold Host.gather
  refine congrArg x ?_
  funext a
  refine Fin.ext ?_
  show gather_S32x256_S256x32x16x2_S256x32x16_n_01_n_n_01_3_11.start (ix3 s c r) idx a
    + gather_S32x256_S256x32x16x2_S256x32x16_n_01_n_n_01_3_11.batchCoord (ix3 s c r) a
    + gather_S32x256_S256x32x16x2_S256x32x16_n_01_n_n_01_3_11.offCoord (ix3 s c r) a = _
  have h01 : a = 0 ∨ a = 1 := by
    match a with
    | ⟨0, _⟩ => exact Or.inl rfl
    | ⟨1, _⟩ => exact Or.inr rfl
  have hm : a ∈ gather_S32x256_S256x32x16x2_S256x32x16_n_01_n_n_01_3_11.collapsedSliceDims := by
    rcases h01 with rfl | rfl <;> decide
  have hm' : a ∈ gather_S32x256_S256x32x16x2_S256x32x16_n_01_n_n_01_3_11.startIndexMap := by
    rcases h01 with rfl | rfl <;> decide
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos hm']
  rcases h01 with rfl | rfl
  · rw [show gather_S32x256_S256x32x16x2_S256x32x16_n_01_n_n_01_3_11.siIdx (ix3 s c r) ⟨_, List.idxOf_lt_length_iff.2 hm'⟩ = ix4 s c r 0 from by
      funext b; refine Fin.ext ?_
      match b with
      | ⟨0, _⟩ => rfl
      | ⟨1, _⟩ => rfl
      | ⟨2, _⟩ => rfl
      | ⟨3, _⟩ => rfl]
    rfl
  · rw [show gather_S32x256_S256x32x16x2_S256x32x16_n_01_n_n_01_3_11.siIdx (ix3 s c r) ⟨_, List.idxOf_lt_length_iff.2 hm'⟩ = ix4 s c r 1 from by
      funext b; refine Fin.ext ?_
      match b with
      | ⟨0, _⟩ => rfl
      | ⟨1, _⟩ => rfl
      | ⟨2, _⟩ => rfl
      | ⟨3, _⟩ => rfl]
    rfl

/-- The label of an entry. -/
theorem labels_at (L : IVec S32x256x1 32) (I : IVec S256x32x16 32) (c : Fin 32) (r : Fin 16) (k : Fin 32)
    (hI : I (ix3 s c r) = BitVec.ofNat 32 k.val) : labels (F := Ideal) L I (ix3 s c r) = L (ix3 k s 0) := by
  have hk := k.isLt
  have hs := s.isLt
  rw [labels, gather_at]
  have e1 : (⟨min (where_ (F := Ideal) I (ix4 s c r 0)).toInt.toNat 31, by omega⟩ : Fin 32) = k := Fin.ext (by
    show min (where_ (F := Ideal) I (ix4 s c r 0)).toInt.toNat 31 = k.val
    rw [where_fst, wrapped_at s I c r k.val (by omega) hI, WordCmp.toInt_ofNat_of_lt (by simp; omega)]; omega)
  have e2 : (⟨min (where_ (F := Ideal) I (ix4 s c r 1)).toInt.toNat 255, by omega⟩ : Fin 256) = s := Fin.ext (by
    show min (where_ (F := Ideal) I (ix4 s c r 1)).toInt.toNat 255 = s.val
    rw [where_snd, positions_at, WordCmp.toInt_ofNat_of_lt (by simp; omega)]; omega)
  rw [e1, e2]
  pointwise

/-- The counts of the labels. -/
theorem counts_at (p : Fin 32 → EReal) (lab : Fin 32 → BitVec 32) (G : IVec S256x32x16 32) (c : Fin 32) (v : Fin 16)
    (hG : ∀ r : Fin 16, G (ix3 s c r) = lab (Asg.place p (Asg.at16 r))) :
    counts G (ix3 s c v) = BitVec.ofNat 32 (Asg.count p lab v) := by
  pointwise [counts, hG]
  refine (IndicatorCount.fold_addi_setWidth_eq_card _ _).trans ?_
  rw [← Asg.card_count]
  refine congrArg (fun s : Finset (Fin 16) => BitVec.ofNat 32 s.card) ?_
  ext r
  rw [Finset.mem_filter, Finset.mem_filter, WordCmp.cmpi_eq_eq, WordCmp.ofBool_eq_one_iff, decide_eq_true_iff]

/-- The comparison of two (count, index) pairs by the printed reducer: `a` is at least as good as `b`. -/
def Good (a b : BitVec 32 × BitVec 32) : Prop := b.1.toInt < a.1.toInt ∨ (a.1.toInt = b.1.toInt ∧ a.2.toInt ≤ b.2.toInt)

/-- The reducer returns one of its pairs, at least as good as both. -/
theorem reducer_good (a b : BitVec 32 × BitVec 32) :
    (reducer_argmax_i32_i32 a b = a ∨ reducer_argmax_i32_i32 a b = b) ∧ Good (reducer_argmax_i32_i32 a b) a ∧ Good (reducer_argmax_i32_i32 a b) b := by
  obtain ⟨a1, a2⟩ := a
  obtain ⟨b1, b2⟩ := b
  unfold reducer_argmax_i32_i32 Good
  have hne : IntOp.cmpi .ne a1 a1 = 0#1 := by simp [IntOp.cmpi]
  have hgt : IntOp.cmpi .sgt a1 b1 = BitVec.ofBool (decide (b1.toInt < a1.toInt)) := by simp [IntOp.cmpi, BitVec.slt]
  have hlt : IntOp.cmpi .slt a2 b2 = BitVec.ofBool (decide (a2.toInt < b2.toInt)) := WordCmp.cmpi_slt_eq _ _
  have heq : IntOp.cmpi .eq a1 b1 = BitVec.ofBool (decide (a1 = b1)) := WordCmp.cmpi_eq_eq _ _
  simp only [hne, hgt, hlt, heq]
  by_cases h1 : b1.toInt < a1.toInt
  · have h2 : a1 ≠ b1 := fun h => by rw [h] at h1; exact lt_irrefl _ h1
    simp [h1, h2, IntOp.ori, IntOp.andi, Scalar.select]
  · by_cases h2 : a1 = b1
    · subst h2
      by_cases h3 : a2.toInt < b2.toInt
      · simp [h3, IntOp.ori, IntOp.andi, Scalar.select]
        omega
      · simp [h3, IntOp.ori, IntOp.andi, Scalar.select]
        omega
    · have h3 : a1.toInt ≠ b1.toInt := fun h => h2 (BitVec.eq_of_toInt_eq h)
      simp [h1, h2, IntOp.ori, IntOp.andi, Scalar.select]
      omega

/-- The comparison is transitive. -/
theorem good_trans {a b c : BitVec 32 × BitVec 32} (h : Good a b) (h' : Good b c) : Good a c := by
  unfold Good at *
  omega

/-- Folding the reducer over a list gives one of its pairs or the first, at least as good as all. -/
theorem fold_good (l : List (BitVec 32 × BitVec 32)) : ∀ b : BitVec 32 × BitVec 32,
    (l.foldl reducer_argmax_i32_i32 b = b ∨ l.foldl reducer_argmax_i32_i32 b ∈ l) ∧ Good (l.foldl reducer_argmax_i32_i32 b) b
      ∧ ∀ x ∈ l, Good (l.foldl reducer_argmax_i32_i32 b) x := by
  induction l with
  | nil => exact fun b => ⟨Or.inl rfl, Or.inr ⟨rfl, le_refl _⟩, fun x h => nomatch h⟩
  | cons a l ih =>
    intro b
    obtain ⟨h1, h2, h3⟩ := ih (reducer_argmax_i32_i32 b a)
    obtain ⟨r1, r2, r3⟩ := reducer_good b a
    refine ⟨?_, good_trans h2 r2, fun x hx => ?_⟩
    · rcases h1 with h1 | h1
      · rcases r1 with r1 | r1
        · exact Or.inl (h1.trans r1)
        · exact Or.inr (List.mem_cons.mpr (Or.inl (h1.trans r1)))
      · exact Or.inr (List.mem_cons_of_mem _ h1)
    · rcases List.mem_cons.mp hx with rfl | hx
      · exact good_trans h2 r3
      · exact h3 x hx

/-- The winner of a row is the least index of greatest count. -/
theorem winner_at (C : IVec S256x32x16 32) (c : Fin 32) (n : Fin 16 → ℕ) (hn : ∀ v, n v < 2 ^ 31) (hC : ∀ v : Fin 16, C (ix3 s c v) = BitVec.ofNat 32 (n v))
    (v : Fin 16) (hv : Asg.IsBest n v) : winner C (ix2 s c) = BitVec.ofNat 32 v.val := by
  have hfib : ∀ q, q ∈ Host.argReduceFiber C (iotaInDim S256x32x16 32 2) reducesTo_S256x32x16_S256x32_d2 (ix2 s c)
      ↔ ∃ u : Fin 16, q = (BitVec.ofNat 32 (n u), BitVec.ofNat 32 u.val) := fun q => by
    unfold Host.argReduceFiber
    rw [List.mem_map]
    constructor
    · rintro ⟨i, hi, rfl⟩
      have hd := of_decide_eq_true (List.mem_filter.mp hi).2
      generalize S256x32x16.rowMajor.symm i = j at hd ⊢
      have d0 : (ix2 s c : S256x32.Idx) 0 = j 0 := by
        refine Fin.ext ?_
        rw [← hd]; exact Shape.ReducesTo.drop_apply_val reducesTo_S256x32x16_S256x32_d2 j 0
      have d1 : (ix2 s c : S256x32.Idx) 1 = j 1 := by
        refine Fin.ext ?_
        rw [← hd]; exact Shape.ReducesTo.drop_apply_val reducesTo_S256x32x16_S256x32_d2 j 1
      have e : j = ix3 s c (j 2) := by
        funext a
        match a with
        | ⟨0, _⟩ => exact d0.symm
        | ⟨1, _⟩ => exact d1.symm
        | ⟨2, _⟩ => rfl
      refine ⟨j 2, ?_⟩
      have e2 : C j = BitVec.ofNat 32 (n (j 2)) := (congrArg C e).trans (hC (j 2))
      rw [e2]
      rfl
    · rintro ⟨u, rfl⟩
      refine ⟨S256x32x16.rowMajor (ix3 s c u), List.mem_filter.mpr ⟨List.mem_finRange _, ?_⟩, ?_⟩
      · rw [Equiv.symm_apply_apply]
        refine decide_eq_true ?_
        funext a
        refine Fin.ext ?_
        match a with
        | ⟨0, _⟩ => exact Shape.ReducesTo.drop_apply_val reducesTo_S256x32x16_S256x32_d2 _ 0
        | ⟨1, _⟩ => exact Shape.ReducesTo.drop_apply_val reducesTo_S256x32x16_S256x32_d2 _ 1
      · rw [Equiv.symm_apply_apply, hC]
        rfl
  unfold winner
  rw [Host.reduce2_eq_foldl_fiber]
  obtain ⟨h1, h2, h3⟩ := fold_good (Host.argReduceFiber C (iotaInDim S256x32x16 32 2) reducesTo_S256x32x16_S256x32_d2 (ix2 s c))
    (constantI S_ 32 2147483648#32 (Shape.Idx.first h_S_), constantI S_ 32 0#32 (Shape.Idx.first h_S_))
  generalize List.foldl reducer_argmax_i32_i32 _ _ = q at h1 h2 h3 ⊢
  have hq := h3 _ ((hfib _).mpr ⟨v, rfl⟩)
  have tn : ∀ u, (BitVec.ofNat 32 (n u)).toInt = (n u : ℤ) := fun u => WordCmp.toInt_ofNat_of_lt (by simpa using hn u)
  have ti : ∀ u : Fin 16, (BitVec.ofNat 32 u.val).toInt = (u.val : ℤ) := fun u => WordCmp.toInt_ofNat_of_lt (by have := u.isLt; simp; omega)
  unfold Good at hq
  simp only [tn, ti] at hq
  rcases h1 with h1 | h1
  · subst h1
    have hb : ((2147483648#32 : BitVec 32)).toInt = -2147483648 := by decide
    simp only [constantI] at hq
    rw [hb] at hq
    omega
  · obtain ⟨u, rfl⟩ := (hfib q).mp h1
    simp only [tn, ti] at hq
    have hu := hv.1 u
    have e : n u = n v := by omega
    have := Fin.le_def.mp (hv.2 u e)
    exact congrArg (fun x : Fin 16 => BitVec.ofNat 32 x.val) (Fin.ext (by omega))

/-- The labels given to the rows. -/
theorem outLabels_at (X : FVec Ideal S32x256x128 .f32) (L : IVec S32x256x1 32) (c : Fin 32) (v : Fin 16)
    (hv : Asg.IsBest (Asg.count (Asg.prob (Asg.dist (pos X s)) c) fun k => L (ix3 k s 0)) v) :
    outLabels X L (ix2 s c) = BitVec.ofNat 32 v.val := by
  have hI : ∀ r : Fin 16, picks X (ix3 s c r) = BitVec.ofNat 32 (Asg.place (Asg.prob (Asg.dist (pos X s)) c) (Asg.at16 r)).val := fun r => by
    rw [picks, best16_at, ← dist_at]
    exact congrArg (fun f => BitVec.ofNat 32 (Asg.place f (Asg.at16 r)).val) (funext fun k => prob_at s (dist X) c k)
  have hG : ∀ r : Fin 16, labels (F := Ideal) L (picks X) (ix3 s c r)
      = (fun k => L (ix3 k s 0)) (Asg.place (Asg.prob (Asg.dist (pos X s)) c) (Asg.at16 r)) := fun r => labels_at s L (picks X) c r _ (hI r)
  have hC : ∀ u : Fin 16, counts (labels (F := Ideal) L (picks X)) (ix3 s c u)
      = BitVec.ofNat 32 (Asg.count (Asg.prob (Asg.dist (pos X s)) c) (fun k => L (ix3 k s 0)) u) := fun u =>
    counts_at s _ (fun k => L (ix3 k s 0)) _ c u hG
  have hn : ∀ u : Fin 16, Asg.count (Asg.prob (Asg.dist (pos X s)) c) (fun k => L (ix3 k s 0)) u < 2 ^ 31 := fun u =>
    lt_of_le_of_lt (Asg.count_le _ _ u) (by norm_num)
  exact winner_at s _ c _ hn hC v hv

end Cert.AssignReferenceIdeal.Stage

end
-- ==== Proof.AsgFinal.lean ====
/- The kernel's two arrays after the assignment step's launch are the reference's results. -/
module

public import proofs.«01_k».proof.Proof.AsgNet
public import proofs.«01_k».proof.Proof.AsgRef
public import proofs.«01_k».proof.Proof.Gen.AssignIdeal.Run

@[expose] public section

set_option maxRecDepth 16384

noncomputable section

namespace Cert.AssignIdeal.Stage

open Cert.AssignIdeal Cert.AssignIdeal.Gen Idealize.ShloMosaic Idealize.ShloMosaic.TcCoe Idealize.SL.Sem Idealize.ShloMosaic.StableHlo
open scoped Classical

variable (m : (ℓ : Loc nD τ sig) → Buf (Elt Ideal) ℓ)

/-- The block every window is on at a point. -/
theorem idx : ∀ t : Fin cfg0.N, win0_0.index t = ![t.val, 0, 0] ∧ win0_1.index t = ![t.val, 0] ∧ win0_2.index t = ![t.val, 0] :=
  (by decide +kernel : ∀ t : Fin grid0.N, _)

/-- The launch's first operand is the transposed argument. -/
theorem rows_arg (c : Dev nD) : (show FVec Ideal S256x32x128 .f32 from V m c main_v0) =
    transpose S256x32x128 [1, 0, 2] (show FVec Ideal S32x256x128 .f32 from m ((c.tc : Thread nD τ).loc main_arg0)) transposes_S32x256x128_S256x32x128_1_0_2 := by
  show StableHlo.after (List.flatten [hostOps0]) (fun b => m (c, b)) (Proc.devRef .tc main_v0) = _
  simp only [hostOps0, List.flatten_cons, List.flatten_nil, List.append_nil, List.cons_append, List.nil_append]
  after_results <;> rfl

/-- The launch's second operand is the other argument, its last axis dropped and transposed. -/
theorem lines_arg (c : Dev nD) : (show IVec S256x32 32 from V m c main_v2) =
    transpose S256x32 [1, 0] (shapeCast S32x256 (show IVec S32x256x1 32 from m ((c.tc : Thread nD τ).loc main_arg1)) shapeCasts_S32x256x1_S32x256) transposes_S32x256_S256x32_1_0 := by
  show StableHlo.after (List.flatten [hostOps0]) (fun b => m (c, b)) (Proc.devRef .tc main_v2) = _
  simp only [hostOps0, List.flatten_cons, List.flatten_nil, List.append_nil, List.cons_append, List.nil_append]
  after_results <;> rfl

/-- A point's block of rows at an index. -/
theorem block0 (c : Dev nD) (t : Fin cfg0.N) (X : FVec Ideal S32x256x128 .f32) (hX : m ((c.tc : Thread nD τ).loc main_arg0) = X)
    (s : Fin 32) (a : Fin 32) (d : Fin 128) (S : Fin 256) (hS : S.val = 32 * t.val + s.val) :
    (show FVec Ideal S32x32x128 .f32 from iblk m c 0 t) (ix3 s a d) = X (ix3 a S d) := by
  have h : (show FVec Ideal S32x32x128 .f32 from iblk m c 0 t) (ix3 s a d) = (show FVec Ideal S256x32x128 .f32 from V m c main_v0) (ix3 S a d) := by
    blk_point [iblk, idx t]
  rw [h, rows_arg, hX]
  pointwise

/-- A point's block of labels at an index. -/
theorem block1 (c : Dev nD) (t : Fin cfg0.N) (L : IVec S32x256x1 32) (hL : m ((c.tc : Thread nD τ).loc main_arg1) = L)
    (s : Fin 32) (a : Fin 32) (S : Fin 256) (hS : S.val = 32 * t.val + s.val) :
    (show IVec S32x32 32 from iblk m c 1 t) (ix2 s a) = L (ix3 a S 0) := by
  have h : (show IVec S32x32 32 from iblk m c 1 t) (ix2 s a) = (show IVec S256x32 32 from V m c main_v2) (ix2 S a) := by
    blk_point [iblk, idx t]
  rw [h, lines_arg, hL]
  pointwise

/-- A point's row of labels is the reference's. -/
theorem point2 (c : Dev nD) (t : Fin cfg0.N) (X : FVec Ideal S32x256x128 .f32) (hX : m ((c.tc : Thread nD τ).loc main_arg0) = X)
    (L : IVec S32x256x1 32) (hL : m ((c.tc : Thread nD τ).loc main_arg1) = L) (s : Fin 32) (a : Fin 32) (S : Fin 256) (hS : S.val = 32 * t.val + s.val) :
    rows (F := Ideal) (iblk m c 0 t) (iblk m c 1 t) (ix2 s a) = Cert.AssignReferenceIdeal.Stage.outLabels X L (ix2 S a) := by
  obtain ⟨v, hv⟩ := Asg.exists_best (Asg.count (Asg.prob (Asg.dist (Cert.AssignReferenceIdeal.Stage.pos X S)) a) fun k => L (ix3 k S 0))
  refine (rows_at (iblk m c 0 t) (iblk m c 1 t) s a v ?_).trans (Cert.AssignReferenceIdeal.Stage.outLabels_at S X L a v hv).symm
  have e0 : (fun (a : Fin 32) (d : Fin 128) => (show FVec Ideal S32x32x128 .f32 from iblk m c 0 t) (ix3 s a d)) = Cert.AssignReferenceIdeal.Stage.pos X S := by
    funext a d
    exact block0 m c t X hX s a d S hS
  have e1 : (fun a : Fin 32 => (show IVec S32x32 32 from iblk m c 1 t) (ix2 s a)) = fun k => L (ix3 k S 0) := by
    funext a
    exact block1 m c t L hL s a S hS
  have hv' := hv
  rw [← e0, ← e1] at hv'
  exact hv'

/-- A point's part of the total. -/
theorem point3 (c : Dev nD) (t : Fin cfg0.N) (X : FVec Ideal S32x256x128 .f32) (hX : m ((c.tc : Thread nD τ).loc main_arg0) = X) (z : S1x1.Idx) :
    parts (F := Ideal) (iblk m c 0 t) z = ∑ s : Fin 32, Asg.part (Cert.AssignReferenceIdeal.Stage.pos X ⟨t.val * 32 + s.val, by have := t.isLt; have := N_0; have := s.isLt; change t.val < grid0.N at *; omega⟩) := by
  refine (parts_at (iblk m c 0 t) z).trans (Finset.sum_congr rfl fun s _ => congrArg Asg.part ?_)
  funext a d
  exact block0 m c t X hX s a d _ (by show t.val * 32 + s.val = _; omega)

/-- The labels' array after the launch. -/
theorem final2 (c : Dev nD) (X : FVec Ideal S32x256x128 .f32) (hX : m ((c.tc : Thread nD τ).loc main_arg0) = X)
    (L : IVec S32x256x1 32) (hL : m ((c.tc : Thread nD τ).loc main_arg1) = L) :
    (dats m 0 c).arrAt 2 cfg0.N = Cert.AssignReferenceIdeal.Stage.outLabels (F := Ideal) X L := by
  refine (dats m 0 c).arrAt_eq_of_covers 2 _ (by decide +kernel) fun t _ y => ?_
  blk_simp
  have hrow : (outsAt0 m c t.val t.isLt).1 y = rows (F := Ideal) (iblk m c 0 t) (iblk m c 1 t) y := by
    by_cases h : t.val % 8 = 0
    · rw [outsAt0_A m c t h]
      exact labels_A (F := Ideal) c (grid0.coords t) (ms0_0 t) (hs0_0 t) (ms0_1 t) (hs0_1 t) (ms0_2 t) (hs0_2 t) (ms0_3 t) (hs0_3 t) ((hcond0_0 t).mpr h) (iblk m c 0 t) (iblk m c 1 t) y
    · rw [outsAt0_B m c t h]
      exact labels_B (F := Ideal) c (grid0.coords t) (ms0_0 t) (hs0_0 t) (ms0_1 t) (hs0_1 t) (ms0_2 t) (hs0_2 t) (ms0_3 t) (hs0_3 t) (fun h' => h ((hcond0_0 t).mp h')) (iblk m c 0 t) (iblk m c 1 t) (outsAt0 m c (t.val - 1) (Nat.lt_of_le_of_lt (Nat.sub_le _ _) t.isLt)).2 y
  rw [after0_2, hrow]
  idx_vars y
  have hb := y0.isLt
  have ht : t.val < 8 := t.isLt
  refine (point2 m c t X hX L hL y0 y1 ⟨32 * t.val + y0.val, by omega⟩ rfl).trans ?_
  refine congrArg (Cert.AssignReferenceIdeal.Stage.outLabels (F := Ideal) X L) ?_
  blk_ext [idx t]

/-- The total's array after the launch. -/
theorem final3 (c : Dev nD) (X : FVec Ideal S32x256x128 .f32) (hX : m ((c.tc : Thread nD τ).loc main_arg0) = X) (j : S1x1.Idx) :
    (show FVec Ideal S1x1 .f32 from (dats m 0 c).arrAt 3 cfg0.N) j = ∑ s : Fin 256, Asg.part (Cert.AssignReferenceIdeal.Stage.pos X s) := by
  have hA : ∀ t : Fin cfg0.N, t.val % 8 = 0 → ∀ i, (show FVec Ideal S1x1 .f32 from (outsAt0 m c t.val t.isLt).2) i = (0 : EReal) + parts (F := Ideal) (iblk m c 0 t) i := fun t h i => by
    rw [outsAt0_A m c t h]
    refine (total_A (F := Ideal) c (grid0.coords t) (ms0_0 t) (hs0_0 t) (ms0_1 t) (hs0_1 t) (ms0_2 t) (hs0_2 t) (ms0_3 t) (hs0_3 t) ((hcond0_0 t).mpr h) (iblk m c 0 t) (iblk m c 1 t) i).trans ?_
    rw [shapeCast_self]
    refine congrArg (· + parts (F := Ideal) (iblk m c 0 t) i) ?_
    pointwise
  have hB : ∀ t : Fin cfg0.N, ¬t.val % 8 = 0 → ∀ i, (show FVec Ideal S1x1 .f32 from (outsAt0 m c t.val t.isLt).2) i
      = (show FVec Ideal S1x1 .f32 from (outsAt0 m c (t.val - 1) (Nat.lt_of_le_of_lt (Nat.sub_le _ _) t.isLt)).2) i + parts (F := Ideal) (iblk m c 0 t) i := fun t h i => by
    rw [outsAt0_B m c t h]
    refine (total_B (F := Ideal) c (grid0.coords t) (ms0_0 t) (hs0_0 t) (ms0_1 t) (hs0_1 t) (ms0_2 t) (hs0_2 t) (ms0_3 t) (hs0_3 t) (fun h' => h ((hcond0_0 t).mp h')) (iblk m c 0 t) (iblk m c 1 t) (outsAt0 m c (t.val - 1) (Nat.lt_of_le_of_lt (Nat.sub_le _ _) t.isLt)).2 i).trans ?_
    rw [shapeCast_self]
    rfl
  have hsum : ∀ i, (show FVec Ideal S1x1 .f32 from (outsAt0 m c t0_7.val t0_7.isLt).2) i = ∑ s : Fin 256, Asg.part (Cert.AssignReferenceIdeal.Stage.pos X s) := fun i => by
    refine (Pipeline.eq_sum_fin_of_reset_step_apply_last (M := EReal) (N := cfg0.N) (ι := S1x1.Idx) (fun n h => (outsAt0 m c n h).2) 8 (fun _ => 0)
      (fun t => parts (F := Ideal) (iblk m c 0 t)) hA hB (le_of_eq N_0) t0_7 rfl i).trans ?_
    rw [zero_add, Fin.sum_univ_tiles 8 32 rfl (fun s => Asg.part (Cert.AssignReferenceIdeal.Stage.pos X s))]
    exact Finset.sum_congr rfl fun t _ => point3 m c t X hX i
  have harr : (dats m 0 c).arrAt 3 cfg0.N = (show FVec Ideal S1x1 .f32 from fun _ => ∑ s : Fin 256, Asg.part (Cert.AssignReferenceIdeal.Stage.pos X s)) := by
    refine (dats m 0 c).arrAt_eq_of_after_last 3 t0_7 (by decide +kernel) _ fun j => ?_
    blk_simp
    rw [after0_3]
    exact hsum _
  rw [harr]

end Cert.AssignIdeal.Stage

end
-- ==== Proof.AsgEnd.lean ====
/- The kernel's assignment step runs: it ends with the reference's two results. -/
module

public import proofs.«01_k».proof.Proof.AsgFinal

@[expose] public section

set_option maxRecDepth 16384

noncomputable section

namespace Cert.AssignIdeal.Stage

open Cert.AssignIdeal Cert.AssignIdeal.Gen Idealize.ShloMosaic Idealize.ShloMosaic.TcCoe Idealize.SL.Sem

/-- One number, as an array without axes, is the reference's total where it is the sum of the positions' parts. -/
theorem scalar_total (T : FVec Ideal S1x1 .f32) (X : FVec Ideal S32x256x128 .f32) (h : ∀ j, T j = ∑ s : Fin 256, Asg.part (Cert.AssignReferenceIdeal.Stage.pos X s)) :
    shapeCast S_ T shapeCasts_S1x1_S_ = Cert.AssignReferenceIdeal.Stage.outTotal (F := Ideal) X :=
  funext fun z => (h _).trans (Cert.AssignReferenceIdeal.Stage.outTotal_at X z).symm

/-- The kernel's assignment step ends with the reference's total and labels and leaves its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.AssignReferenceIdeal.Stage.outTotal (F := Ideal) (m ((c.tc : Thread nD τ).loc main_arg0))
      ∧ r.2.mem ((c.tc : Thread nD τ).loc main_v3_0)
        = Cert.AssignReferenceIdeal.Stage.outLabels (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Cert.AssignIdeal.Value.run m ρ) fun r h c =>
    ⟨(h c).1.trans (scalar_total (Cert.AssignIdeal.Value.reg_main_v3_1 m c) _ (final3 m c _ rfl)), (h c).2.1.trans (final2 m c _ rfl _ rfl), (h c).2.2⟩

end Cert.AssignIdeal.Stage

end
-- ==== Proof.AriMath.lean ====
/- Counting pairs of labels as plain mathematics: how many positions carry a given pair, and a histogram of words as a scatter. -/
module

public import proofs.«01_k».proof.Proof.AsgMath
public import Idealize.ShloMosaic.Lib.Routing.OpsPair
public import Idealize.ShloMosaic.Lib.Routing.Ops

@[expose] public section

set_option maxRecDepth 16384

noncomputable section

namespace Cert.Tab

open Idealize.ShloMosaic
open Idealize.ShloMosaic.Routing
open scoped Classical

/-- A word that names one of the sixteen classes. -/
def Class (x : BitVec 32) : Prop := ∃ q : Fin 16, x = BitVec.ofNat 32 q.val

/-- A word at least zero and below sixteen names a class. -/
theorem class_of (x : BitVec 32) (h : IntOp.andi (IntOp.cmpi .sge x 0#32) (IntOp.cmpi .slt x 16#32) = 1#1) : Class x := by
  rw [WordCmp.cmpi_sge_zero, WordCmp.cmpi_slt_eq, WordCmp.andi_ofBool, WordCmp.ofBool_eq_one_iff, Bool.and_eq_true, decide_eq_true_eq, decide_eq_true_eq] at h
  obtain ⟨h0, h1⟩ := h
  have e : (16#32).toInt = 16 := by decide
  rw [e, WordCmp.toInt_eq_toNat_of_lt_half h0] at h1
  exact ⟨⟨x.toNat, by omega⟩, by rw [BitVec.ofNat_toNat, BitVec.setWidth_eq]⟩

/-- Two classes are equal exactly when their words are. -/
theorem class_inj : ∀ q p : Fin 16, BitVec.ofNat 32 q.val = BitVec.ofNat 32 p.val ↔ q = p := by decide +kernel

/-- The bin of a pair of labels: the first times sixteen plus the second, none below zero, a negative one counted from the end. -/
def bin (a y : BitVec 32) : BitVec 32 :=
  Scalar.select (IntOp.cmpi .slt (IntOp.maxsi 0#32 (IntOp.addi (IntOp.muli a 16#32) y)) 0#32)
    (IntOp.addi (IntOp.maxsi 0#32 (IntOp.addi (IntOp.muli a 16#32) y)) 256#32) (IntOp.maxsi 0#32 (IntOp.addi (IntOp.muli a 16#32) y))

/-- The bin of two classes. -/
theorem bin_class : ∀ q r : Fin 16, (bin (BitVec.ofNat 32 q.val) (BitVec.ofNat 32 r.val)).toInt = ((16 * q.val + r.val : ℕ) : ℤ) := by decide +kernel

/-- The bin of a pair of classes tells the pair. -/
theorem bin_iff (a y : BitVec 32) (ha : Class a) (hy : Class y) (p t : Fin 16) :
    (bin a y).toInt = ((16 * p.val + t.val : ℕ) : ℤ) ↔ a = BitVec.ofNat 32 p.val ∧ y = BitVec.ofNat 32 t.val := by
  obtain ⟨q, rfl⟩ := ha
  obtain ⟨r, rfl⟩ := hy
  rw [bin_class, class_inj, class_inj, Int.natCast_inj, Fin.ext_iff, Fin.ext_iff]
  have := r.isLt
  have := t.isLt
  omega

/-- How many positions satisfy a condition. -/
def tally {n : ℕ} (P : Fin n → Prop) : ℕ := ∑ i : Fin n, if P i then 1 else 0

/-- At most every position satisfies it. -/
theorem tally_le {n : ℕ} (P : Fin n → Prop) : tally P ≤ n := by
  refine (Finset.sum_le_card_nsmul _ _ 1 fun i _ => ?_).trans (by simp)
  split <;> omega

/-- The tally as a number is the sum of the indicators. -/
theorem tally_cast {n : ℕ} (P : Fin n → Prop) : ((tally P : ℕ) : EReal) = ∑ i : Fin n, if P i then (1 : EReal) else 0 := by
  rw [Asg.sum_bits, tally, Finset.sum_boole]
  rfl

/-- Adding one at every position of a list that satisfies a condition. -/
theorem fold_ones {n : ℕ} (P : Fin n → Prop) (l : List (Fin n)) (z : ℕ) :
    l.foldl (fun a i => if P i then IntOp.addi a 1#32 else a) (BitVec.ofNat 32 z) = BitVec.ofNat 32 (z + (l.map fun i => if P i then 1 else 0).sum) := by
  induction l generalizing z with
  | nil => rfl
  | cons i l ih =>
    rw [List.foldl_cons, List.map_cons, List.sum_cons]
    by_cases h : P i
    · rw [if_pos h, if_pos h, ← Nat.add_assoc, ← ih (z + 1)]
      exact congrArg (fun v => l.foldl (fun a i => if P i then IntOp.addi a 1#32 else a) v) (BitVec.ofNat_add z 1).symm
    · rw [if_neg h, if_neg h, Nat.zero_add, ih z]

/-- The same at all positions, counted by a number equal to theirs. -/
theorem fold_all {n k : ℕ} (e : k = n) (P : Fin n → Prop) (Q : Fin k → Prop) (inst : DecidablePred Q) (h : ∀ i, Q i ↔ P (i.cast e)) :
    (List.finRange k).foldl (fun a i => if Q i then IntOp.addi a 1#32 else a) 0#32 = BitVec.ofNat 32 (tally P) := by
  subst e
  have := fold_ones P (List.finRange k) 0
  rw [Nat.zero_add, ← Fin.sum_univ_def] at this
  refine Eq.trans ?_ this
  refine congrArg (fun g => (List.finRange k).foldl g 0#32) (funext fun a => funext fun i => ?_)
  exact if_congr (h i) rfl rfl

/-- An update of a scatter of scalars into a vector, one index word each, lands at an entry exactly when its word, read signed, is that entry's number. -/
theorem lands {M N : ℕ} (d : ScatterDims (shape1 N) (shape2 M 1) (shape1 M)) (h1 : d.insertedWindowDims = [0])
    (h2 : d.scatterDimsToOperandDims = [0]) (h3 : d.indexVectorDim = 1) (idx : IVec (shape2 M 1) 32) (i : Fin M) (x : Fin N) :
    d.resultIdx? (ValueIdx.ix1 i) idx = some (ValueIdx.ix1 x) ↔ (idx (ValueIdx.ix2 i (0 : Fin 1))).toInt = (x.val : ℤ) := by
  rw [resultIdx?_ix1]
  obtain ⟨u, w, s, v, wf⟩ := d
  change w = [0] at h1
  change s = [0] at h2
  change v = 1 at h3
  subst h1 h2 h3
  have hu : u = [] := List.eq_nil_of_length_eq_zero wf.2.2.2.2.2.2.1
  subst hu
  have e1 : (ScatterDims.mk (s := shape1 N) (si := shape2 M 1) (u := shape1 M) [] [0] [0] 1 wf).window (ValueIdx.ix1 i) 0 = 0 := rfl
  have e2 : (ScatterDims.mk (s := shape1 N) (si := shape2 M 1) (u := shape1 M) [] [0] [0] 1 wf).start (ValueIdx.ix1 i) idx 0 = (idx (ValueIdx.ix2 i (0 : Fin 1))).toInt := by
    refine congrArg (fun q => (idx q).toInt) ?_
    funext b
    match b with
    | ⟨0, _⟩ => rfl
    | ⟨1, _⟩ => rfl
  rw [e1, e2]
  simp

/-- The two ways of writing an index of a vector agree. -/
theorem ix1_eq {n : ℕ} (i : Fin n) : ValueIdx.ix1 i = ix1 i := by
  funext b
  match b with
  | ⟨0, _⟩ => rfl

/-- The two ways of writing an index of a table agree. -/
theorem ix2_eq {n k : ℕ} (i : Fin n) (j : Fin k) : ValueIdx.ix2 i j = ix2 i j := by
  funext b
  match b with
  | ⟨0, _⟩ => rfl
  | ⟨1, _⟩ => rfl

/-- Scattering ones by addition into zeros counts, at every entry, the words that name it. -/
theorem histogram {M N : ℕ} (d : ScatterDims (shape1 N) (shape2 M 1) (shape1 M)) (h1 : d.insertedWindowDims = [0])
    (h2 : d.scatterDimsToOperandDims = [0]) (h3 : d.indexVectorDim = 1) (x0 : IVec (shape1 N) 32) (idx : IVec (shape2 M 1) 32) (upd : IVec (shape1 M) 32)
    (hx : ∀ i, x0 i = 0#32) (hu : ∀ i, upd i = 1#32) (x : Fin N) :
    Host.scatter d IntOp.addi x0 idx upd (ix1 x) = BitVec.ofNat 32 (tally fun i : Fin M => (idx (ix2 i (0 : Fin 1))).toInt = (x.val : ℤ)) := by
  rw [scatter_at, hx]
  simp only [hu]
  refine fold_all (numel1 M) _ _ _ fun n => ?_
  rw [symm1, ← ix1_eq, ← ix2_eq]
  exact lands d h1 h2 h3 idx _ x

end Cert.Tab

end
-- ==== Proof.AriStages.lean ====
/- The table kernel's block as one term of its operands, and its entries as counts. -/
module

public import proofs.«01_k».proof.Proof.AriMath
public import proofs.«01_k».proof.Proof.Gen.AriIdeal.Frame
public import Idealize.ShloMosaic.Lib.Pipeline.ValueKit

@[expose] public section

set_option maxRecDepth 16384

noncomputable section

namespace Cert.AriIdeal.Stage

open Cert.AriIdeal Cert.AriIdeal.Gen Idealize.ShloMosaic Idealize.ShloMosaic.TcCoe Idealize.SL.Sem
open scoped Classical

variable {F : FTy → Type} [FloatOps F]

/-- The indicators of every class at every position. -/
def onehot (x1 : IVec S256x32 32) : FVec F S256x32x16 .f32 :=
  sitofp .f32 (extui 32 (cmpi .eq (broadcastTo S256x32x16 (shapeCast S256x32x1 (shapeCast S256x32 x1 shapeCasts_S256x32_S256x32) shapeCasts_S256x32_S256x32x1) broadcasts_S256x32x1_S256x32x16)
    (iota .tc S256x32x16 32 [2] iota_S256x32x16_d2_w32)) natLt_1_32)

/-- The counts of the positions whose first label is `v`, by their second. -/
def rowOf (v : BitVec 32) (x0 x1 : IVec S256x32 32) : FVec F S16 .f32 :=
  multiReduction .add [0] S16 (multiReduction .add [0] S32x16 (mulf (broadcastTo S256x32x16 (shapeCast S256x32x1
    (sitofp .f32 (extui 32 (cmpi .eq x0 (broadcast S256x32 v)) natLt_1_32)) shapeCasts_S256x32_S256x32x1) broadcasts_S256x32x1_S256x32x16) (onehot x1))
    0x00000000#32 reduces_S256x32x16_S32x16 (.inl rfl) rfl) 0x00000000#32 reduces_S32x16_S16 (.inl rfl) rfl

/-- That row as a one-row table. -/
def line (v : BitVec 32) (x0 x1 : IVec S256x32 32) : FVec F S1x16 .f32 := shapeCast S1x16 (rowOf v x0 x1) shapeCasts_S16_S1x16

/-- The sixteen rows, one above the other. -/
def table (x0 x1 : IVec S256x32 32) : FVec F S16x16 .f32 :=
  concatenate S16x16 0 [⟨S1x16, line 0#32 x0 x1⟩, ⟨S1x16, line 1#32 x0 x1⟩, ⟨S1x16, line 2#32 x0 x1⟩, ⟨S1x16, line 3#32 x0 x1⟩,
    ⟨S1x16, line 4#32 x0 x1⟩, ⟨S1x16, line 5#32 x0 x1⟩, ⟨S1x16, line 6#32 x0 x1⟩, ⟨S1x16, line 7#32 x0 x1⟩,
    ⟨S1x16, line 8#32 x0 x1⟩, ⟨S1x16, line 9#32 x0 x1⟩, ⟨S1x16, line 10#32 x0 x1⟩, ⟨S1x16, line 11#32 x0 x1⟩,
    ⟨S1x16, line 12#32 x0 x1⟩, ⟨S1x16, line 13#32 x0 x1⟩, ⟨S1x16, line 14#32 x0 x1⟩, ⟨S1x16, line 15#32 x0 x1⟩]
    concatenates_S1x16_S1x16_S1x16_S1x16_S1x16_S1x16_S1x16_S1x16_S1x16_S1x16_S1x16_S1x16_S1x16_S1x16_S1x16_S1x16_S16x16_d0

/-- The whole block read at its own extent is itself. -/
theorem ld_whole (x : IVec S256x32 32) : View.ld (Val := Elt F) (e' := .i32) x r0_0 = x := by
  funext i
  refine congrArg x ?_
  funext a
  refine Fin.ext ?_
  match a with
  | ⟨0, _⟩ => show 0 + 1 * (i 0).val = (i 0).val; omega
  | ⟨1, _⟩ => show 0 + 1 * (i 1).val = (i 1).val; omega

/-- The block the kernel stores is the table of its operands. -/
theorem out_eq (x0 x1 : IVec S256x32 32) : out0_2 (F := F) x0 x1 = table x0 x1 := by
  have e : out0_2 (F := F) x0 x1 = table (View.ld (Val := Elt F) (e' := .i32) x0 r0_0) (View.ld (Val := Elt F) (e' := .i32) x1 r0_0) := by
    unfold out0_2
    refine (View.canon_unit_zero (by funext a; fin_cases a <;> rfl) _ _).trans ?_
    rfl
  rw [e, ld_whole, ld_whole]

/-- A row's entry is the sum over the positions of the product of the two indicators. -/
theorem row_at (v : Fin 16) (x0 x1 : IVec S256x32 32) (t : Fin 16) :
    rowOf (F := Ideal) (BitVec.ofNat 32 v.val) x0 x1 (ix1 t) = ∑ b : Fin 32, ∑ s : Fin 256,
      if x0 (ix2 s b) = BitVec.ofNat 32 v.val ∧ x1 (ix2 s b) = BitVec.ofNat 32 t.val then (1 : EReal) else 0 := by
  pointwise [rowOf, onehot]
  refine Finset.sum_congr rfl fun b _ => Finset.sum_congr rfl fun s _ => (congrArg₂ (· * ·) (Asg.bit_at _) (Asg.bit_at _)).trans ?_
  simp only [WordCmp.cmpi_eq_eq, WordCmp.ofBool_eq_one_iff, decide_eq_true_eq]
  by_cases h1 : x0 (ix2 s b) = BitVec.ofNat 32 v.val <;> by_cases h2 : x1 (ix2 s b) = BitVec.ofNat 32 t.val <;> simp [h1, h2]

/-- The rows in order. -/
def lines (x0 x1 : IVec S256x32 32) (p : Fin 16) : FVec Ideal S1x16 .f32 := line (BitVec.ofNat 32 p.val) x0 x1

/-- An entry of the table. -/
theorem table_at (x0 x1 : IVec S256x32 32) (p t : Fin 16) :
    table (F := Ideal) x0 x1 (ix2 p t) = ∑ b : Fin 32, ∑ s : Fin 256,
      if x0 (ix2 s b) = BitVec.ofNat 32 p.val ∧ x1 (ix2 s b) = BitVec.ofNat 32 t.val then (1 : EReal) else 0 := by
  have h : table (F := Ideal) x0 x1 (ix2 p t) = lines x0 x1 p (ix2 (0 : Fin 1) t) :=
    concatenate_ofFn_unit_apply (t := S16x16) (s₁ := S1x16) 0 (lines x0 x1) _ rfl rfl (ix2 (p : Fin 16) (t : Fin 16) : S16x16.Idx) p rfl
      (ix2 (0 : Fin 1) t : S1x16.Idx) fun b hb => by
        match b with
        | ⟨0, _⟩ => exact absurd rfl hb
        | ⟨1, _⟩ => rfl
  rw [h]
  refine Eq.trans ?_ (row_at p x0 x1 t)
  pointwise [lines, line]

end Cert.AriIdeal.Stage

end
-- ==== Proof.AriFinal.lean ====
/- The table kernel's result and the reference's table: the same counts, where every label names a class. -/
module

public import proofs.«01_k».proof.Proof.AriStages
public import proofs.«01_k».proof.Proof.Gen.AriIdeal.Run
public import proofs.«01_k».proof.Proof.Gen.AriReferenceIdeal
public import proofs.«01_k».proof.Proof.Gen.Pre_classes_in_range
public import proofs.«01_k».proof.Defs

@[expose] public section

set_option maxRecDepth 16384

noncomputable section

namespace Cert.AriReferenceIdeal.Stage

open Cert.AriReferenceIdeal Cert.AriReferenceIdeal.Gen Idealize.ShloMosaic Idealize.ShloMosaic.TcCoe Idealize.SL.Sem
open scoped Classical

/-- The first labels in row-major order. -/
def flatA (A : IVec S256x32 32) : IVec S8192 32 := shapeCast S8192 A shapeCasts_S256x32_S8192

/-- The second labels in row-major order. -/
def flatY (Y : IVec S32x256x1 32) : IVec S8192 32 := shapeCast S8192 Y shapeCasts_S32x256x1_S8192

/-- The words the histogram counts, none below zero. -/
def words (A : IVec S256x32 32) (Y : IVec S32x256x1 32) : IVec S8192 32 :=
  maxsi (broadcastInDim S8192 ![] bcast_S_S8192 (id (constantI S_ 32 0#32))) (addi (muli (flatA A) (broadcastInDim S8192 ![] bcast_S_S8192 (constantI S_ 32 16#32))) (flatY Y))

/-- The bins of the positions. -/
def bins (A : IVec S256x32 32) (Y : IVec S32x256x1 32) : IVec S8192 32 :=
  select (cmpi .slt (words A Y) (broadcastInDim S8192 ![] bcast_S_S8192 (constantI S_ 32 0#32)))
    (addi (words A Y) (broadcastInDim S8192 ![] bcast_S_S8192 (constantI S_ 32 256#32))) (words A Y)

/-- The histogram of the bins. -/
def hist (A : IVec S256x32 32) (Y : IVec S32x256x1 32) : IVec S256 32 :=
  Host.scatter scatter_S256_S8192x1_S8192_n_0_0_1 IntOp.addi (broadcastInDim S256 ![] bcast_S_S256 (constantI S_ 32 0#32))
    (broadcastInDim S8192x1 ![0] bcast_S8192_S8192x1_0 (bins A Y)) (broadcastInDim S8192 ![] bcast_S_S8192 (constantI S_ 32 1#32))

/-- The reference's table of counts. -/
def table (A : IVec S256x32 32) (Y : IVec S32x256x1 32) : FVec Ideal S16x16 .f32 := sitofp .f32 (shapeCast S16x16 (hist A Y) shapeCasts_S256_S16x16)

/-- How many positions carry a pair of labels. -/
def pairs (A : IVec S256x32 32) (Y : IVec S32x256x1 32) (p t : Fin 16) : ℕ :=
  Tab.tally fun n : Fin 8192 => flatA A (ix1 n) = BitVec.ofNat 32 p.val ∧ flatY Y (ix1 n) = BitVec.ofNat 32 t.val

/-- The bin of one position. -/
theorem bins_at (A : IVec S256x32 32) (Y : IVec S32x256x1 32) (n : Fin 8192) : bins A Y (ix1 n) = Tab.bin (flatA A (ix1 n)) (flatY Y (ix1 n)) := rfl

/-- The histogram at a pair's bin counts the pair. -/
theorem hist_at (A : IVec S256x32 32) (Y : IVec S32x256x1 32) (hA : ∀ i, Tab.Class (A i)) (hY : ∀ i, Tab.Class (Y i)) (p t : Fin 16) (x : Fin 256) (hx : x.val = 16 * p.val + t.val) :
    hist A Y (ix1 x) = BitVec.ofNat 32 (pairs A Y p t) := by
  refine (Tab.histogram (M := 8192) (N := 256) scatter_S256_S8192x1_S8192_n_0_0_1 rfl rfl rfl _ _ _ (fun _ => rfl) (fun _ => rfl) x).trans ?_
  refine congrArg (fun P : Fin 8192 → Prop => BitVec.ofNat 32 (Tab.tally P)) (funext fun n => propext ?_)
  have e : (broadcastInDim S8192x1 ![0] bcast_S8192_S8192x1_0 (bins A Y)) (ix2 n (0 : Fin 1)) = Tab.bin (flatA A (ix1 n)) (flatY Y (ix1 n)) := by
    rw [← bins_at]
    pointwise
  rw [e, hx]
  exact Tab.bin_iff _ _ (hA _) (hY _) p t

/-- An entry of the reference's table. -/
theorem table_at (A : IVec S256x32 32) (Y : IVec S32x256x1 32) (hA : ∀ i, Tab.Class (A i)) (hY : ∀ i, Tab.Class (Y i)) (p t : Fin 16) :
    table A Y (ix2 p t) = ((pairs A Y p t : ℕ) : EReal) := by
  have hp := p.isLt
  have ht := t.isLt
  have e : shapeCast S16x16 (hist A Y) shapeCasts_S256_S16x16 (ix2 p t) = hist A Y (ix1 ⟨p.val * 16 + t.val, by omega⟩) := by
    pointwise
  show FloatOps.sitofp .f32 (shapeCast S16x16 (hist A Y) shapeCasts_S256_S16x16 (ix2 p t)) = _
  rw [e, hist_at A Y hA hY p t _ (by show p.val * 16 + t.val = _; omega)]
  refine Asg.nat_at _ (Nat.lt_of_le_of_lt (Tab.tally_le _) (by norm_num))

end Cert.AriReferenceIdeal.Stage

namespace Cert.AriIdeal.Stage

open Cert.AriIdeal Cert.AriIdeal.Gen Idealize.ShloMosaic Idealize.ShloMosaic.TcCoe Idealize.SL.Sem Idealize.ShloMosaic.StableHlo
open scoped Classical

variable (m : (ℓ : Loc nD τ sig) → Buf (Elt Ideal) ℓ)

/-- The second labels as the kernel reads them. -/
def second (Y : IVec S32x256x1 32) : IVec S256x32 32 :=
  shapeCast S256x32 (shapeCast S8192 Y shapeCasts_S32x256x1_S8192) shapeCasts_S8192_S256x32

/-- The kernel's table of the two labellings. -/
theorem kernel_at (A : IVec S256x32 32) (Y : IVec S32x256x1 32) (p t : Fin 16) :
    table (F := Ideal) A (second Y) (ix2 p t) = ((Cert.AriReferenceIdeal.Stage.pairs A Y p t : ℕ) : EReal) := by
  rw [table_at, Finset.sum_comm]
  refine Eq.trans ?_ ((Tab.tally_cast _).trans (Fin.sum_univ_tiles 256 32 rfl _)).symm
  refine Finset.sum_congr rfl fun s _ => Finset.sum_congr rfl fun b _ => ?_
  have hs := s.isLt
  have hb := b.isLt
  obtain ⟨n, hn⟩ : ∃ n : Fin 8192, n = ⟨s.val * 32 + b.val, by omega⟩ := ⟨_, rfl⟩
  have hv : n.val = s.val * 32 + b.val := congrArg Fin.val hn
  have e0 : A (ix2 s b) = Cert.AriReferenceIdeal.Stage.flatA A (ix1 n) := by
    pointwise [Cert.AriReferenceIdeal.Stage.flatA]
    exact congrArg A (congrArg₂ ix2 (Fin.ext (by show s.val = n.val / 32; omega)) (Fin.ext (by show b.val = n.val % 32; omega)))
  have e1 : second Y (ix2 s b) = Cert.AriReferenceIdeal.Stage.flatY Y (ix1 n) := by
    pointwise [second, Cert.AriReferenceIdeal.Stage.flatY]
    exact congrArg Y (congrArg₂ (fun u v => ix3 u v (0 : Fin 1)) (Fin.ext (by show s.val / 8 = n.val / 256; omega))
      (Fin.ext (by show s.val % 8 * 32 + b.val = n.val % 256; omega)))
  have e : (A (ix2 s b) = BitVec.ofNat 32 p.val ∧ second Y (ix2 s b) = BitVec.ofNat 32 t.val)
      ↔ (Cert.AriReferenceIdeal.Stage.flatA A (ix1 n) = BitVec.ofNat 32 p.val ∧ Cert.AriReferenceIdeal.Stage.flatY Y (ix1 n) = BitVec.ofNat 32 t.val) := by
    rw [e0, e1]
  rw [hn] at e
  by_cases h : A (ix2 s b) = BitVec.ofNat 32 p.val ∧ second Y (ix2 s b) = BitVec.ofNat 32 t.val
  · exact (if_pos h).trans (if_pos (e.mp h)).symm
  · exact (if_neg h).trans (if_neg fun q => h (e.mpr q)).symm

/-- The block every window is on. -/
theorem idx : ∀ t : Fin cfg0.N, win0_0.index t = ![0, 0] ∧ win0_1.index t = ![0, 0] ∧ win0_2.index t = ![0, 0] :=
  (by decide +kernel : ∀ t : Fin grid0.N, _)

/-- The launch's second operand is the other argument, flat and then in rows. -/
theorem second_arg (c : Dev nD) : (show IVec S256x32 32 from V m c main_v1) = second (show IVec S32x256x1 32 from m ((c.tc : Thread nD τ).loc main_arg1)) := by
  show StableHlo.after (List.flatten [hostOps0]) (fun b => m (c, b)) (Proc.devRef .tc main_v1) = _
  simp only [hostOps0, List.flatten_cons, List.flatten_nil, List.append_nil, List.cons_append, List.nil_append]
  after_results <;> rfl

/-- The first operand's block is the first argument. -/
theorem block0 (c : Dev nD) (t : Fin cfg0.N) (A : IVec S256x32 32) (hA : m ((c.tc : Thread nD τ).loc main_arg0) = A) :
    (show IVec S256x32 32 from iblk m c 0 t) = A := by
  funext i
  have h : (show IVec S256x32 32 from iblk m c 0 t) i = (show IVec S256x32 32 from V m c main_arg0) i := by
    idx_vars i
    blk_point [iblk, idx t]
  exact h.trans (congrFun ((V_main_arg0 m c).trans hA) i)

/-- The second operand's block is the second argument, in rows. -/
theorem block1 (c : Dev nD) (t : Fin cfg0.N) (Y : IVec S32x256x1 32) (hY : m ((c.tc : Thread nD τ).loc main_arg1) = Y) :
    (show IVec S256x32 32 from iblk m c 1 t) = second Y := by
  funext i
  have h : (show IVec S256x32 32 from iblk m c 1 t) i = (show IVec S256x32 32 from V m c main_v1) i := by
    idx_vars i
    blk_point [iblk, idx t]
  exact h.trans (congrFun ((second_arg m c).trans (congrArg second hY)) i)

/-- The launch's array is the reference's table. -/
theorem final (c : Dev nD) (A : IVec S256x32 32) (hA : m ((c.tc : Thread nD τ).loc main_arg0) = A)
    (Y : IVec S32x256x1 32) (hY : m ((c.tc : Thread nD τ).loc main_arg1) = Y) (cA : ∀ i, Tab.Class (A i)) (cY : ∀ i, Tab.Class (Y i)) :
    (dats m 0 c).arrAt 2 cfg0.N = Cert.AriReferenceIdeal.Stage.table A Y := by
  refine (dats m 0 c).arrAt_eq_of_covers 2 _ (by decide +kernel) fun t _ y => ?_
  blk_simp
  rw [after0_2, out_eq]
  refine (congrArg₂ (fun a b => table (F := Ideal) a b y) (block0 m c t A hA) (block1 m c t Y hY)).trans ?_
  idx_vars y
  refine (kernel_at A Y y0 y1).trans ((Cert.AriReferenceIdeal.Stage.table_at A Y cA cY y0 y1).symm.trans ?_)
  refine congrArg (Cert.AriReferenceIdeal.Stage.table A Y) ?_
  blk_ext [idx t]

/-- Where the precondition holds, every label of both arguments names a class. -/
theorem pre_class (h : Cert.Pre_AriIdeal_classes_in_range m) (c : Dev nD) :
    (∀ i, Tab.Class ((show IVec S256x32 32 from m ((c.tc : Thread nD τ).loc main_arg0)) i))
      ∧ ∀ i, Tab.Class ((show IVec S32x256x1 32 from m ((c.tc : Thread nD τ).loc main_arg1)) i) := by
  obtain ⟨a0, a1⟩ := h c
  exact ⟨fun i => Tab.class_of _ (congrFun a0 i), fun i => Tab.class_of _ (congrFun a1 i)⟩

end Cert.AriIdeal.Stage

end
-- ==== Proof.AriRun.lean ====
/- The two programs of the table call run: both end with the score of their table. -/
module

public import proofs.«01_k».proof.Proof.AriFinal
public import proofs.«01_k».proof.Proof.Gen.AriReferenceIdeal.Run

@[expose] public section

set_option maxRecDepth 16384

noncomputable section

namespace Cert.AriReferenceIdeal.Stage

open Cert.AriReferenceIdeal Cert.AriReferenceIdeal.Gen Idealize.ShloMosaic Idealize.ShloMosaic.TcCoe Idealize.SL.Sem

/-- How many pairs each of sixteen counts makes. -/
def twos (v : FVec Ideal S16 .f32) : FVec Ideal S16 .f32 :=
  Host.divf (mulf v (subf v (broadcastInDim S16 ![] bcast_S_S16 (constant S_ .f32 0x3F800000#32)))) (broadcastInDim S16 ![] bcast_S_S16 (constant S_ .f32 0x40000000#32))

/-- Their sum. -/
def sumTwos (v : FVec Ideal S16 .f32) : FVec Ideal S_ .f32 := Host.reduceAdd (twos v) (constant S_ .f32 0x00000000#32) reducesTo_S16_S_d0 h_S_

/-- The pairs within the table's rows. -/
def rowTwos (T : FVec Ideal S16x16 .f32) : FVec Ideal S_ .f32 := sumTwos (Host.reduceAdd T (constant S_ .f32 0x00000000#32) reducesTo_S16x16_S16_d1 h_S_)

/-- The pairs within the table's columns. -/
def colTwos (T : FVec Ideal S16x16 .f32) : FVec Ideal S_ .f32 := sumTwos (Host.reduceAdd T (constant S_ .f32 0x00000000#32) reducesTo_S16x16_S16_d0 h_S_)

/-- The pairs within the table's entries. -/
def allTwos (T : FVec Ideal S16x16 .f32) : FVec Ideal S_ .f32 :=
  Host.reduceAdd (Host.divf (mulf T (subf T (broadcastInDim S16x16 ![] bcast_S_S16x16 (constant S_ .f32 0x3F800000#32)))) (broadcastInDim S16x16 ![] bcast_S_S16x16 (constant S_ .f32 0x40000000#32)))
    (constant S_ .f32 0x00000000#32) reducesTo_S16x16_S_d0_1 h_S_

/-- The pairs to expect by chance. -/
def chance (T : FVec Ideal S16x16 .f32) : FVec Ideal S_ .f32 :=
  Host.divf (mulf (rowTwos T) (colTwos T)) (Host.divf (mulf (constant S_ .f32 0x46000000#32) (subf (constant S_ .f32 0x46000000#32) (constant S_ .f32 0x3F800000#32))) (constant S_ .f32 0x40000000#32))

/-- The adjusted score of a table. -/
def score (T : FVec Ideal S16x16 .f32) : FVec Ideal S_ .f32 :=
  Host.divf (subf (allTwos T) (chance T))
    (addf (subf (Host.divf (addf (rowTwos T) (colTwos T)) (constant S_ .f32 0x40000000#32)) (chance T)) (constant S_ .f32 0x2B8CBCCC#32))

/-- The reference ends with the score of its table and leaves its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = score (table (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Cert.AriReferenceIdeal.Value.run m ρ) fun r h c => ⟨(h c).1.trans (by unfold Cert.AriReferenceIdeal.Value.res_main_v47; rfl), (h c).2⟩

end Cert.AriReferenceIdeal.Stage

namespace Cert.AriIdeal.Stage

open Cert.AriIdeal Cert.AriIdeal.Gen Idealize.ShloMosaic Idealize.ShloMosaic.TcCoe Idealize.SL.Sem

/-- Where every label names a class the kernel ends with the score of the reference's table and leaves its arguments as they were. -/
theorem run (m : (ℓ : Loc nD τ sig) → Buf (Elt Ideal) ℓ) (hpre : Cert.Pre_AriIdeal_classes_in_range m) (ρ : Dev nD → PrngReg) :
    θ_run defs (onTc (τ := τ) (main (F := Ideal))) ⟨m, fun _ => 0, ρ⟩ fun r => ∀ c : Dev nD,
      r.2.mem ((c.tc : Thread nD τ).loc main_v33)
        = Cert.AriReferenceIdeal.Stage.score (Cert.AriReferenceIdeal.Stage.table (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Cert.AriIdeal.Value.run m ρ) fun r h c => ⟨(h c).1.trans (by
    have e : Cert.AriIdeal.Value.reg_main_v2 m c
        = Cert.AriReferenceIdeal.Stage.table (m ((c.tc : Thread nD τ).loc main_arg0)) (m ((c.tc : Thread nD τ).loc main_arg1)) :=
      final m c _ rfl _ rfl (pre_class m hpre c).1 (pre_class m hpre c).2
    rw [← e]
    generalize Cert.AriIdeal.Value.reg_main_v2 m c = T
    rfl), (h c).2⟩

end Cert.AriIdeal.Stage

end
-- ==== Proof.lean ====
/- The proof of the certificate: the forward pass, the assignment step and the table of label pairs, five claims each. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Assign
public import proofs.«01_k».proof.Proof.Gen.Assign.Frame
public import proofs.«01_k».proof.Proof.Gen.AssignIdeal
public import proofs.«01_k».proof.Proof.Gen.AssignIdeal.Frame
public import proofs.«01_k».proof.Proof.Gen.AssignIdeal.Run
public import proofs.«01_k».proof.Proof.Gen.AssignReferenceIdeal
public import proofs.«01_k».proof.Proof.Gen.Ari
public import proofs.«01_k».proof.Proof.Gen.Ari.Frame
public import proofs.«01_k».proof.Proof.Gen.AriIdeal
public import proofs.«01_k».proof.Proof.Gen.AriIdeal.Frame
public import proofs.«01_k».proof.Proof.Gen.AriIdeal.Run
public import proofs.«01_k».proof.Proof.Gen.AriReferenceIdeal
public import proofs.«01_k».proof.Proof.Gen.AriReferenceIdeal.Run
public import proofs.«01_k».proof.Proof.Gen.Pre_classes_in_range
public import proofs.«01_k».proof.Proof.Final
public import proofs.«01_k».proof.Proof.Pre
public import proofs.«01_k».proof.Proof.AsgEnd
public import proofs.«01_k».proof.Proof.AriRun
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

set_option maxHeartbeats 3200000 in
/-- The forward pass: the kernel and the reference end with the same extended reals, for inputs the precondition allows. -/
theorem algebraic : Cert.algebraic_KernelIdeal_ReferenceIdeal_pre_scores_finite (hKernelIdeal := Cert.KernelIdeal.Gen.facts)
    (hReferenceIdeal := Cert.ReferenceIdeal.Gen.facts) (hPre_scores_finite := Cert.KernelIdeal.Stage.preFacts) := by
  pair_intro
  · exact Cert.KernelIdeal.Value.run_blocks m g
  · run_from Cert.ReferenceIdeal.Stage.run m' g'
    obtain ⟨h0, h1, h2, h3, h4, h5, h6, h17, h18⟩ := Cert.KernelIdeal.Stage.pre_real m hpre c
    exact (Cert.KernelIdeal.Stage.final m c _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl h0 h1 h2 h3 h4 h5 h6 h17 h18).symm

/-- The forward pass's reference runs from any memory, leaves its arguments as they were and every counter at zero. -/
theorem refFrame : Cert.quiescent_ReferenceIdeal (hReferenceIdeal := Cert.ReferenceIdeal.Gen.facts) := fun m g _ =>
  θ_run_mono (Cert.ReferenceIdeal.Stage.run m g) fun r h => And.intro (fun c => (h c).2) (sem_eq_zero_of_no_sems rfl r.2)

/-- The assignment step: the kernel and the reference end with the same total and the same labels. -/
theorem assignAlgebraic : Cert.algebraic_AssignIdeal_AssignReferenceIdeal (hAssignIdeal := Cert.AssignIdeal.Gen.facts)
    (hAssignReferenceIdeal := Cert.AssignReferenceIdeal.Gen.facts) := by
  intro m g m' g' _ harg
  exact ⟨fun c => Cert.AssignReferenceIdeal.Stage.outTotal (F := Ideal) (m (c.tc.loc Cert.AssignIdeal.main_arg0)),
    fun c => Cert.AssignReferenceIdeal.Stage.outLabels (F := Ideal) (m (c.tc.loc Cert.AssignIdeal.main_arg0)) (m (c.tc.loc Cert.AssignIdeal.main_arg1)),
    Cert.AssignIdeal.Stage.run m g,
    θ_run_mono (Cert.AssignReferenceIdeal.Stage.run m' g') fun r h c =>
      ⟨(h c).1.trans (congrArg (Cert.AssignReferenceIdeal.Stage.outTotal (F := Ideal)) (harg c).1),
        (h c).2.1.trans (congrArg₂ (Cert.AssignReferenceIdeal.Stage.outLabels (F := Ideal)) (harg c).1 (harg c).2), (h c).2.2⟩⟩

/-- The assignment step's reference runs from any memory, leaves its arguments as they were and every counter at zero. -/
theorem assignRefFrame : Cert.quiescent_AssignReferenceIdeal (hAssignReferenceIdeal := Cert.AssignReferenceIdeal.Gen.facts) := fun m g _ =>
  θ_run_mono (Cert.AssignReferenceIdeal.Stage.run m g) fun r h => And.intro (fun c => (h c).2.2) (sem_eq_zero_of_no_sems rfl r.2)

/-- The table call: for labels that name classes, the score of the kernel's table is the reference's. -/
theorem ariAlgebraic : Cert.algebraic_AriIdeal_AriReferenceIdeal_pre_classes_in_range (hAriIdeal := Cert.AriIdeal.Gen.facts)
    (hAriReferenceIdeal := Cert.AriReferenceIdeal.Gen.facts) (hPre_classes_in_range := Cert.Pre_classes_in_range.Gen.facts) := by
  intro m g m' g' hpre harg
  exact ⟨fun c => Cert.AriReferenceIdeal.Stage.score (Cert.AriReferenceIdeal.Stage.table (m (c.tc.loc Cert.AriIdeal.main_arg0)) (m (c.tc.loc Cert.AriIdeal.main_arg1))),
    Cert.AriIdeal.Stage.run m hpre g,
    θ_run_mono (Cert.AriReferenceIdeal.Stage.run m' g') fun r h c =>
      ⟨(h c).1.trans (congrArg₂ (fun A Y => Cert.AriReferenceIdeal.Stage.score (Cert.AriReferenceIdeal.Stage.table A Y)) (harg c).1 (harg c).2), (h c).2⟩⟩

/-- The table call's reference runs from any memory, leaves its arguments as they were and every counter at zero. -/
theorem ariRefFrame : Cert.quiescent_AriReferenceIdeal (hAriReferenceIdeal := Cert.AriReferenceIdeal.Gen.facts) := fun m g _ =>
  θ_run_mono (Cert.AriReferenceIdeal.Stage.run m g) fun r h => And.intro (fun c => (h c).2) (sem_eq_zero_of_no_sems rfl r.2)

/-- Everything the certificate claims. -/
theorem claim : Cert.Claim := ⟨Cert.Kernel.Gen.facts, Cert.KernelIdeal.Gen.facts, Cert.ReferenceIdeal.Gen.facts,
  Cert.Assign.Gen.facts, Cert.AssignIdeal.Gen.facts, Cert.AssignReferenceIdeal.Gen.facts,
  Cert.Ari.Gen.facts, Cert.AriIdeal.Gen.facts, Cert.AriReferenceIdeal.Gen.facts,
  Cert.KernelIdeal.Stage.preFacts, Cert.Pre_classes_in_range.Gen.facts,
  fun m ρ _ => Cert.Kernel.Gen.frame m ρ,
  fun m ρ _ => Cert.KernelIdeal.Gen.frame m ρ,
  fun m ρ _ => Cert.KernelIdeal.Gen.frame m ρ,
  refFrame,
  fun m g _ => refFrame m g trivial,
  fun m ρ _ => Cert.Assign.Gen.frame m ρ,
  fun m ρ _ => Cert.AssignIdeal.Gen.frame m ρ,
  assignRefFrame,
  fun m ρ _ => Cert.Ari.Gen.frame m ρ,
  fun m ρ _ => Cert.AriIdeal.Gen.frame m ρ,
  fun m ρ _ => Cert.AriIdeal.Gen.frame m ρ,
  ariRefFrame,
  fun m g _ => ariRefFrame m g trivial,
  trivial,
  algebraic,
  trivial,
  assignAlgebraic,
  trivial,
  ariAlgebraic⟩

end Cert.Proof

end
